-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v74) = v0 c
          ∧ r.2.mem ((c.tc : Thread Cert.Reference2Ideal.nD Cert.Reference2Ideal.τ).loc Cert.Reference2Ideal.main_v76) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v165) = v0 c
          ∧ r.2.mem ((c.tc : Thread Cert.Reference4Ideal.nD Cert.Reference4Ideal.τ).loc Cert.Reference4Ideal.main_v171) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v51) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
-- ==== Pre_finite.lean ====
abbrev S8x2048x3584 : Shape := ⟨3, ![8, 2048, 3584]⟩
abbrev S4x2048x256 : Shape := ⟨3, ![4, 2048, 256]⟩
abbrev S4x64 : Shape := ⟨2, ![4, 64]⟩
abbrev S_ : Shape := ⟨0, ![]⟩

class Facts : Prop where
  bitsLt_bf16_f32 : FTy.bits .bf16 < FTy.bits .f32
  bcast_S_S8x2048x3584 : S_.BroadcastsInDim S8x2048x3584 (![] : Fin 0 → Fin S8x2048x3584.rank)
  reducesTo_S8x2048x3584_S_d0_1_2 : S8x2048x3584.ReducesTo [0, 1, 2] S_
  h_S_ : 0 < S_.numel
  bcast_S_S4x2048x256 : S_.BroadcastsInDim S4x2048x256 (![] : Fin 0 → Fin S4x2048x256.rank)
  reducesTo_S4x2048x256_S_d0_1_2 : S4x2048x256.ReducesTo [0, 1, 2] S_
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S8x2048x3584 .bf16) (main_arg1 : FVec F S4x2048x256 .bf16) (main_arg2 : FVec F S4x2048x256 .bf16) (main_arg3 : FVec F S4x64 .f32) : IVec S_ 1 :=
  let main_v0 : FVec F S8x2048x3584 .f32 := (extf .f32 · bitsLt_bf16_f32) main_arg0
  let main_v1 : FVec F S8x2048x3584 .f32 := Host.absf main_v0
  let main_cst : FVec F S_ .f32 := constant S_ .f32 0x7F800000#32
  let main_v2 : FVec F S8x2048x3584 .f32 := broadcastInDim S8x2048x3584 ![] bcast_S_S8x2048x3584 main_cst
  let main_v3 : IVec S8x2048x3584 1 := cmpf .olt main_v1 main_v2
  let main_c : IVec S_ 1 := constantI S_ 1 1#1
  let main_v4 : IVec S_ 1 := (fun x v => Host.reduce IntOp.andi x v reducesTo_S8x2048x3584_S_d0_1_2 h_S_) main_v3 main_c
  let main_v5 : FVec F S4x2048x256 .f32 := (extf .f32 · bitsLt_bf16_f32) main_arg1
  let main_v6 : FVec F S4x2048x256 .f32 := Host.absf main_v5
  let main_cst_0 : FVec F S_ .f32 := constant S_ .f32 0x7F800000#32
  let main_v7 : FVec F S4x2048x256 .f32 := broadcastInDim S4x2048x256 ![] bcast_S_S4x2048x256 main_cst_0
  let main_v8 : IVec S4x2048x256 1 := cmpf .olt main_v6 main_v7
  let main_c_1 : IVec S_ 1 := constantI S_ 1 1#1
  let main_v9 : IVec S_ 1 := (fun x v => Host.reduce IntOp.andi x v reducesTo_S4x2048x256_S_d0_1_2 h_S_) main_v8 main_c_1
  let main_v10 : IVec S_ 1 := andi main_v4 main_v9
  let main_v11 : FVec F S4x64 .f32 := Host.absf main_arg3
  let main_cst_2 : FVec F S_ .f32 := constant S_ .f32 0x7F800000#32
  let main_v12 : FVec F S4x64 .f32 := broadcastInDim S4x64 ![] bcast_S_S4x64 main_cst_2
  let main_v13 : IVec S4x64 1 := cmpf .olt main_v11 main_v12
  let main_c_3 : IVec S_ 1 := constantI S_ 1 1#1
  let main_v14 : IVec S_ 1 := (fun x v => Host.reduce IntOp.andi x v reducesTo_S4x64_S_d0_1 h_S_) main_v13 main_c_3
  let main_v15 : IVec S_ 1 := andi main_v10 main_v14
  main_v15
-- ==== Kernel.lean ====
abbrev S8x2048x384 : Shape := ⟨3, ![8, 2048, 384]⟩
abbrev S8x2048x256 : Shape := ⟨3, ![8, 2048, 256]⟩
abbrev S8x2048x3584 : Shape := ⟨3, ![8, 2048, 3584]⟩
abbrev S4x1024x1024 : Shape := ⟨3, ![4, 1024, 1024]⟩
abbrev S8x2048x1024 : Shape := ⟨3, ![8, 2048, 1024]⟩
abbrev S16384x384 : Shape := ⟨2, ![16384, 384]⟩
abbrev S16384x256 : Shape := ⟨2, ![16384, 256]⟩
abbrev S16384x3584 : Shape := ⟨2, ![16384, 3584]⟩
abbrev S16384x1024 : Shape := ⟨2, ![16384, 1024]⟩
abbrev S2x1024x384 : Shape := ⟨3, ![2, 1024, 384]⟩
abbrev S2 : Shape := ⟨1, ![2]⟩
abbrev S2x1024x256 : Shape := ⟨3, ![2, 1024, 256]⟩
abbrev S2x1x1024x1024 : Shape := ⟨4, ![2, 1, 1024, 1024]⟩
abbrev S3x1024x1024 : Shape := ⟨3, ![3, 1024, 1024]⟩
abbrev S3 : Shape := ⟨1, ![3]⟩
abbrev S2x1024x1024 : Shape := ⟨3, ![2, 1024, 1024]⟩
abbrev S1 : Shape := ⟨1, ![1]⟩
abbrev S_ : Shape := ⟨0, ![]⟩
abbrev S1x1024x384 : Shape := ⟨3, ![1, 1024, 384]⟩
abbrev S1024x384 : Shape := ⟨2, ![1024, 384]⟩
abbrev S1x1024x256 : Shape := ⟨3, ![1, 1024, 256]⟩
abbrev S1024x256 : Shape := ⟨2, ![1024, 256]⟩
abbrev S1x1x1024x1024 : Shape := ⟨4, ![1, 1, 1024, 1024]⟩
abbrev S1x1024x1024 : Shape := ⟨3, ![1, 1024, 1024]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S8x2048x384, .bf16⟩
  | .hbm, ⟨1, _⟩ => ⟨S8x2048x384, .bf16⟩
  | .hbm, ⟨2, _⟩ => ⟨S8x2048x256, .bf16⟩
  | .hbm, ⟨3, _⟩ => ⟨S8x2048x3584, .bf16⟩
  | .hbm, ⟨4, _⟩ => ⟨S4x1024x1024, .f32⟩
  | .hbm, ⟨5, _⟩ => ⟨S8x2048x1024, .f32⟩
  | .hbm, ⟨6, _⟩ => ⟨S16384x384, .bf16⟩
  | .hbm, ⟨7, _⟩ => ⟨S16384x384, .bf16⟩
  | .hbm, ⟨8, _⟩ => ⟨S16384x256, .bf16⟩
  | .hbm, ⟨9, _⟩ => ⟨S16384x3584, .bf16⟩
  | .hbm, ⟨10, _⟩ => ⟨S16384x1024, .f32⟩
  | .hbm, ⟨11, _⟩ => ⟨S16384x1024, .f32⟩
  | .local _ .vmem, ⟨0, _⟩ => ⟨S2x1024x384, .bf16⟩
  | .local _ .vmem, ⟨1, _⟩ => ⟨S2x1024x384, .bf16⟩
  | .local _ .vmem, ⟨2, _⟩ => ⟨S2x1024x256, .bf16⟩
  | .local _ .vmem, ⟨3, _⟩ => ⟨S2x1024x384, .bf16⟩
  | .local _ .vmem, ⟨4, _⟩ => ⟨S2x1x1024x1024, .f32⟩
  | .local _ .vmem, ⟨5, _⟩ => ⟨S3x1024x1024, .f32⟩
  | .local _ .vmem, ⟨6, _⟩ => ⟨S2x1024x1024, .f32⟩
  | _, _ => ⟨S8x2048x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩
abbrev cc0_scoped6 : Ref sig .tc := ⟨.vmem, 3, rfl⟩
abbrev cc0_scoped8 : Ref sig .tc := ⟨.vmem, 4, rfl⟩
abbrev cc0_scoped10 : Ref sig .tc := ⟨.vmem, 5, rfl⟩
abbrev cc0_scoped12 : Ref sig .tc := ⟨.vmem, 6, rfl⟩

abbrev nD : Nat := 1
abbrev τ : Topo := Topo.v7x

variable {F : FTy → Type} [FloatOps F]

abbrev grid0 : Pipeline.Grid := .none

def k0_off1 : Fin 1 → Nat :=
  let c0_i32_22_r0 : BitVec 32 := 0#32
  let c2_i32_r0 : BitVec 32 := 2#32
  let v25_r0 : BitVec 32 := Scalar.remui c0_i32_22_r0 c2_i32_r0
  ![v25_r0.toNat]
def k0_off2 : Fin 3 → Nat :=
  let c0_i32_22_r0 : BitVec 32 := 0#32
  let c2_i32_r0 : BitVec 32 := 2#32
  let v25_r0 : BitVec 32 := Scalar.remui c0_i32_22_r0 c2_i32_r0
  let c0_i32_23_r0 : BitVec 32 := 0#32
  let c0_i32_24_r0 : BitVec 32 := 0#32
  ![v25_r0.toNat, 0, 0]
def k0_off3 : Fin 3 → Nat :=
  let c0_i32_37_r0 : BitVec 32 := 0#32
  let c2_i32_38_r0 : BitVec 32 := 2#32
  let v39_r0 : BitVec 32 := Scalar.remui c0_i32_37_r0 c2_i32_38_r0
  let c0_i32_39_r0 : BitVec 32 := 0#32
  let c0_i32_40_r0 : BitVec 32 := 0#32
  ![v39_r0.toNat, 0, 0]
def k0_mult1 : BitVec 32 :=
  let v_false_r0 : BitVec 1 := 0#1
  let c128_i32_r0 : BitVec 32 := 128#32
  let c384_i32_r0 : BitVec 32 := 384#32
  let v47_r0 : BitVec 32 := Scalar.select v_false_r0 c128_i32_r0 c384_i32_r0
  v47_r0
def k0_off4 : (Fin 3 → Nat) × (Fin 3 → Nat) :=
  let c0_i32_45_r0 : BitVec 32 := 0#32
  let c2_i32_46_r0 : BitVec 32 := 2#32
  let v46_r0 : BitVec 32 := Scalar.remui c0_i32_45_r0 c2_i32_46_r0
  let c0_i32_47_r0 : BitVec 32 := 0#32
  let c0_i32_48_r0 : BitVec 32 := 0#32
  let v_false_r0 : BitVec 1 := 0#1
  let c128_i32_r0 : BitVec 32 := 128#32
  let c384_i32_r0 : BitVec 32 := 384#32
  let v47_r0 : BitVec 32 := Scalar.select v_false_r0 c128_i32_r0 c384_i32_r0
  let v48_r0 : BitVec 32 := v47_r0
  ⟨![v46_r0.toNat, 0, 0], ![1, 1024, v48_r0.toNat]⟩
def k0_sz1 : Fin 2 → Nat :=
  let v_false_r0 : BitVec 1 := 0#1
  let c128_i32_r0 : BitVec 32 := 128#32
  let c384_i32_r0 : BitVec 32 := 384#32
  let v47_r0 : BitVec 32 := Scalar.select v_false_r0 c128_i32_r0 c384_i32_r0
  let v48_r0 : BitVec 32 := v47_r0
  ![1024, v48_r0.toNat]
def k0_off5 : (Fin 2 → Nat) × (Fin 2 → Nat) :=
  let c0_i32_49_r0 : BitVec 32 := 0#32
  let c1152_i32_r0 : BitVec 32 := 1152#32
  let v_false_r0 : BitVec 1 := 0#1
  let c128_i32_r0 : BitVec 32 := 128#32
  let c384_i32_r0 : BitVec 32 := 384#32
  let v47_r0 : BitVec 32 := Scalar.select v_false_r0 c128_i32_r0 c384_i32_r0
  let v48_r0 : BitVec 32 := v47_r0
  ⟨![0, 1152], ![1024, v48_r0.toNat]⟩
def k0_off6 : Fin 4 → Nat :=
  let c0_i32_52_r0 : BitVec 32 := 0#32
  let c2_i32_53_r0 : BitVec 32 := 2#32
  let v55_r0 : BitVec 32 := Scalar.remui c0_i32_52_r0 c2_i32_53_r0
  let c0_i32_54_r0 : BitVec 32 := 0#32
  let c0_i32_55_r0 : BitVec 32 := 0#32
  let c0_i32_56_r0 : BitVec 32 := 0#32
  ![v55_r0.toNat, 0, 0, 0]
def k0_off7 : Fin 1 → Nat :=
  let c0_i32_61_r0 : BitVec 32 := 0#32
  let c3_i32_62_r0 : BitVec 32 := 3#32
  let v62_r0 : BitVec 32 := Scalar.remui c0_i32_61_r0 c3_i32_62_r0
  ![v62_r0.toNat]
def k0_off8 : Fin 3 → Nat :=
  let c0_i32_61_r0 : BitVec 32 := 0#32
  let c3_i32_62_r0 : BitVec 32 := 3#32
  let v62_r0 : BitVec 32 := Scalar.remui c0_i32_61_r0 c3_i32_62_r0
  let c0_i32_63_r0 : BitVec 32 := 0#32
  let c0_i32_64_r0 : BitVec 32 := 0#32
  ![v62_r0.toNat, 0, 0]
def k0_cond1 : BitVec 1 :=
  let true_70_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c16_i32_r0 : BitVec 32 := 16#32
  let v12_r0 : BitVec 1 := Scalar.cmpi .eq v11_r0 c16_i32_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let c0_i32_69_r0 : BitVec 32 := 0#32
  let v69_r0 : BitVec 1 := Scalar.cmpi .ne v14_r0 c0_i32_69_r0
  let v70_r0 : BitVec 1 := Scalar.andi true_70_r0 v69_r0
  let true_71_r0 : BitVec 1 := 1#1
  let v71_r0 : BitVec 1 := Scalar.andi v70_r0 true_71_r0
  let v72_r0 : BitVec 32 := Scalar.extui v71_r0
  let c0_i32_72_r0 : BitVec 32 := 0#32
  let v73_r0 : BitVec 1 := Scalar.cmpi .ne v72_r0 c0_i32_72_r0
  v73_r0

def k0_off9 : Fin 1 → Nat :=
  let c0_i32_67_r0 : BitVec 32 := 0#32
  let c1_i32_68_r0 : BitVec 32 := 1#32
  let v68_r0 : BitVec 32 := Scalar.addi c0_i32_67_r0 c1_i32_68_r0
  let c3_i32_116_r0 : BitVec 32 := 3#32
  let v110_r0 : BitVec 32 := Scalar.remui v68_r0 c3_i32_116_r0
  ![v110_r0.toNat]
def k0_off10 : Fin 3 → Nat :=
  let c0_i32_67_r0 : BitVec 32 := 0#32
  let c1_i32_68_r0 : BitVec 32 := 1#32
  let v68_r0 : BitVec 32 := Scalar.addi c0_i32_67_r0 c1_i32_68_r0
  let c3_i32_116_r0 : BitVec 32 := 3#32
  let v110_r0 : BitVec 32 := Scalar.remui v68_r0 c3_i32_116_r0
  let c0_i32_118_r0 : BitVec 32 := 0#32
  let c0_i32_119_r0 : BitVec 32 := 0#32
  ![v110_r0.toNat, 0, 0]
def k0_off11 : Fin 2 → Nat :=
  let c1024_i32_117_r0 : BitVec 32 := 1024#32
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c16_i32_r0 : BitVec 32 := 16#32
  let v12_r0 : BitVec 1 := Scalar.cmpi .eq v11_r0 c16_i32_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let v111_r0 : BitVec 32 := Scalar.muli c1024_i32_117_r0 v14_r0
  let c0_i32_120_r0 : BitVec 32 := 0#32
  ![v111_r0.toNat, 0]
@[reducible] def k0_t1_loop : Scf.Loop 32 :=
  let c0_i32_83_r0 : BitVec 32 := 0#32
  let c16_i32_84_r0 : BitVec 32 := 16#32
  let v76_r0 : BitVec 32 := Scalar.addi c0_i32_83_r0 c16_i32_84_r0
  let c1_i32_85_r0 : BitVec 32 := 1#32
  ⟨c0_i32_83_r0, v76_r0, c1_i32_85_r0⟩
def k0_off12 (arg8_r0 : BitVec 32) : Fin 1 → Nat :=
  let c2_i32_268_r0 : BitVec 32 := 2#32
  let v387_r0 : BitVec 32 := Scalar.remui arg8_r0 c2_i32_268_r0
  ![v387_r0.toNat]
def k0_cond2 (k0_t1 : Fin k0_t1_loop.trips) (arg22_r0 : BitVec 32) : BitVec 1 :=
  let c0_i32_118_r0 : BitVec 32 := 0#32
  let v112_r0 : BitVec 32 := Scalar.addi arg22_r0 c0_i32_118_r0
  let true_125_r0 : BitVec 1 := 1#1
  let c1_i32_124_r0 : BitVec 32 := 1#32
  let v118_r0 : BitVec 32 := Scalar.addi arg22_r0 c1_i32_124_r0
  let v119_r0 : BitVec 32 := Scalar.select true_125_r0 v118_r0 arg22_r0
  let c16_i32_126_r0 : BitVec 32 := 16#32
  let v120_r0 : BitVec 1 := Scalar.cmpi .eq v119_r0 c16_i32_126_r0
  let c0_i32_127_r0 : BitVec 32 := 0#32
  let v121_r0 : BitVec 32 := Scalar.select v120_r0 c0_i32_127_r0 v119_r0
  let c0_i32_128_r0 : BitVec 32 := 0#32
  let v122_r0 : BitVec 32 := Scalar.addi v121_r0 c0_i32_128_r0
  let v133_r0 : BitVec 1 := Scalar.cmpi .ne v112_r0 v122_r0
  let c0_i32_83_r0 : BitVec 32 := 0#32
  let c1_i32_85_r0 : BitVec 32 := 1#32
  let arg7_r0 : BitVec 32 := Scf.iv c0_i32_83_r0 c1_i32_85_r0 k0_t1
  let c15_i32_139_r0 : BitVec 32 := 15#32
  let v134_r0 : BitVec 1 := Scalar.cmpi .sge arg7_r0 c15_i32_139_r0
  let true_140_r0 : BitVec 1 := 1#1
  let v135_r0 : BitVec 1 := Scalar.xori v134_r0 true_140_r0
  let v136_r0 : BitVec 1 := Scalar.andi v133_r0 v135_r0
  let true_141_r0 : BitVec 1 := 1#1
  let v137_r0 : BitVec 1 := Scalar.andi v136_r0 true_141_r0
  let v138_r0 : BitVec 32 := Scalar.extui v137_r0
  let c0_i32_142_r0 : BitVec 32 := 0#32
  let v139_r0 : BitVec 1 := Scalar.cmpi .ne v138_r0 c0_i32_142_r0
  v139_r0

def k0_off13 (arg8_r0 : BitVec 32) : Fin 3 → Nat :=
  let c2_i32_268_r0 : BitVec 32 := 2#32
  let v387_r0 : BitVec 32 := Scalar.remui arg8_r0 c2_i32_268_r0
  let c0_i32_270_r0 : BitVec 32 := 0#32
  let c0_i32_271_r0 : BitVec 32 := 0#32
  ![v387_r0.toNat, 0, 0]
def k0_off14 (arg22_r0 : BitVec 32) : Fin 2 → Nat :=
  let c1024_i32_269_r0 : BitVec 32 := 1024#32
  let true_125_r0 : BitVec 1 := 1#1
  let c1_i32_124_r0 : BitVec 32 := 1#32
  let v118_r0 : BitVec 32 := Scalar.addi arg22_r0 c1_i32_124_r0
  let v119_r0 : BitVec 32 := Scalar.select true_125_r0 v118_r0 arg22_r0
  let c16_i32_126_r0 : BitVec 32 := 16#32
  let v120_r0 : BitVec 1 := Scalar.cmpi .eq v119_r0 c16_i32_126_r0
  let c0_i32_127_r0 : BitVec 32 := 0#32
  let v121_r0 : BitVec 32 := Scalar.select v120_r0 c0_i32_127_r0 v119_r0
  let c0_i32_128_r0 : BitVec 32 := 0#32
  let v122_r0 : BitVec 32 := Scalar.addi v121_r0 c0_i32_128_r0
  let v388_r0 : BitVec 32 := Scalar.muli c1024_i32_269_r0 v122_r0
  let c0_i32_272_r0 : BitVec 32 := 0#32
  ![v388_r0.toNat, 0]
def k0_off15 (arg10_r0 : BitVec 32) : Fin 1 → Nat :=
  let c2_i32_268_r0 : BitVec 32 := 2#32
  let v387_r0 : BitVec 32 := Scalar.remui arg10_r0 c2_i32_268_r0
  ![v387_r0.toNat]
def k0_cond3 (k0_t1 : Fin k0_t1_loop.trips) (arg22_r0 : BitVec 32) : BitVec 1 :=
  let c0_i32_118_r0 : BitVec 32 := 0#32
  let v112_r0 : BitVec 32 := Scalar.addi arg22_r0 c0_i32_118_r0
  let true_125_r0 : BitVec 1 := 1#1
  let c1_i32_124_r0 : BitVec 32 := 1#32
  let v118_r0 : BitVec 32 := Scalar.addi arg22_r0 c1_i32_124_r0
  let v119_r0 : BitVec 32 := Scalar.select true_125_r0 v118_r0 arg22_r0
  let c16_i32_126_r0 : BitVec 32 := 16#32
  let v120_r0 : BitVec 1 := Scalar.cmpi .eq v119_r0 c16_i32_126_r0
  let c0_i32_127_r0 : BitVec 32 := 0#32
  let v121_r0 : BitVec 32 := Scalar.select v120_r0 c0_i32_127_r0 v119_r0
  let c0_i32_128_r0 : BitVec 32 := 0#32
  let v122_r0 : BitVec 32 := Scalar.addi v121_r0 c0_i32_128_r0
  let v143_r0 : BitVec 1 := Scalar.cmpi .ne v112_r0 v122_r0
  let c0_i32_83_r0 : BitVec 32 := 0#32
  let c1_i32_85_r0 : BitVec 32 := 1#32
  let arg7_r0 : BitVec 32 := Scf.iv c0_i32_83_r0 c1_i32_85_r0 k0_t1
  let c15_i32_145_r0 : BitVec 32 := 15#32
  let v144_r0 : BitVec 1 := Scalar.cmpi .sge arg7_r0 c15_i32_145_r0
  let true_146_r0 : BitVec 1 := 1#1
  let v145_r0 : BitVec 1 := Scalar.xori v144_r0 true_146_r0
  let v146_r0 : BitVec 1 := Scalar.andi v143_r0 v145_r0
  let true_147_r0 : BitVec 1 := 1#1
  let v147_r0 : BitVec 1 := Scalar.andi v146_r0 true_147_r0
  let v148_r0 : BitVec 32 := Scalar.extui v147_r0
  let c0_i32_148_r0 : BitVec 32 := 0#32
  let v149_r0 : BitVec 1 := Scalar.cmpi .ne v148_r0 c0_i32_148_r0
  v149_r0

def k0_off16 (arg10_r0 : BitVec 32) : Fin 3 → Nat :=
  let c2_i32_268_r0 : BitVec 32 := 2#32
  let v387_r0 : BitVec 32 := Scalar.remui arg10_r0 c2_i32_268_r0
  let c0_i32_270_r0 : BitVec 32 := 0#32
  let c0_i32_271_r0 : BitVec 32 := 0#32
  ![v387_r0.toNat, 0, 0]
def k0_off17 (arg22_r0 : BitVec 32) : Fin 2 → Nat :=
  let c1024_i32_269_r0 : BitVec 32 := 1024#32
  let true_125_r0 : BitVec 1 := 1#1
  let c1_i32_124_r0 : BitVec 32 := 1#32
  let v118_r0 : BitVec 32 := Scalar.addi arg22_r0 c1_i32_124_r0
  let v119_r0 : BitVec 32 := Scalar.select true_125_r0 v118_r0 arg22_r0
  let c16_i32_126_r0 : BitVec 32 := 16#32
  let v120_r0 : BitVec 1 := Scalar.cmpi .eq v119_r0 c16_i32_126_r0
  let c0_i32_127_r0 : BitVec 32 := 0#32
  let v121_r0 : BitVec 32 := Scalar.select v120_r0 c0_i32_127_r0 v119_r0
  let c0_i32_128_r0 : BitVec 32 := 0#32
  let v122_r0 : BitVec 32 := Scalar.addi v121_r0 c0_i32_128_r0
  let v388_r0 : BitVec 32 := Scalar.muli c1024_i32_269_r0 v122_r0
  let c0_i32_272_r0 : BitVec 32 := 0#32
  ![v388_r0.toNat, 0]
def k0_off18 (arg12_r0 : BitVec 32) : Fin 1 → Nat :=
  let c2_i32_268_r0 : BitVec 32 := 2#32
  let v387_r0 : BitVec 32 := Scalar.remui arg12_r0 c2_i32_268_r0
  ![v387_r0.toNat]
def k0_cond4 (k0_t1 : Fin k0_t1_loop.trips) (arg22_r0 : BitVec 32) : BitVec 1 :=
  let c0_i32_118_r0 : BitVec 32 := 0#32
  let v112_r0 : BitVec 32 := Scalar.addi arg22_r0 c0_i32_118_r0
  let true_125_r0 : BitVec 1 := 1#1
  let c1_i32_124_r0 : BitVec 32 := 1#32
  let v118_r0 : BitVec 32 := Scalar.addi arg22_r0 c1_i32_124_r0
  let v119_r0 : BitVec 32 := Scalar.select true_125_r0 v118_r0 arg22_r0
  let c16_i32_126_r0 : BitVec 32 := 16#32
  let v120_r0 : BitVec 1 := Scalar.cmpi .eq v119_r0 c16_i32_126_r0
  let c0_i32_127_r0 : BitVec 32 := 0#32
  let v121_r0 : BitVec 32 := Scalar.select v120_r0 c0_i32_127_r0 v119_r0
  let c0_i32_128_r0 : BitVec 32 := 0#32
  let v122_r0 : BitVec 32 := Scalar.addi v121_r0 c0_i32_128_r0
  let v153_r0 : BitVec 1 := Scalar.cmpi .ne v112_r0 v122_r0
  let c0_i32_83_r0 : BitVec 32 := 0#32
  let c1_i32_85_r0 : BitVec 32 := 1#32
  let arg7_r0 : BitVec 32 := Scf.iv c0_i32_83_r0 c1_i32_85_r0 k0_t1
  let c15_i32_151_r0 : BitVec 32 := 15#32
  let v154_r0 : BitVec 1 := Scalar.cmpi .sge arg7_r0 c15_i32_151_r0
  let true_152_r0 : BitVec 1 := 1#1
  let v155_r0 : BitVec 1 := Scalar.xori v154_r0 true_152_r0
  let v156_r0 : BitVec 1 := Scalar.andi v153_r0 v155_r0
  let true_153_r0 : BitVec 1 := 1#1
  let v157_r0 : BitVec 1 := Scalar.andi v156_r0 true_153_r0
  let v158_r0 : BitVec 32 := Scalar.extui v157_r0
  let c0_i32_154_r0 : BitVec 32 := 0#32
  let v159_r0 : BitVec 1 := Scalar.cmpi .ne v158_r0 c0_i32_154_r0
  v159_r0

def k0_off19 (arg12_r0 : BitVec 32) : Fin 3 → Nat :=
  let c2_i32_268_r0 : BitVec 32 := 2#32
  let v387_r0 : BitVec 32 := Scalar.remui arg12_r0 c2_i32_268_r0
  let c0_i32_270_r0 : BitVec 32 := 0#32
  let c0_i32_271_r0 : BitVec 32 := 0#32
  ![v387_r0.toNat, 0, 0]
def k0_off20 (arg22_r0 : BitVec 32) : Fin 2 → Nat :=
  let c1024_i32_269_r0 : BitVec 32 := 1024#32
  let true_125_r0 : BitVec 1 := 1#1
  let c1_i32_124_r0 : BitVec 32 := 1#32
  let v118_r0 : BitVec 32 := Scalar.addi arg22_r0 c1_i32_124_r0
  let v119_r0 : BitVec 32 := Scalar.select true_125_r0 v118_r0 arg22_r0
  let c16_i32_126_r0 : BitVec 32 := 16#32
  let v120_r0 : BitVec 1 := Scalar.cmpi .eq v119_r0 c16_i32_126_r0
  let c0_i32_127_r0 : BitVec 32 := 0#32
  let v121_r0 : BitVec 32 := Scalar.select v120_r0 c0_i32_127_r0 v119_r0
  let c0_i32_128_r0 : BitVec 32 := 0#32
  let v122_r0 : BitVec 32 := Scalar.addi v121_r0 c0_i32_128_r0
  let v388_r0 : BitVec 32 := Scalar.muli c1024_i32_269_r0 v122_r0
  let c0_i32_272_r0 : BitVec 32 := 0#32
  ![v388_r0.toNat, 0]
def k0_mult2 : BitVec 32 :=
  let false_270_r0 : BitVec 1 := 0#1
  let c128_i32_271_r0 : BitVec 32 := 128#32
  let c384_i32_272_r0 : BitVec 32 := 384#32
  let v389_r0 : BitVec 32 := Scalar.select false_270_r0 c128_i32_271_r0 c384_i32_272_r0
  v389_r0
def k0_off21 (arg14_r0 : BitVec 32) : Fin 1 → Nat :=
  let c2_i32_268_r0 : BitVec 32 := 2#32
  let v387_r0 : BitVec 32 := Scalar.remui arg14_r0 c2_i32_268_r0
  ![v387_r0.toNat]
def k0_cond5 (k0_t1 : Fin k0_t1_loop.trips) (arg22_r0 : BitVec 32) : BitVec 1 :=
  let c0_i32_118_r0 : BitVec 32 := 0#32
  let v112_r0 : BitVec 32 := Scalar.addi arg22_r0 c0_i32_118_r0
  let true_125_r0 : BitVec 1 := 1#1
  let c1_i32_124_r0 : BitVec 32 := 1#32
  let v118_r0 : BitVec 32 := Scalar.addi arg22_r0 c1_i32_124_r0
  let v119_r0 : BitVec 32 := Scalar.select true_125_r0 v118_r0 arg22_r0
  let c16_i32_126_r0 : BitVec 32 := 16#32
  let v120_r0 : BitVec 1 := Scalar.cmpi .eq v119_r0 c16_i32_126_r0
  let c0_i32_127_r0 : BitVec 32 := 0#32
  let v121_r0 : BitVec 32 := Scalar.select v120_r0 c0_i32_127_r0 v119_r0
  let c0_i32_128_r0 : BitVec 32 := 0#32
  let v122_r0 : BitVec 32 := Scalar.addi v121_r0 c0_i32_128_r0
  let v163_r0 : BitVec 1 := Scalar.cmpi .ne v112_r0 v122_r0
  let c0_i32_83_r0 : BitVec 32 := 0#32
  let c1_i32_85_r0 : BitVec 32 := 1#32
  let arg7_r0 : BitVec 32 := Scf.iv c0_i32_83_r0 c1_i32_85_r0 k0_t1
  let c15_i32_157_r0 : BitVec 32 := 15#32
  let v164_r0 : BitVec 1 := Scalar.cmpi .sge arg7_r0 c15_i32_157_r0
  let true_158_r0 : BitVec 1 := 1#1
  let v165_r0 : BitVec 1 := Scalar.xori v164_r0 true_158_r0
  let v166_r0 : BitVec 1 := Scalar.andi v163_r0 v165_r0
  let true_159_r0 : BitVec 1 := 1#1
  let v167_r0 : BitVec 1 := Scalar.andi v166_r0 true_159_r0
  let v168_r0 : BitVec 32 := Scalar.extui v167_r0
  let c0_i32_160_r0 : BitVec 32 := 0#32
  let v169_r0 : BitVec 1 := Scalar.cmpi .ne v168_r0 c0_i32_160_r0
  v169_r0

def k0_off22 (arg14_r0 : BitVec 32) : (Fin 3 → Nat) × (Fin 3 → Nat) :=
  let c2_i32_268_r0 : BitVec 32 := 2#32
  let v387_r0 : BitVec 32 := Scalar.remui arg14_r0 c2_i32_268_r0
  let c0_i32_273_r0 : BitVec 32 := 0#32
  let c0_i32_274_r0 : BitVec 32 := 0#32
  let false_270_r0 : BitVec 1 := 0#1
  let c128_i32_271_r0 : BitVec 32 := 128#32
  let c384_i32_272_r0 : BitVec 32 := 384#32
  let v389_r0 : BitVec 32 := Scalar.select false_270_r0 c128_i32_271_r0 c384_i32_272_r0
  let v390_r0 : BitVec 32 := v389_r0
  ⟨![v387_r0.toNat, 0, 0], ![1, 1024, v390_r0.toNat]⟩
def k0_sz2 : Fin 2 → Nat :=
  let false_270_r0 : BitVec 1 := 0#1
  let c128_i32_271_r0 : BitVec 32 := 128#32
  let c384_i32_272_r0 : BitVec 32 := 384#32
  let v389_r0 : BitVec 32 := Scalar.select false_270_r0 c128_i32_271_r0 c384_i32_272_r0
  let v390_r0 : BitVec 32 := v389_r0
  ![1024, v390_r0.toNat]
def k0_off23 (arg22_r0 : BitVec 32) : (Fin 2 → Nat) × (Fin 2 → Nat) :=
  let c1024_i32_269_r0 : BitVec 32 := 1024#32
  let true_125_r0 : BitVec 1 := 1#1
  let c1_i32_124_r0 : BitVec 32 := 1#32
  let v118_r0 : BitVec 32 := Scalar.addi arg22_r0 c1_i32_124_r0
  let v119_r0 : BitVec 32 := Scalar.select true_125_r0 v118_r0 arg22_r0
  let c16_i32_126_r0 : BitVec 32 := 16#32
  let v120_r0 : BitVec 1 := Scalar.cmpi .eq v119_r0 c16_i32_126_r0
  let c0_i32_127_r0 : BitVec 32 := 0#32
  let v121_r0 : BitVec 32 := Scalar.select v120_r0 c0_i32_127_r0 v119_r0
  let c0_i32_128_r0 : BitVec 32 := 0#32
  let v122_r0 : BitVec 32 := Scalar.addi v121_r0 c0_i32_128_r0
  let v388_r0 : BitVec 32 := Scalar.muli c1024_i32_269_r0 v122_r0
  let c1152_i32_275_r0 : BitVec 32 := 1152#32
  let false_270_r0 : BitVec 1 := 0#1
  let c128_i32_271_r0 : BitVec 32 := 128#32
  let c384_i32_272_r0 : BitVec 32 := 384#32
  let v389_r0 : BitVec 32 := Scalar.select false_270_r0 c128_i32_271_r0 c384_i32_272_r0
  let v390_r0 : BitVec 32 := v389_r0
  ⟨![v388_r0.toNat, 1152], ![1024, v390_r0.toNat]⟩
def k0_cond6 (k0_t1 : Fin k0_t1_loop.trips) : BitVec 1 :=
  let false_165_r0 : BitVec 1 := 0#1
  let c0_i32_83_r0 : BitVec 32 := 0#32
  let c1_i32_85_r0 : BitVec 32 := 1#32
  let arg7_r0 : BitVec 32 := Scf.iv c0_i32_83_r0 c1_i32_85_r0 k0_t1
  let c15_i32_163_r0 : BitVec 32 := 15#32
  let v173_r0 : BitVec 1 := Scalar.cmpi .sge arg7_r0 c15_i32_163_r0
  let true_164_r0 : BitVec 1 := 1#1
  let v174_r0 : BitVec 1 := Scalar.xori v173_r0 true_164_r0
  let v175_r0 : BitVec 1 := Scalar.andi false_165_r0 v174_r0
  let true_166_r0 : BitVec 1 := 1#1
  let v176_r0 : BitVec 1 := Scalar.andi v175_r0 true_166_r0
  let v177_r0 : BitVec 32 := Scalar.extui v176_r0
  let c0_i32_167_r0 : BitVec 32 := 0#32
  let v178_r0 : BitVec 1 := Scalar.cmpi .ne v177_r0 c0_i32_167_r0
  v178_r0

def k0_off24 (arg16_r0 : BitVec 32) : Fin 1 → Nat :=
  let c2_i32_268_r0 : BitVec 32 := 2#32
  let v387_r0 : BitVec 32 := Scalar.remui arg16_r0 c2_i32_268_r0
  ![v387_r0.toNat]

def k0_off25 (arg16_r0 : BitVec 32) : Fin 4 → Nat :=
  let c2_i32_268_r0 : BitVec 32 := 2#32
  let v387_r0 : BitVec 32 := Scalar.remui arg16_r0 c2_i32_268_r0
  let c0_i32_269_r0 : BitVec 32 := 0#32
  let c0_i32_270_r0 : BitVec 32 := 0#32
  let c0_i32_271_r0 : BitVec 32 := 0#32
  ![v387_r0.toNat, 0, 0, 0]

def k0_chk2 (k0_t1 : Fin k0_t1_loop.trips) (arg16_r0 : BitVec 32) : Prop :=
  (∀ (k0_h6 : k0_cond6 k0_t1 = 1#1), ∀ a, (k0_off24 arg16_r0) a + S1.size a ≤ S2.size a) ∧
  (∀ (k0_h6 : k0_cond6 k0_t1 = 1#1), ∀ a, (k0_off25 arg16_r0) a + S1x1x1024x1024.size a ≤ S2x1x1024x1024.size a)
theorem k0_off24_inb : ∀ (k0_t1 : Fin k0_t1_loop.trips) (arg16_r0 : BitVec 32) (k0_hw2 : k0_chk2 k0_t1 arg16_r0), ∀ (k0_h6 : k0_cond6 k0_t1 = 1#1), ∀ a, (k0_off24 arg16_r0) a + S1.size a ≤ S2.size a := fun k0_t1 arg16_r0 k0_hw2 k0_h6 => k0_hw2.1 k0_h6
theorem k0_off25_inb : ∀ (k0_t1 : Fin k0_t1_loop.trips) (arg16_r0 : BitVec 32) (k0_hw2 : k0_chk2 k0_t1 arg16_r0), ∀ (k0_h6 : k0_cond6 k0_t1 = 1#1), ∀ a, (k0_off25 arg16_r0) a + S1x1x1024x1024.size a ≤ S2x1x1024x1024.size a := fun k0_t1 arg16_r0 k0_hw2 k0_h6 => k0_hw2.2 k0_h6

def k0_off26 (arg18_r0 : BitVec 32) : Fin 1 → Nat :=
  let c3_i32_268_r0 : BitVec 32 := 3#32
  let v387_r0 : BitVec 32 := Scalar.remui arg18_r0 c3_i32_268_r0
  ![v387_r0.toNat]
def k0_cond7 (k0_t1 : Fin k0_t1_loop.trips) (arg22_r0 : BitVec 32) : BitVec 1 :=
  let true_125_r0 : BitVec 1 := 1#1
  let c1_i32_124_r0 : BitVec 32 := 1#32
  let v118_r0 : BitVec 32 := Scalar.addi arg22_r0 c1_i32_124_r0
  let v119_r0 : BitVec 32 := Scalar.select true_125_r0 v118_r0 arg22_r0
  let c16_i32_126_r0 : BitVec 32 := 16#32
  let v120_r0 : BitVec 1 := Scalar.cmpi .eq v119_r0 c16_i32_126_r0
  let c0_i32_127_r0 : BitVec 32 := 0#32
  let v121_r0 : BitVec 32 := Scalar.select v120_r0 c0_i32_127_r0 v119_r0
  let c0_i32_128_r0 : BitVec 32 := 0#32
  let v122_r0 : BitVec 32 := Scalar.addi v121_r0 c0_i32_128_r0
  let true_130_r0 : BitVec 1 := 1#1
  let c1_i32_129_r0 : BitVec 32 := 1#32
  let v123_r0 : BitVec 32 := Scalar.addi v121_r0 c1_i32_129_r0
  let v124_r0 : BitVec 32 := Scalar.select true_130_r0 v123_r0 v121_r0
  let c16_i32_131_r0 : BitVec 32 := 16#32
  let v125_r0 : BitVec 1 := Scalar.cmpi .eq v124_r0 c16_i32_131_r0
  let c0_i32_132_r0 : BitVec 32 := 0#32
  let v126_r0 : BitVec 32 := Scalar.select v125_r0 c0_i32_132_r0 v124_r0
  let c0_i32_133_r0 : BitVec 32 := 0#32
  let v127_r0 : BitVec 32 := Scalar.addi v126_r0 c0_i32_133_r0
  let v182_r0 : BitVec 1 := Scalar.cmpi .ne v122_r0 v127_r0
  let c0_i32_83_r0 : BitVec 32 := 0#32
  let c1_i32_85_r0 : BitVec 32 := 1#32
  let arg7_r0 : BitVec 32 := Scf.iv c0_i32_83_r0 c1_i32_85_r0 k0_t1
  let c14_i32_r0 : BitVec 32 := 14#32
  let v183_r0 : BitVec 1 := Scalar.cmpi .sge arg7_r0 c14_i32_r0
  let true_170_r0 : BitVec 1 := 1#1
  let v184_r0 : BitVec 1 := Scalar.xori v183_r0 true_170_r0
  let v185_r0 : BitVec 1 := Scalar.andi v182_r0 v184_r0
  let true_171_r0 : BitVec 1 := 1#1
  let v186_r0 : BitVec 1 := Scalar.andi v185_r0 true_171_r0
  let v187_r0 : BitVec 32 := Scalar.extui v186_r0
  let c0_i32_172_r0 : BitVec 32 := 0#32
  let v188_r0 : BitVec 1 := Scalar.cmpi .ne v187_r0 c0_i32_172_r0
  v188_r0

def k0_off27 (arg18_r0 : BitVec 32) : Fin 3 → Nat :=
  let c3_i32_268_r0 : BitVec 32 := 3#32
  let v387_r0 : BitVec 32 := Scalar.remui arg18_r0 c3_i32_268_r0
  let c0_i32_270_r0 : BitVec 32 := 0#32
  let c0_i32_271_r0 : BitVec 32 := 0#32
  ![v387_r0.toNat, 0, 0]
def k0_off28 (arg22_r0 : BitVec 32) : Fin 2 → Nat :=
  let c1024_i32_269_r0 : BitVec 32 := 1024#32
  let true_130_r0 : BitVec 1 := 1#1
  let true_125_r0 : BitVec 1 := 1#1
  let c1_i32_124_r0 : BitVec 32 := 1#32
  let v118_r0 : BitVec 32 := Scalar.addi arg22_r0 c1_i32_124_r0
  let v119_r0 : BitVec 32 := Scalar.select true_125_r0 v118_r0 arg22_r0
  let c16_i32_126_r0 : BitVec 32 := 16#32
  let v120_r0 : BitVec 1 := Scalar.cmpi .eq v119_r0 c16_i32_126_r0
  let c0_i32_127_r0 : BitVec 32 := 0#32
  let v121_r0 : BitVec 32 := Scalar.select v120_r0 c0_i32_127_r0 v119_r0
  let c1_i32_129_r0 : BitVec 32 := 1#32
  let v123_r0 : BitVec 32 := Scalar.addi v121_r0 c1_i32_129_r0
  let v124_r0 : BitVec 32 := Scalar.select true_130_r0 v123_r0 v121_r0
  let c16_i32_131_r0 : BitVec 32 := 16#32
  let v125_r0 : BitVec 1 := Scalar.cmpi .eq v124_r0 c16_i32_131_r0
  let c0_i32_132_r0 : BitVec 32 := 0#32
  let v126_r0 : BitVec 32 := Scalar.select v125_r0 c0_i32_132_r0 v124_r0
  let c0_i32_133_r0 : BitVec 32 := 0#32
  let v127_r0 : BitVec 32 := Scalar.addi v126_r0 c0_i32_133_r0
  let v388_r0 : BitVec 32 := Scalar.muli c1024_i32_269_r0 v127_r0
  let c0_i32_272_r0 : BitVec 32 := 0#32
  ![v388_r0.toNat, 0]
def k0_off29 (arg9_r0 : BitVec 32) : Fin 1 → Nat :=
  let c2_i32_269_r0 : BitVec 32 := 2#32
  let v388_r0 : BitVec 32 := Scalar.remui arg9_r0 c2_i32_269_r0
  ![v388_r0.toNat]
def k0_cond8 (k0_t1 : Fin k0_t1_loop.trips) (arg22_r0 : BitVec 32) : BitVec 1 :=
  let c0_i32_118_r0 : BitVec 32 := 0#32
  let v112_r0 : BitVec 32 := Scalar.addi arg22_r0 c0_i32_118_r0
  let true_120_r0 : BitVec 1 := 1#1
  let c1_i32_119_r0 : BitVec 32 := 1#32
  let v113_r0 : BitVec 32 := Scalar.subi arg22_r0 c1_i32_119_r0
  let v114_r0 : BitVec 32 := Scalar.select true_120_r0 v113_r0 arg22_r0
  let c_m1_i32_121_r0 : BitVec 32 := 4294967295#32
  let v115_r0 : BitVec 1 := Scalar.cmpi .eq v114_r0 c_m1_i32_121_r0
  let c15_i32_122_r0 : BitVec 32 := 15#32
  let v116_r0 : BitVec 32 := Scalar.select v115_r0 c15_i32_122_r0 v114_r0
  let c0_i32_123_r0 : BitVec 32 := 0#32
  let v117_r0 : BitVec 32 := Scalar.addi v116_r0 c0_i32_123_r0
  let v196_r0 : BitVec 1 := Scalar.cmpi .ne v112_r0 v117_r0
  let c0_i32_83_r0 : BitVec 32 := 0#32
  let c1_i32_85_r0 : BitVec 32 := 1#32
  let arg7_r0 : BitVec 32 := Scf.iv c0_i32_83_r0 c1_i32_85_r0 k0_t1
  let c0_i32_116_r0 : BitVec 32 := 0#32
  let v110_r0 : BitVec 1 := Scalar.cmpi .eq arg7_r0 c0_i32_116_r0
  let v197_r0 : BitVec 1 := Scalar.ori v196_r0 v110_r0
  let c0_i32_177_r0 : BitVec 32 := 0#32
  let v198_r0 : BitVec 1 := Scalar.cmpi .sge arg7_r0 c0_i32_177_r0
  let v199_r0 : BitVec 1 := Scalar.andi v197_r0 v198_r0
  let v200_r0 : BitVec 32 := Scalar.extui v199_r0
  let c0_i32_178_r0 : BitVec 32 := 0#32
  let v201_r0 : BitVec 1 := Scalar.cmpi .ne v200_r0 c0_i32_178_r0
  v201_r0

def k0_off30 (arg9_r0 : BitVec 32) : Fin 3 → Nat :=
  let c2_i32_269_r0 : BitVec 32 := 2#32
  let v388_r0 : BitVec 32 := Scalar.remui arg9_r0 c2_i32_269_r0
  let c0_i32_270_r0 : BitVec 32 := 0#32
  let c0_i32_271_r0 : BitVec 32 := 0#32
  ![v388_r0.toNat, 0, 0]
def k0_off31 (arg22_r0 : BitVec 32) : Fin 2 → Nat :=
  let c1024_i32_268_r0 : BitVec 32 := 1024#32
  let c0_i32_118_r0 : BitVec 32 := 0#32
  let v112_r0 : BitVec 32 := Scalar.addi arg22_r0 c0_i32_118_r0
  let v387_r0 : BitVec 32 := Scalar.muli c1024_i32_268_r0 v112_r0
  let c0_i32_272_r0 : BitVec 32 := 0#32
  ![v387_r0.toNat, 0]
def k0_off32 (arg11_r0 : BitVec 32) : Fin 1 → Nat :=
  let c2_i32_269_r0 : BitVec 32 := 2#32
  let v388_r0 : BitVec 32 := Scalar.remui arg11_r0 c2_i32_269_r0
  ![v388_r0.toNat]
def k0_cond9 (k0_t1 : Fin k0_t1_loop.trips) (arg22_r0 : BitVec 32) : BitVec 1 :=
  let c0_i32_118_r0 : BitVec 32 := 0#32
  let v112_r0 : BitVec 32 := Scalar.addi arg22_r0 c0_i32_118_r0
  let true_120_r0 : BitVec 1 := 1#1
  let c1_i32_119_r0 : BitVec 32 := 1#32
  let v113_r0 : BitVec 32 := Scalar.subi arg22_r0 c1_i32_119_r0
  let v114_r0 : BitVec 32 := Scalar.select true_120_r0 v113_r0 arg22_r0
  let c_m1_i32_121_r0 : BitVec 32 := 4294967295#32
  let v115_r0 : BitVec 1 := Scalar.cmpi .eq v114_r0 c_m1_i32_121_r0
  let c15_i32_122_r0 : BitVec 32 := 15#32
  let v116_r0 : BitVec 32 := Scalar.select v115_r0 c15_i32_122_r0 v114_r0
  let c0_i32_123_r0 : BitVec 32 := 0#32
  let v117_r0 : BitVec 32 := Scalar.addi v116_r0 c0_i32_123_r0
  let v202_r0 : BitVec 1 := Scalar.cmpi .ne v112_r0 v117_r0
  let c0_i32_83_r0 : BitVec 32 := 0#32
  let c1_i32_85_r0 : BitVec 32 := 1#32
  let arg7_r0 : BitVec 32 := Scf.iv c0_i32_83_r0 c1_i32_85_r0 k0_t1
  let c0_i32_116_r0 : BitVec 32 := 0#32
  let v110_r0 : BitVec 1 := Scalar.cmpi .eq arg7_r0 c0_i32_116_r0
  let v203_r0 : BitVec 1 := Scalar.ori v202_r0 v110_r0
  let c0_i32_179_r0 : BitVec 32 := 0#32
  let v204_r0 : BitVec 1 := Scalar.cmpi .sge arg7_r0 c0_i32_179_r0
  let v205_r0 : BitVec 1 := Scalar.andi v203_r0 v204_r0
  let v206_r0 : BitVec 32 := Scalar.extui v205_r0
  let c0_i32_180_r0 : BitVec 32 := 0#32
  let v207_r0 : BitVec 1 := Scalar.cmpi .ne v206_r0 c0_i32_180_r0
  v207_r0

def k0_off33 (arg11_r0 : BitVec 32) : Fin 3 → Nat :=
  let c2_i32_269_r0 : BitVec 32 := 2#32
  let v388_r0 : BitVec 32 := Scalar.remui arg11_r0 c2_i32_269_r0
  let c0_i32_270_r0 : BitVec 32 := 0#32
  let c0_i32_271_r0 : BitVec 32 := 0#32
  ![v388_r0.toNat, 0, 0]
def k0_off34 (arg22_r0 : BitVec 32) : Fin 2 → Nat :=
  let c1024_i32_268_r0 : BitVec 32 := 1024#32
  let c0_i32_118_r0 : BitVec 32 := 0#32
  let v112_r0 : BitVec 32 := Scalar.addi arg22_r0 c0_i32_118_r0
  let v387_r0 : BitVec 32 := Scalar.muli c1024_i32_268_r0 v112_r0
  let c0_i32_272_r0 : BitVec 32 := 0#32
  ![v387_r0.toNat, 0]
def k0_off35 (arg13_r0 : BitVec 32) : Fin 1 → Nat :=
  let c2_i32_269_r0 : BitVec 32 := 2#32
  let v388_r0 : BitVec 32 := Scalar.remui arg13_r0 c2_i32_269_r0
  ![v388_r0.toNat]
def k0_cond10 (k0_t1 : Fin k0_t1_loop.trips) (arg22_r0 : BitVec 32) : BitVec 1 :=
  let c0_i32_118_r0 : BitVec 32 := 0#32
  let v112_r0 : BitVec 32 := Scalar.addi arg22_r0 c0_i32_118_r0
  let true_120_r0 : BitVec 1 := 1#1
  let c1_i32_119_r0 : BitVec 32 := 1#32
  let v113_r0 : BitVec 32 := Scalar.subi arg22_r0 c1_i32_119_r0
  let v114_r0 : BitVec 32 := Scalar.select true_120_r0 v113_r0 arg22_r0
  let c_m1_i32_121_r0 : BitVec 32 := 4294967295#32
  let v115_r0 : BitVec 1 := Scalar.cmpi .eq v114_r0 c_m1_i32_121_r0
  let c15_i32_122_r0 : BitVec 32 := 15#32
  let v116_r0 : BitVec 32 := Scalar.select v115_r0 c15_i32_122_r0 v114_r0
  let c0_i32_123_r0 : BitVec 32 := 0#32
  let v117_r0 : BitVec 32 := Scalar.addi v116_r0 c0_i32_123_r0
  let v208_r0 : BitVec 1 := Scalar.cmpi .ne v112_r0 v117_r0
  let c0_i32_83_r0 : BitVec 32 := 0#32
  let c1_i32_85_r0 : BitVec 32 := 1#32
  let arg7_r0 : BitVec 32 := Scf.iv c0_i32_83_r0 c1_i32_85_r0 k0_t1
  let c0_i32_116_r0 : BitVec 32 := 0#32
  let v110_r0 : BitVec 1 := Scalar.cmpi .eq arg7_r0 c0_i32_116_r0
  let v209_r0 : BitVec 1 := Scalar.ori v208_r0 v110_r0
  let c0_i32_181_r0 : BitVec 32 := 0#32
  let v210_r0 : BitVec 1 := Scalar.cmpi .sge arg7_r0 c0_i32_181_r0
  let v211_r0 : BitVec 1 := Scalar.andi v209_r0 v210_r0
  let v212_r0 : BitVec 32 := Scalar.extui v211_r0
  let c0_i32_182_r0 : BitVec 32 := 0#32
  let v213_r0 : BitVec 1 := Scalar.cmpi .ne v212_r0 c0_i32_182_r0
  v213_r0

def k0_off36 (arg13_r0 : BitVec 32) : Fin 3 → Nat :=
  let c2_i32_269_r0 : BitVec 32 := 2#32
  let v388_r0 : BitVec 32 := Scalar.remui arg13_r0 c2_i32_269_r0
  let c0_i32_270_r0 : BitVec 32 := 0#32
  let c0_i32_271_r0 : BitVec 32 := 0#32
  ![v388_r0.toNat, 0, 0]
def k0_off37 (arg22_r0 : BitVec 32) : Fin 2 → Nat :=
  let c1024_i32_268_r0 : BitVec 32 := 1024#32
  let c0_i32_118_r0 : BitVec 32 := 0#32
  let v112_r0 : BitVec 32 := Scalar.addi arg22_r0 c0_i32_118_r0
  let v387_r0 : BitVec 32 := Scalar.muli c1024_i32_268_r0 v112_r0
  let c0_i32_272_r0 : BitVec 32 := 0#32
  ![v387_r0.toNat, 0]
def k0_mult3 : BitVec 32 :=
  let false_269_r0 : BitVec 1 := 0#1
  let c128_i32_270_r0 : BitVec 32 := 128#32
  let c384_i32_271_r0 : BitVec 32 := 384#32
  let v388_r0 : BitVec 32 := Scalar.select false_269_r0 c128_i32_270_r0 c384_i32_271_r0
  v388_r0
def k0_off38 (arg15_r0 : BitVec 32) : Fin 1 → Nat :=
  let c2_i32_272_r0 : BitVec 32 := 2#32
  let v390_r0 : BitVec 32 := Scalar.remui arg15_r0 c2_i32_272_r0
  ![v390_r0.toNat]
def k0_cond11 (k0_t1 : Fin k0_t1_loop.trips) (arg22_r0 : BitVec 32) : BitVec 1 :=
  let c0_i32_118_r0 : BitVec 32 := 0#32
  let v112_r0 : BitVec 32 := Scalar.addi arg22_r0 c0_i32_118_r0
  let true_120_r0 : BitVec 1 := 1#1
  let c1_i32_119_r0 : BitVec 32 := 1#32
  let v113_r0 : BitVec 32 := Scalar.subi arg22_r0 c1_i32_119_r0
  let v114_r0 : BitVec 32 := Scalar.select true_120_r0 v113_r0 arg22_r0
  let c_m1_i32_121_r0 : BitVec 32 := 4294967295#32
  let v115_r0 : BitVec 1 := Scalar.cmpi .eq v114_r0 c_m1_i32_121_r0
  let c15_i32_122_r0 : BitVec 32 := 15#32
  let v116_r0 : BitVec 32 := Scalar.select v115_r0 c15_i32_122_r0 v114_r0
  let c0_i32_123_r0 : BitVec 32 := 0#32
  let v117_r0 : BitVec 32 := Scalar.addi v116_r0 c0_i32_123_r0
  let v214_r0 : BitVec 1 := Scalar.cmpi .ne v112_r0 v117_r0
  let c0_i32_83_r0 : BitVec 32 := 0#32
  let c1_i32_85_r0 : BitVec 32 := 1#32
  let arg7_r0 : BitVec 32 := Scf.iv c0_i32_83_r0 c1_i32_85_r0 k0_t1
  let c0_i32_116_r0 : BitVec 32 := 0#32
  let v110_r0 : BitVec 1 := Scalar.cmpi .eq arg7_r0 c0_i32_116_r0
  let v215_r0 : BitVec 1 := Scalar.ori v214_r0 v110_r0
  let c0_i32_183_r0 : BitVec 32 := 0#32
  let v216_r0 : BitVec 1 := Scalar.cmpi .sge arg7_r0 c0_i32_183_r0
  let v217_r0 : BitVec 1 := Scalar.andi v215_r0 v216_r0
  let v218_r0 : BitVec 32 := Scalar.extui v217_r0
  let c0_i32_184_r0 : BitVec 32 := 0#32
  let v219_r0 : BitVec 1 := Scalar.cmpi .ne v218_r0 c0_i32_184_r0
  v219_r0

def k0_off39 (arg15_r0 : BitVec 32) : (Fin 3 → Nat) × (Fin 3 → Nat) :=
  let c2_i32_272_r0 : BitVec 32 := 2#32
  let v390_r0 : BitVec 32 := Scalar.remui arg15_r0 c2_i32_272_r0
  let c0_i32_273_r0 : BitVec 32 := 0#32
  let c0_i32_274_r0 : BitVec 32 := 0#32
  let false_269_r0 : BitVec 1 := 0#1
  let c128_i32_270_r0 : BitVec 32 := 128#32
  let c384_i32_271_r0 : BitVec 32 := 384#32
  let v388_r0 : BitVec 32 := Scalar.select false_269_r0 c128_i32_270_r0 c384_i32_271_r0
  let v389_r0 : BitVec 32 := v388_r0
  ⟨![v390_r0.toNat, 0, 0], ![1, 1024, v389_r0.toNat]⟩

def k0_sz3 : Fin 2 → Nat :=
  let false_269_r0 : BitVec 1 := 0#1
  let c128_i32_270_r0 : BitVec 32 := 128#32
  let c384_i32_271_r0 : BitVec 32 := 384#32
  let v388_r0 : BitVec 32 := Scalar.select false_269_r0 c128_i32_270_r0 c384_i32_271_r0
  let v389_r0 : BitVec 32 := v388_r0
  ![1024, v389_r0.toNat]
def k0_off40 (arg22_r0 : BitVec 32) : (Fin 2 → Nat) × (Fin 2 → Nat) :=
  let c1024_i32_268_r0 : BitVec 32 := 1024#32
  let c0_i32_118_r0 : BitVec 32 := 0#32
  let v112_r0 : BitVec 32 := Scalar.addi arg22_r0 c0_i32_118_r0
  let v387_r0 : BitVec 32 := Scalar.muli c1024_i32_268_r0 v112_r0
  let c1152_i32_275_r0 : BitVec 32 := 1152#32
  let false_269_r0 : BitVec 1 := 0#1
  let c128_i32_270_r0 : BitVec 32 := 128#32
  let c384_i32_271_r0 : BitVec 32 := 384#32
  let v388_r0 : BitVec 32 := Scalar.select false_269_r0 c128_i32_270_r0 c384_i32_271_r0
  let v389_r0 : BitVec 32 := v388_r0
  ⟨![v387_r0.toNat, 1152], ![1024, v389_r0.toNat]⟩

def k0_cond12 (k0_t1 : Fin k0_t1_loop.trips) : BitVec 1 :=
  let false_185_r0 : BitVec 1 := 0#1
  let c0_i32_83_r0 : BitVec 32 := 0#32
  let c1_i32_85_r0 : BitVec 32 := 1#32
  let arg7_r0 : BitVec 32 := Scf.iv c0_i32_83_r0 c1_i32_85_r0 k0_t1
  let c0_i32_116_r0 : BitVec 32 := 0#32
  let v110_r0 : BitVec 1 := Scalar.cmpi .eq arg7_r0 c0_i32_116_r0
  let v220_r0 : BitVec 1 := Scalar.ori false_185_r0 v110_r0
  let c0_i32_186_r0 : BitVec 32 := 0#32
  let v221_r0 : BitVec 1 := Scalar.cmpi .sge arg7_r0 c0_i32_186_r0
  let v222_r0 : BitVec 1 := Scalar.andi v220_r0 v221_r0
  let v223_r0 : BitVec 32 := Scalar.extui v222_r0
  let c0_i32_187_r0 : BitVec 32 := 0#32
  let v224_r0 : BitVec 1 := Scalar.cmpi .ne v223_r0 c0_i32_187_r0
  v224_r0

def k0_off41 (arg17_r0 : BitVec 32) : Fin 1 → Nat :=
  let c2_i32_268_r0 : BitVec 32 := 2#32
  let v387_r0 : BitVec 32 := Scalar.remui arg17_r0 c2_i32_268_r0
  ![v387_r0.toNat]

def k0_off42 (arg17_r0 : BitVec 32) : Fin 4 → Nat :=
  let c2_i32_268_r0 : BitVec 32 := 2#32
  let v387_r0 : BitVec 32 := Scalar.remui arg17_r0 c2_i32_268_r0
  let c0_i32_269_r0 : BitVec 32 := 0#32
  let c0_i32_270_r0 : BitVec 32 := 0#32
  let c0_i32_271_r0 : BitVec 32 := 0#32
  ![v387_r0.toNat, 0, 0, 0]
def k0_off43 (arg19_r0 : BitVec 32) : Fin 1 → Nat :=
  let c3_i32_269_r0 : BitVec 32 := 3#32
  let v388_r0 : BitVec 32 := Scalar.remui arg19_r0 c3_i32_269_r0
  ![v388_r0.toNat]
def k0_cond13 (k0_t1 : Fin k0_t1_loop.trips) (arg22_r0 : BitVec 32) : BitVec 1 :=
  let c0_i32_118_r0 : BitVec 32 := 0#32
  let v112_r0 : BitVec 32 := Scalar.addi arg22_r0 c0_i32_118_r0
  let true_120_r0 : BitVec 1 := 1#1
  let c1_i32_119_r0 : BitVec 32 := 1#32
  let v113_r0 : BitVec 32 := Scalar.subi arg22_r0 c1_i32_119_r0
  let v114_r0 : BitVec 32 := Scalar.select true_120_r0 v113_r0 arg22_r0
  let c_m1_i32_121_r0 : BitVec 32 := 4294967295#32
  let v115_r0 : BitVec 1 := Scalar.cmpi .eq v114_r0 c_m1_i32_121_r0
  let c15_i32_122_r0 : BitVec 32 := 15#32
  let v116_r0 : BitVec 32 := Scalar.select v115_r0 c15_i32_122_r0 v114_r0
  let c0_i32_123_r0 : BitVec 32 := 0#32
  let v117_r0 : BitVec 32 := Scalar.addi v116_r0 c0_i32_123_r0
  let v225_r0 : BitVec 1 := Scalar.cmpi .ne v112_r0 v117_r0
  let c0_i32_83_r0 : BitVec 32 := 0#32
  let c1_i32_85_r0 : BitVec 32 := 1#32
  let arg7_r0 : BitVec 32 := Scf.iv c0_i32_83_r0 c1_i32_85_r0 k0_t1
  let c0_i32_116_r0 : BitVec 32 := 0#32
  let v110_r0 : BitVec 1 := Scalar.cmpi .eq arg7_r0 c0_i32_116_r0
  let v226_r0 : BitVec 1 := Scalar.ori v225_r0 v110_r0
  let c0_i32_188_r0 : BitVec 32 := 0#32
  let v227_r0 : BitVec 1 := Scalar.cmpi .sge arg7_r0 c0_i32_188_r0
  let v228_r0 : BitVec 1 := Scalar.andi v226_r0 v227_r0
  let v229_r0 : BitVec 32 := Scalar.extui v228_r0
  let c0_i32_189_r0 : BitVec 32 := 0#32
  let v230_r0 : BitVec 1 := Scalar.cmpi .ne v229_r0 c0_i32_189_r0
  v230_r0

def k0_off44 (arg19_r0 : BitVec 32) : Fin 3 → Nat :=
  let c3_i32_269_r0 : BitVec 32 := 3#32
  let v388_r0 : BitVec 32 := Scalar.remui arg19_r0 c3_i32_269_r0
  let c0_i32_270_r0 : BitVec 32 := 0#32
  let c0_i32_271_r0 : BitVec 32 := 0#32
  ![v388_r0.toNat, 0, 0]
def k0_off45 (arg22_r0 : BitVec 32) : Fin 2 → Nat :=
  let c1024_i32_268_r0 : BitVec 32 := 1024#32
  let c0_i32_118_r0 : BitVec 32 := 0#32
  let v112_r0 : BitVec 32 := Scalar.addi arg22_r0 c0_i32_118_r0
  let v387_r0 : BitVec 32 := Scalar.muli c1024_i32_268_r0 v112_r0
  let c0_i32_272_r0 : BitVec 32 := 0#32
  ![v387_r0.toNat, 0]
def k0_off46 (arg9_r0 : BitVec 32) : Fin 3 → Nat :=
  let c2_i32_192_r0 : BitVec 32 := 2#32
  let v237_r0 : BitVec 32 := Scalar.remui arg9_r0 c2_i32_192_r0
  let v244_r0 : Index := Scalar.indexCast v237_r0
  let c0_r0 : Index := 0#32
  let c0_199_r0 : Index := 0#32
  ![v244_r0.toNat, 0, 0]

def k0_chk4 (arg9_r0 : BitVec 32) : Prop :=
  (∀ a, (k0_off46 arg9_r0) a + S1x1024x384.size a ≤ S2x1024x384.size a)
theorem k0_off46_inb : ∀ (arg9_r0 : BitVec 32) (k0_hw4 : k0_chk4 arg9_r0), ∀ a, (k0_off46 arg9_r0) a + S1x1024x384.size a ≤ S2x1024x384.size a := fun arg9_r0 k0_hw4 => k0_hw4

def k0_off47 (arg15_r0 : BitVec 32) : Fin 3 → Nat :=
  let c2_i32_195_r0 : BitVec 32 := 2#32
  let v240_r0 : BitVec 32 := Scalar.remui arg15_r0 c2_i32_195_r0
  let v248_r0 : Index := Scalar.indexCast v240_r0
  let c0_200_r0 : Index := 0#32
  let c0_201_r0 : Index := 0#32
  ![v248_r0.toNat, 0, 0]

def k0_chk5 (arg15_r0 : BitVec 32) : Prop :=
  (∀ a, (k0_off47 arg15_r0) a + S1x1024x384.size a ≤ S2x1024x384.size a)
theorem k0_off47_inb : ∀ (arg15_r0 : BitVec 32) (k0_hw5 : k0_chk5 arg15_r0), ∀ a, (k0_off47 arg15_r0) a + S1x1024x384.size a ≤ S2x1024x384.size a := fun arg15_r0 k0_hw5 => k0_hw5

def k0_off48 (arg11_r0 : BitVec 32) : Fin 3 → Nat :=
  let c2_i32_193_r0 : BitVec 32 := 2#32
  let v238_r0 : BitVec 32 := Scalar.remui arg11_r0 c2_i32_193_r0
  let v260_r0 : Index := Scalar.indexCast v238_r0
  let c0_203_r0 : Index := 0#32
  let c0_204_r0 : Index := 0#32
  ![v260_r0.toNat, 0, 0]

def k0_chk6 (arg11_r0 : BitVec 32) : Prop :=
  (∀ a, (k0_off48 arg11_r0) a + S1x1024x384.size a ≤ S2x1024x384.size a)
theorem k0_off48_inb : ∀ (arg11_r0 : BitVec 32) (k0_hw6 : k0_chk6 arg11_r0), ∀ a, (k0_off48 arg11_r0) a + S1x1024x384.size a ≤ S2x1024x384.size a := fun arg11_r0 k0_hw6 => k0_hw6

def k0_off49 (arg13_r0 : BitVec 32) : Fin 3 → Nat :=
  let c2_i32_194_r0 : BitVec 32 := 2#32
  let v239_r0 : BitVec 32 := Scalar.remui arg13_r0 c2_i32_194_r0
  let v263_r0 : Index := Scalar.indexCast v239_r0
  let c0_205_r0 : Index := 0#32
  let c0_206_r0 : Index := 0#32
  ![v263_r0.toNat, 0, 0]

def k0_chk7 (arg13_r0 : BitVec 32) : Prop :=
  (∀ a, (k0_off49 arg13_r0) a + S1x1024x256.size a ≤ S2x1024x256.size a)
theorem k0_off49_inb : ∀ (arg13_r0 : BitVec 32) (k0_hw7 : k0_chk7 arg13_r0), ∀ a, (k0_off49 arg13_r0) a + S1x1024x256.size a ≤ S2x1024x256.size a := fun arg13_r0 k0_hw7 => k0_hw7

def k0_off50 (arg19_r0 : BitVec 32) : Fin 3 → Nat :=
  let c3_i32_197_r0 : BitVec 32 := 3#32
  let v242_r0 : BitVec 32 := Scalar.remui arg19_r0 c3_i32_197_r0
  let v267_r0 : Index := Scalar.indexCast v242_r0
  let c0_207_r0 : Index := 0#32
  let c0_208_r0 : Index := 0#32
  ![v267_r0.toNat, 0, 0]

def k0_chk8 (arg19_r0 : BitVec 32) : Prop :=
  (∀ a, (k0_off50 arg19_r0) a + S1x1024x1024.size a ≤ S3x1024x1024.size a)
theorem k0_off50_inb : ∀ (arg19_r0 : BitVec 32) (k0_hw8 : k0_chk8 arg19_r0), ∀ a, (k0_off50 arg19_r0) a + S1x1024x1024.size a ≤ S3x1024x1024.size a := fun arg19_r0 k0_hw8 => k0_hw8

def k0_off51 (arg17_r0 : BitVec 32) : Fin 4 → Nat :=
  let c2_i32_196_r0 : BitVec 32 := 2#32
  let v241_r0 : BitVec 32 := Scalar.remui arg17_r0 c2_i32_196_r0
  let c0_i32_209_r0 : BitVec 32 := 0#32
  let c0_i32_210_r0 : BitVec 32 := 0#32
  let c0_i32_211_r0 : BitVec 32 := 0#32
  ![v241_r0.toNat, 0, 0, 0]

def k0_chk3 (k0_t1 : Fin k0_t1_loop.trips) (arg17_r0 : BitVec 32) : Prop :=
  (∀ (k0_h12 : k0_cond12 k0_t1 = 1#1), ∀ a, (k0_off41 arg17_r0) a + S1.size a ≤ S2.size a) ∧
  (∀ (k0_h12 : k0_cond12 k0_t1 = 1#1), ∀ a, (k0_off42 arg17_r0) a + S1x1x1024x1024.size a ≤ S2x1x1024x1024.size a) ∧
  (∀ a, (k0_off51 arg17_r0) a + S1x1x1024x1024.size a ≤ S2x1x1024x1024.size a)
theorem k0_off41_inb : ∀ (k0_t1 : Fin k0_t1_loop.trips) (arg17_r0 : BitVec 32) (k0_hw3 : k0_chk3 k0_t1 arg17_r0), ∀ (k0_h12 : k0_cond12 k0_t1 = 1#1), ∀ a, (k0_off41 arg17_r0) a + S1.size a ≤ S2.size a := fun k0_t1 arg17_r0 k0_hw3 k0_h12 => k0_hw3.1 k0_h12
theorem k0_off42_inb : ∀ (k0_t1 : Fin k0_t1_loop.trips) (arg17_r0 : BitVec 32) (k0_hw3 : k0_chk3 k0_t1 arg17_r0), ∀ (k0_h12 : k0_cond12 k0_t1 = 1#1), ∀ a, (k0_off42 arg17_r0) a + S1x1x1024x1024.size a ≤ S2x1x1024x1024.size a := fun k0_t1 arg17_r0 k0_hw3 k0_h12 => k0_hw3.2.1 k0_h12
theorem k0_off51_inb : ∀ (k0_t1 : Fin k0_t1_loop.trips) (arg17_r0 : BitVec 32) (k0_hw3 : k0_chk3 k0_t1 arg17_r0), ∀ a, (k0_off51 arg17_r0) a + S1x1x1024x1024.size a ≤ S2x1x1024x1024.size a := fun k0_t1 arg17_r0 k0_hw3 => k0_hw3.2.2

def k0_off52 (arg20_r0 : BitVec 32) : Fin 3 → Nat :=
  let c2_i32_198_r0 : BitVec 32 := 2#32
  let v243_r0 : BitVec 32 := Scalar.remui arg20_r0 c2_i32_198_r0
  let v277_r0 : Index := Scalar.indexCast v243_r0
  let c0_216_r0 : Index := 0#32
  let c0_217_r0 : Index := 0#32
  ![v277_r0.toNat, 0, 0]

def k0_chk9 (arg20_r0 : BitVec 32) : Prop :=
  (∀ a, (k0_off52 arg20_r0) a + S1x1024x1024.size a ≤ S2x1024x1024.size a)
theorem k0_off52_inb : ∀ (arg20_r0 : BitVec 32) (k0_hw9 : k0_chk9 arg20_r0), ∀ a, (k0_off52 arg20_r0) a + S1x1024x1024.size a ≤ S2x1024x1024.size a := fun arg20_r0 k0_hw9 => k0_hw9

def k0_off53 (arg20_r0 : BitVec 32) : Fin 1 → Nat :=
  let c2_i32_268_r0 : BitVec 32 := 2#32
  let v387_r0 : BitVec 32 := Scalar.remui arg20_r0 c2_i32_268_r0
  ![v387_r0.toNat]
def k0_cond21 (k0_t1 : Fin k0_t1_loop.trips) (arg22_r0 : BitVec 32) : BitVec 1 :=
  let c0_i32_118_r0 : BitVec 32 := 0#32
  let v112_r0 : BitVec 32 := Scalar.addi arg22_r0 c0_i32_118_r0
  let true_125_r0 : BitVec 1 := 1#1
  let c1_i32_124_r0 : BitVec 32 := 1#32
  let v118_r0 : BitVec 32 := Scalar.addi arg22_r0 c1_i32_124_r0
  let v119_r0 : BitVec 32 := Scalar.select true_125_r0 v118_r0 arg22_r0
  let c16_i32_126_r0 : BitVec 32 := 16#32
  let v120_r0 : BitVec 1 := Scalar.cmpi .eq v119_r0 c16_i32_126_r0
  let c0_i32_127_r0 : BitVec 32 := 0#32
  let v121_r0 : BitVec 32 := Scalar.select v120_r0 c0_i32_127_r0 v119_r0
  let c0_i32_128_r0 : BitVec 32 := 0#32
  let v122_r0 : BitVec 32 := Scalar.addi v121_r0 c0_i32_128_r0
  let v310_r0 : BitVec 1 := Scalar.cmpi .ne v112_r0 v122_r0
  let c0_i32_83_r0 : BitVec 32 := 0#32
  let c1_i32_85_r0 : BitVec 32 := 1#32
  let arg7_r0 : BitVec 32 := Scf.iv c0_i32_83_r0 c1_i32_85_r0 k0_t1
  let c15_i32_117_r0 : BitVec 32 := 15#32
  let v111_r0 : BitVec 1 := Scalar.cmpi .eq arg7_r0 c15_i32_117_r0
  let v311_r0 : BitVec 1 := Scalar.ori v310_r0 v111_r0
  let v312_r0 : BitVec 32 := Scalar.extui v311_r0
  let c0_i32_231_r0 : BitVec 32 := 0#32
  let v313_r0 : BitVec 1 := Scalar.cmpi .ne v312_r0 c0_i32_231_r0
  v313_r0

def k0_off54 (arg22_r0 : BitVec 32) : Fin 2 → Nat :=
  let c1024_i32_269_r0 : BitVec 32 := 1024#32
  let c0_i32_118_r0 : BitVec 32 := 0#32
  let v112_r0 : BitVec 32 := Scalar.addi arg22_r0 c0_i32_118_r0
  let v388_r0 : BitVec 32 := Scalar.muli c1024_i32_269_r0 v112_r0
  let c0_i32_270_r0 : BitVec 32 := 0#32
  ![v388_r0.toNat, 0]
def k0_off55 (arg20_r0 : BitVec 32) : Fin 3 → Nat :=
  let c2_i32_268_r0 : BitVec 32 := 2#32
  let v387_r0 : BitVec 32 := Scalar.remui arg20_r0 c2_i32_268_r0
  let c0_i32_271_r0 : BitVec 32 := 0#32
  let c0_i32_272_r0 : BitVec 32 := 0#32
  ![v387_r0.toNat, 0, 0]
def k0_off56 (arg21_r0 : BitVec 32) : Fin 1 → Nat :=
  let c2_i32_268_r0 : BitVec 32 := 2#32
  let v387_r0 : BitVec 32 := Scalar.remui arg21_r0 c2_i32_268_r0
  ![v387_r0.toNat]
def k0_cond28 (k0_t1 : Fin k0_t1_loop.trips) (arg22_r0 : BitVec 32) : BitVec 1 :=
  let c0_i32_118_r0 : BitVec 32 := 0#32
  let v112_r0 : BitVec 32 := Scalar.addi arg22_r0 c0_i32_118_r0
  let true_120_r0 : BitVec 1 := 1#1
  let c1_i32_119_r0 : BitVec 32 := 1#32
  let v113_r0 : BitVec 32 := Scalar.subi arg22_r0 c1_i32_119_r0
  let v114_r0 : BitVec 32 := Scalar.select true_120_r0 v113_r0 arg22_r0
  let c_m1_i32_121_r0 : BitVec 32 := 4294967295#32
  let v115_r0 : BitVec 1 := Scalar.cmpi .eq v114_r0 c_m1_i32_121_r0
  let c15_i32_122_r0 : BitVec 32 := 15#32
  let v116_r0 : BitVec 32 := Scalar.select v115_r0 c15_i32_122_r0 v114_r0
  let c0_i32_123_r0 : BitVec 32 := 0#32
  let v117_r0 : BitVec 32 := Scalar.addi v116_r0 c0_i32_123_r0
  let v352_r0 : BitVec 1 := Scalar.cmpi .ne v112_r0 v117_r0
  let c0_i32_83_r0 : BitVec 32 := 0#32
  let c1_i32_85_r0 : BitVec 32 := 1#32
  let arg7_r0 : BitVec 32 := Scf.iv c0_i32_83_r0 c1_i32_85_r0 k0_t1
  let c0_i32_116_r0 : BitVec 32 := 0#32
  let v110_r0 : BitVec 1 := Scalar.cmpi .eq arg7_r0 c0_i32_116_r0
  let true_253_r0 : BitVec 1 := 1#1
  let v353_r0 : BitVec 1 := Scalar.xori v110_r0 true_253_r0
  let v354_r0 : BitVec 1 := Scalar.andi v352_r0 v353_r0
  let v355_r0 : BitVec 32 := Scalar.extui v354_r0
  let c0_i32_254_r0 : BitVec 32 := 0#32
  let v356_r0 : BitVec 1 := Scalar.cmpi .ne v355_r0 c0_i32_254_r0
  v356_r0

def k0_off57 (arg22_r0 : BitVec 32) : Fin 2 → Nat :=
  let c1024_i32_269_r0 : BitVec 32 := 1024#32
  let true_120_r0 : BitVec 1 := 1#1
  let c1_i32_119_r0 : BitVec 32 := 1#32
  let v113_r0 : BitVec 32 := Scalar.subi arg22_r0 c1_i32_119_r0
  let v114_r0 : BitVec 32 := Scalar.select true_120_r0 v113_r0 arg22_r0
  let c_m1_i32_121_r0 : BitVec 32 := 4294967295#32
  let v115_r0 : BitVec 1 := Scalar.cmpi .eq v114_r0 c_m1_i32_121_r0
  let c15_i32_122_r0 : BitVec 32 := 15#32
  let v116_r0 : BitVec 32 := Scalar.select v115_r0 c15_i32_122_r0 v114_r0
  let c0_i32_123_r0 : BitVec 32 := 0#32
  let v117_r0 : BitVec 32 := Scalar.addi v116_r0 c0_i32_123_r0
  let v388_r0 : BitVec 32 := Scalar.muli c1024_i32_269_r0 v117_r0
  let c0_i32_270_r0 : BitVec 32 := 0#32
  ![v388_r0.toNat, 0]
def k0_off58 (arg21_r0 : BitVec 32) : Fin 3 → Nat :=
  let c2_i32_268_r0 : BitVec 32 := 2#32
  let v387_r0 : BitVec 32 := Scalar.remui arg21_r0 c2_i32_268_r0
  let c0_i32_271_r0 : BitVec 32 := 0#32
  let c0_i32_272_r0 : BitVec 32 := 0#32
  ![v387_r0.toNat, 0, 0]

def k0_chk1_0 (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) : Prop :=
  (∀ (k0_h2 : k0_cond2 k0_t1 arg22_r0 = 1#1), ∀ a, (k0_off12 arg8_r0) a + S1.size a ≤ S2.size a) ∧
  (∀ (k0_h2 : k0_cond2 k0_t1 arg22_r0 = 1#1), ∀ a, (k0_off13 arg8_r0) a + S1x1024x384.size a ≤ S2x1024x384.size a) ∧
  (∀ (k0_h2 : k0_cond2 k0_t1 arg22_r0 = 1#1), ∀ a, (k0_off14 arg22_r0) a + S1024x384.size a ≤ S16384x384.size a) ∧
  (∀ (k0_h2 : k0_cond2 k0_t1 arg22_r0 = 1#1), ∀ (hinb : ∀ a, (k0_off14 arg22_r0) a + S1024x384.size a ≤ S16384x384.size a), (Rect.unit (s := S16384x384) (k0_off14 arg22_r0) S1024x384.size hinb).WholeWords (EltTy.packing .bf16)) ∧
  (∀ (k0_h2 : k0_cond2 k0_t1 arg22_r0 = 1#1), ∀ (hinb : ∀ a, (k0_off13 arg8_r0) a + S1x1024x384.size a ≤ S2x1024x384.size a), (Rect.unit (s := S2x1024x384) (k0_off13 arg8_r0) S1x1024x384.size hinb).WholeWords (EltTy.packing .bf16)) ∧
  (∀ (k0_h3 : k0_cond3 k0_t1 arg22_r0 = 1#1), ∀ a, (k0_off15 arg10_r0) a + S1.size a ≤ S2.size a) ∧
  (∀ (k0_h3 : k0_cond3 k0_t1 arg22_r0 = 1#1), ∀ a, (k0_off16 arg10_r0) a + S1x1024x384.size a ≤ S2x1024x384.size a) ∧
  (∀ (k0_h3 : k0_cond3 k0_t1 arg22_r0 = 1#1), ∀ a, (k0_off17 arg22_r0) a + S1024x384.size a ≤ S16384x384.size a) ∧
  (∀ (k0_h3 : k0_cond3 k0_t1 arg22_r0 = 1#1), ∀ (hinb : ∀ a, (k0_off17 arg22_r0) a + S1024x384.size a ≤ S16384x384.size a), (Rect.unit (s := S16384x384) (k0_off17 arg22_r0) S1024x384.size hinb).WholeWords (EltTy.packing .bf16)) ∧
  (∀ (k0_h3 : k0_cond3 k0_t1 arg22_r0 = 1#1), ∀ (hinb : ∀ a, (k0_off16 arg10_r0) a + S1x1024x384.size a ≤ S2x1024x384.size a), (Rect.unit (s := S2x1024x384) (k0_off16 arg10_r0) S1x1024x384.size hinb).WholeWords (EltTy.packing .bf16)) ∧
  (∀ (k0_h4 : k0_cond4 k0_t1 arg22_r0 = 1#1), ∀ a, (k0_off18 arg12_r0) a + S1.size a ≤ S2.size a) ∧
  (∀ (k0_h4 : k0_cond4 k0_t1 arg22_r0 = 1#1), ∀ a, (k0_off19 arg12_r0) a + S1x1024x256.size a ≤ S2x1024x256.size a) ∧
  (∀ (k0_h4 : k0_cond4 k0_t1 arg22_r0 = 1#1), ∀ a, (k0_off20 arg22_r0) a + S1024x256.size a ≤ S16384x256.size a) ∧
  (∀ (k0_h4 : k0_cond4 k0_t1 arg22_r0 = 1#1), ∀ (hinb : ∀ a, (k0_off20 arg22_r0) a + S1024x256.size a ≤ S16384x256.size a), (Rect.unit (s := S16384x256) (k0_off20 arg22_r0) S1024x256.size hinb).WholeWords (EltTy.packing .bf16)) ∧
  (∀ (k0_h4 : k0_cond4 k0_t1 arg22_r0 = 1#1), ∀ (hinb : ∀ a, (k0_off19 arg12_r0) a + S1x1024x256.size a ≤ S2x1024x256.size a), (Rect.unit (s := S2x1024x256) (k0_off19 arg12_r0) S1x1024x256.size hinb).WholeWords (EltTy.packing .bf16)) ∧
  (∀ (k0_h5 : k0_cond5 k0_t1 arg22_r0 = 1#1), ∀ a, (k0_off21 arg14_r0) a + S1.size a ≤ S2.size a) ∧
  (∀ (k0_h5 : k0_cond5 k0_t1 arg22_r0 = 1#1), ∀ a, (k0_off22 arg14_r0).2 a = 0 ∨ (k0_off22 arg14_r0).1 a + (k0_off22 arg14_r0).2 a ≤ S2x1024x384.size a) ∧
  (∀ (k0_h5 : k0_cond5 k0_t1 arg22_r0 = 1#1), (⟨3, (k0_off22 arg14_r0).2⟩ : Shape).Squeezes ⟨2, k0_sz2⟩) ∧
  (∀ (k0_h5 : k0_cond5 k0_t1 arg22_r0 = 1#1), ∀ a, (k0_off23 arg22_r0).2 a = 0 ∨ (k0_off23 arg22_r0).1 a + (k0_off23 arg22_r0).2 a ≤ S16384x3584.size a) ∧
  (∀ (k0_h5 : k0_cond5 k0_t1 arg22_r0 = 1#1), ∀ (hinb : ∀ a, (k0_off23 arg22_r0).2 a = 0 ∨ (k0_off23 arg22_r0).1 a + (k0_off23 arg22_r0).2 a ≤ S16384x3584.size a), (Rect.unitDyn (s := S16384x3584) (k0_off23 arg22_r0).1 (k0_off23 arg22_r0).2 hinb).WholeWords (EltTy.packing .bf16)) ∧
  (∀ (k0_h5 : k0_cond5 k0_t1 arg22_r0 = 1#1), ∀ (hinb : ∀ a, (k0_off22 arg14_r0).2 a = 0 ∨ (k0_off22 arg14_r0).1 a + (k0_off22 arg14_r0).2 a ≤ S2x1024x384.size a), (Rect.unitDyn (s := S2x1024x384) (k0_off22 arg14_r0).1 (k0_off22 arg14_r0).2 hinb).WholeWords (EltTy.packing .bf16)) ∧
  (∀ (k0_h7 : k0_cond7 k0_t1 arg22_r0 = 1#1), ∀ a, (k0_off26 arg18_r0) a + S1.size a ≤ S3.size a) ∧
  (∀ (k0_h7 : k0_cond7 k0_t1 arg22_r0 = 1#1), ∀ a, (k0_off27 arg18_r0) a + S1x1024x1024.size a ≤ S3x1024x1024.size a) ∧
  (∀ (k0_h7 : k0_cond7 k0_t1 arg22_r0 = 1#1), ∀ a, (k0_off28 arg22_r0) a + S1024x1024.size a ≤ S16384x1024.size a) ∧
  (∀ (k0_h8 : k0_cond8 k0_t1 arg22_r0 = 1#1), ∀ a, (k0_off29 arg9_r0) a + S1.size a ≤ S2.size a) ∧
  (∀ (k0_h8 : k0_cond8 k0_t1 arg22_r0 = 1#1), ∀ a, (k0_off30 arg9_r0) a + S1x1024x384.size a ≤ S2x1024x384.size a) ∧
  (∀ (k0_h8 : k0_cond8 k0_t1 arg22_r0 = 1#1), ∀ a, (k0_off31 arg22_r0) a + S1024x384.size a ≤ S16384x384.size a) ∧
  (∀ (k0_h8 : k0_cond8 k0_t1 arg22_r0 = 1#1), ∀ (hinb : ∀ a, (k0_off31 arg22_r0) a + S1024x384.size a ≤ S16384x384.size a), (Rect.unit (s := S16384x384) (k0_off31 arg22_r0) S1024x384.size hinb).WholeWords (EltTy.packing .bf16)) ∧
  (∀ (k0_h8 : k0_cond8 k0_t1 arg22_r0 = 1#1), ∀ (hinb : ∀ a, (k0_off30 arg9_r0) a + S1x1024x384.size a ≤ S2x1024x384.size a), (Rect.unit (s := S2x1024x384) (k0_off30 arg9_r0) S1x1024x384.size hinb).WholeWords (EltTy.packing .bf16)) ∧
  (∀ (k0_h9 : k0_cond9 k0_t1 arg22_r0 = 1#1), ∀ a, (k0_off32 arg11_r0) a + S1.size a ≤ S2.size a) ∧
  (∀ (k0_h9 : k0_cond9 k0_t1 arg22_r0 = 1#1), ∀ a, (k0_off33 arg11_r0) a + S1x1024x384.size a ≤ S2x1024x384.size a) ∧
  (∀ (k0_h9 : k0_cond9 k0_t1 arg22_r0 = 1#1), ∀ a, (k0_off34 arg22_r0) a + S1024x384.size a ≤ S16384x384.size a)
def k0_chk1_1 (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) : Prop :=
  (∀ (k0_h9 : k0_cond9 k0_t1 arg22_r0 = 1#1), ∀ (hinb : ∀ a, (k0_off34 arg22_r0) a + S1024x384.size a ≤ S16384x384.size a), (Rect.unit (s := S16384x384) (k0_off34 arg22_r0) S1024x384.size hinb).WholeWords (EltTy.packing .bf16)) ∧
  (∀ (k0_h9 : k0_cond9 k0_t1 arg22_r0 = 1#1), ∀ (hinb : ∀ a, (k0_off33 arg11_r0) a + S1x1024x384.size a ≤ S2x1024x384.size a), (Rect.unit (s := S2x1024x384) (k0_off33 arg11_r0) S1x1024x384.size hinb).WholeWords (EltTy.packing .bf16)) ∧
  (∀ (k0_h10 : k0_cond10 k0_t1 arg22_r0 = 1#1), ∀ a, (k0_off35 arg13_r0) a + S1.size a ≤ S2.size a) ∧
  (∀ (k0_h10 : k0_cond10 k0_t1 arg22_r0 = 1#1), ∀ a, (k0_off36 arg13_r0) a + S1x1024x256.size a ≤ S2x1024x256.size a) ∧
  (∀ (k0_h10 : k0_cond10 k0_t1 arg22_r0 = 1#1), ∀ a, (k0_off37 arg22_r0) a + S1024x256.size a ≤ S16384x256.size a) ∧
  (∀ (k0_h10 : k0_cond10 k0_t1 arg22_r0 = 1#1), ∀ (hinb : ∀ a, (k0_off37 arg22_r0) a + S1024x256.size a ≤ S16384x256.size a), (Rect.unit (s := S16384x256) (k0_off37 arg22_r0) S1024x256.size hinb).WholeWords (EltTy.packing .bf16)) ∧
  (∀ (k0_h10 : k0_cond10 k0_t1 arg22_r0 = 1#1), ∀ (hinb : ∀ a, (k0_off36 arg13_r0) a + S1x1024x256.size a ≤ S2x1024x256.size a), (Rect.unit (s := S2x1024x256) (k0_off36 arg13_r0) S1x1024x256.size hinb).WholeWords (EltTy.packing .bf16)) ∧
  (∀ (k0_h11 : k0_cond11 k0_t1 arg22_r0 = 1#1), ∀ a, (k0_off38 arg15_r0) a + S1.size a ≤ S2.size a) ∧
  (∀ (k0_h11 : k0_cond11 k0_t1 arg22_r0 = 1#1), (⟨3, (k0_off39 arg15_r0).2⟩ : Shape).Squeezes ⟨2, k0_sz3⟩) ∧
  (∀ (k0_h13 : k0_cond13 k0_t1 arg22_r0 = 1#1), ∀ a, (k0_off43 arg19_r0) a + S1.size a ≤ S3.size a) ∧
  (∀ (k0_h13 : k0_cond13 k0_t1 arg22_r0 = 1#1), ∀ a, (k0_off44 arg19_r0) a + S1x1024x1024.size a ≤ S3x1024x1024.size a) ∧
  (∀ (k0_h13 : k0_cond13 k0_t1 arg22_r0 = 1#1), ∀ a, (k0_off45 arg22_r0) a + S1024x1024.size a ≤ S16384x1024.size a) ∧
  (∀ (k0_h21 : k0_cond21 k0_t1 arg22_r0 = 1#1), ∀ a, (k0_off53 arg20_r0) a + S1.size a ≤ S2.size a) ∧
  (∀ (k0_h21 : k0_cond21 k0_t1 arg22_r0 = 1#1), ∀ a, (k0_off54 arg22_r0) a + S1024x1024.size a ≤ S16384x1024.size a) ∧
  (∀ (k0_h21 : k0_cond21 k0_t1 arg22_r0 = 1#1), ∀ a, (k0_off55 arg20_r0) a + S1x1024x1024.size a ≤ S2x1024x1024.size a) ∧
  (∀ (k0_h28 : k0_cond28 k0_t1 arg22_r0 = 1#1), ∀ a, (k0_off56 arg21_r0) a + S1.size a ≤ S2.size a) ∧
  (∀ (k0_h28 : k0_cond28 k0_t1 arg22_r0 = 1#1), ∀ a, (k0_off57 arg22_r0) a + S1024x1024.size a ≤ S16384x1024.size a) ∧
  (∀ (k0_h28 : k0_cond28 k0_t1 arg22_r0 = 1#1), ∀ a, (k0_off58 arg21_r0) a + S1x1024x1024.size a ≤ S2x1024x1024.size a)
def k0_chk1 (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) : Prop :=
  k0_chk1_0 k0_t1 arg8_r0 arg9_r0 arg10_r0 arg11_r0 arg12_r0 arg13_r0 arg14_r0 arg15_r0 arg18_r0 arg19_r0 arg20_r0 arg21_r0 arg22_r0 ∧
  k0_chk1_1 k0_t1 arg8_r0 arg9_r0 arg10_r0 arg11_r0 arg12_r0 arg13_r0 arg14_r0 arg15_r0 arg18_r0 arg19_r0 arg20_r0 arg21_r0 arg22_r0
theorem k0_off12_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h2 : k0_cond2 k0_t1 arg22_r0 = 1#1), ∀ a, (k0_off12 arg8_r0) a + S1.size a ≤ S2.size a := fun k0_t1 arg8_r0 arg9_r0 arg10_r0 arg11_r0 arg12_r0 arg13_r0 arg14_r0 arg15_r0 arg18_r0 arg19_r0 arg20_r0 arg21_r0 arg22_r0 k0_hw1 k0_h2 => k0_hw1.1.1 k0_h2
theorem k0_off13_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h2 : k0_cond2 k0_t1 arg22_r0 = 1#1), ∀ a, (k0_off13 arg8_r0) a + S1x1024x384.size a ≤ S2x1024x384.size a := fun k0_t1 arg8_r0 arg9_r0 arg10_r0 arg11_r0 arg12_r0 arg13_r0 arg14_r0 arg15_r0 arg18_r0 arg19_r0 arg20_r0 arg21_r0 arg22_r0 k0_hw1 k0_h2 => k0_hw1.1.2.1 k0_h2
theorem k0_off14_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h2 : k0_cond2 k0_t1 arg22_r0 = 1#1), ∀ a, (k0_off14 arg22_r0) a + S1024x384.size a ≤ S16384x384.size a := fun k0_t1 arg8_r0 arg9_r0 arg10_r0 arg11_r0 arg12_r0 arg13_r0 arg14_r0 arg15_r0 arg18_r0 arg19_r0 arg20_r0 arg21_r0 arg22_r0 k0_hw1 k0_h2 => k0_hw1.1.2.2.1 k0_h2
theorem k0_off14_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h2 : k0_cond2 k0_t1 arg22_r0 = 1#1), (Rect.unit (s := S16384x384) (k0_off14 arg22_r0) S1024x384.size (k0_off14_inb k0_t1 arg8_r0 arg9_r0 arg10_r0 arg11_r0 arg12_r0 arg13_r0 arg14_r0 arg15_r0 arg18_r0 arg19_r0 arg20_r0 arg21_r0 arg22_r0 k0_hw1 k0_h2)).WholeWords (EltTy.packing .bf16) := fun k0_t1 arg8_r0 arg9_r0 arg10_r0 arg11_r0 arg12_r0 arg13_r0 arg14_r0 arg15_r0 arg18_r0 arg19_r0 arg20_r0 arg21_r0 arg22_r0 k0_hw1 k0_h2 => k0_hw1.1.2.2.2.1 k0_h2 (k0_off14_inb k0_t1 arg8_r0 arg9_r0 arg10_r0 arg11_r0 arg12_r0 arg13_r0 arg14_r0 arg15_r0 arg18_r0 arg19_r0 arg20_r0 arg21_r0 arg22_r0 k0_hw1 k0_h2)
theorem k0_off13_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h2 : k0_cond2 k0_t1 arg22_r0 = 1#1), (Rect.unit (s := S2x1024x384) (k0_off13 arg8_r0) S1x1024x384.size (k0_off13_inb k0_t1 arg8_r0 arg9_r0 arg10_r0 arg11_r0 arg12_r0 arg13_r0 arg14_r0 arg15_r0 arg18_r0 arg19_r0 arg20_r0 arg21_r0 arg22_r0 k0_hw1 k0_h2)).WholeWords (EltTy.packing .bf16) := fun k0_t1 arg8_r0 arg9_r0 arg10_r0 arg11_r0 arg12_r0 arg13_r0 arg14_r0 arg15_r0 arg18_r0 arg19_r0 arg20_r0 arg21_r0 arg22_r0 k0_hw1 k0_h2 => k0_hw1.1.2.2.2.2.1 k0_h2 (k0_off13_inb k0_t1 arg8_r0 arg9_r0 arg10_r0 arg11_r0 arg12_r0 arg13_r0 arg14_r0 arg15_r0 arg18_r0 arg19_r0 arg20_r0 arg21_r0 arg22_r0 k0_hw1 k0_h2)
theorem k0_off15_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h3 : k0_cond3 k0_t1 arg22_r0 = 1#1), ∀ a, (k0_off15 arg10_r0) a + S1.size a ≤ S2.size a := fun k0_t1 arg8_r0 arg9_r0 arg10_r0 arg11_r0 arg12_r0 arg13_r0 arg14_r0 arg15_r0 arg18_r0 arg19_r0 arg20_r0 arg21_r0 arg22_r0 k0_hw1 k0_h3 => k0_hw1.1.2.2.2.2.2.1 k0_h3
theorem k0_off16_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h3 : k0_cond3 k0_t1 arg22_r0 = 1#1), ∀ a, (k0_off16 arg10_r0) a + S1x1024x384.size a ≤ S2x1024x384.size a := fun k0_t1 arg8_r0 arg9_r0 arg10_r0 arg11_r0 arg12_r0 arg13_r0 arg14_r0 arg15_r0 arg18_r0 arg19_r0 arg20_r0 arg21_r0 arg22_r0 k0_hw1 k0_h3 => k0_hw1.1.2.2.2.2.2.2.1 k0_h3
theorem k0_off17_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h3 : k0_cond3 k0_t1 arg22_r0 = 1#1), ∀ a, (k0_off17 arg22_r0) a + S1024x384.size a ≤ S16384x384.size a := fun k0_t1 arg8_r0 arg9_r0 arg10_r0 arg11_r0 arg12_r0 arg13_r0 arg14_r0 arg15_r0 arg18_r0 arg19_r0 arg20_r0 arg21_r0 arg22_r0 k0_hw1 k0_h3 => k0_hw1.1.2.2.2.2.2.2.2.1 k0_h3
theorem k0_off17_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h3 : k0_cond3 k0_t1 arg22_r0 = 1#1), (Rect.unit (s := S16384x384) (k0_off17 arg22_r0) S1024x384.size (k0_off17_inb k0_t1 arg8_r0 arg9_r0 arg10_r0 arg11_r0 arg12_r0 arg13_r0 arg14_r0 arg15_r0 arg18_r0 arg19_r0 arg20_r0 arg21_r0 arg22_r0 k0_hw1 k0_h3)).WholeWords (EltTy.packing .bf16) := fun k0_t1 arg8_r0 arg9_r0 arg10_r0 arg11_r0 arg12_r0 arg13_r0 arg14_r0 arg15_r0 arg18_r0 arg19_r0 arg20_r0 arg21_r0 arg22_r0 k0_hw1 k0_h3 => k0_hw1.1.2.2.2.2.2.2.2.2.1 k0_h3 (k0_off17_inb k0_t1 arg8_r0 arg9_r0 arg10_r0 arg11_r0 arg12_r0 arg13_r0 arg14_r0 arg15_r0 arg18_r0 arg19_r0 arg20_r0 arg21_r0 arg22_r0 k0_hw1 k0_h3)
theorem k0_off16_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h3 : k0_cond3 k0_t1 arg22_r0 = 1#1), (Rect.unit (s := S2x1024x384) (k0_off16 arg10_r0) S1x1024x384.size (k0_off16_inb k0_t1 arg8_r0 arg9_r0 arg10_r0 arg11_r0 arg12_r0 arg13_r0 arg14_r0 arg15_r0 arg18_r0 arg19_r0 arg20_r0 arg21_r0 arg22_r0 k0_hw1 k0_h3)).WholeWords (EltTy.packing .bf16) := fun k0_t1 arg8_r0 arg9_r0 arg10_r0 arg11_r0 arg12_r0 arg13_r0 arg14_r0 arg15_r0 arg18_r0 arg19_r0 arg20_r0 arg21_r0 arg22_r0 k0_hw1 k0_h3 => k0_hw1.1.2.2.2.2.2.2.2.2.2.1 k0_h3 (k0_off16_inb k0_t1 arg8_r0 arg9_r0 arg10_r0 arg11_r0 arg12_r0 arg13_r0 arg14_r0 arg15_r0 arg18_r0 arg19_r0 arg20_r0 arg21_r0 arg22_r0 k0_hw1 k0_h3)
theorem k0_off18_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h4 : k0_cond4 k0_t1 arg22_r0 = 1#1), ∀ a, (k0_off18 arg12_r0) a + S1.size a ≤ S2.size a := fun k0_t1 arg8_r0 arg9_r0 arg10_r0 arg11_r0 arg12_r0 arg13_r0 arg14_r0 arg15_r0 arg18_r0 arg19_r0 arg20_r0 arg21_r0 arg22_r0 k0_hw1 k0_h4 => k0_hw1.1.2.2.2.2.2.2.2.2.2.2.1 k0_h4
theorem k0_off19_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h4 : k0_cond4 k0_t1 arg22_r0 = 1#1), ∀ a, (k0_off19 arg12_r0) a + S1x1024x256.size a ≤ S2x1024x256.size a := fun k0_t1 arg8_r0 arg9_r0 arg10_r0 arg11_r0 arg12_r0 arg13_r0 arg14_r0 arg15_r0 arg18_r0 arg19_r0 arg20_r0 arg21_r0 arg22_r0 k0_hw1 k0_h4 => k0_hw1.1.2.2.2.2.2.2.2.2.2.2.2.1 k0_h4
theorem k0_off20_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h4 : k0_cond4 k0_t1 arg22_r0 = 1#1), ∀ a, (k0_off20 arg22_r0) a + S1024x256.size a ≤ S16384x256.size a := fun k0_t1 arg8_r0 arg9_r0 arg10_r0 arg11_r0 arg12_r0 arg13_r0 arg14_r0 arg15_r0 arg18_r0 arg19_r0 arg20_r0 arg21_r0 arg22_r0 k0_hw1 k0_h4 => k0_hw1.1.2.2.2.2.2.2.2.2.2.2.2.2.1 k0_h4
theorem k0_off20_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h4 : k0_cond4 k0_t1 arg22_r0 = 1#1), (Rect.unit (s := S16384x256) (k0_off20 arg22_r0) S1024x256.size (k0_off20_inb k0_t1 arg8_r0 arg9_r0 arg10_r0 arg11_r0 arg12_r0 arg13_r0 arg14_r0 arg15_r0 arg18_r0 arg19_r0 arg20_r0 arg21_r0 arg22_r0 k0_hw1 k0_h4)).WholeWords (EltTy.packing .bf16) := fun k0_t1 arg8_r0 arg9_r0 arg10_r0 arg11_r0 arg12_r0 arg13_r0 arg14_r0 arg15_r0 arg18_r0 arg19_r0 arg20_r0 arg21_r0 arg22_r0 k0_hw1 k0_h4 => k0_hw1.1.2.2.2.2.2.2.2.2.2.2.2.2.2.1 k0_h4 (k0_off20_inb k0_t1 arg8_r0 arg9_r0 arg10_r0 arg11_r0 arg12_r0 arg13_r0 arg14_r0 arg15_r0 arg18_r0 arg19_r0 arg20_r0 arg21_r0 arg22_r0 k0_hw1 k0_h4)
theorem k0_off19_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h4 : k0_cond4 k0_t1 arg22_r0 = 1#1), (Rect.unit (s := S2x1024x256) (k0_off19 arg12_r0) S1x1024x256.size (k0_off19_inb k0_t1 arg8_r0 arg9_r0 arg10_r0 arg11_r0 arg12_r0 arg13_r0 arg14_r0 arg15_r0 arg18_r0 arg19_r0 arg20_r0 arg21_r0 arg22_r0 k0_hw1 k0_h4)).WholeWords (EltTy.packing .bf16) := fun k0_t1 arg8_r0 arg9_r0 arg10_r0 arg11_r0 arg12_r0 arg13_r0 arg14_r0 arg15_r0 arg18_r0 arg19_r0 arg20_r0 arg21_r0 arg22_r0 k0_hw1 k0_h4 => k0_hw1.1.2.2.2.2.2.2.2.2.2.2.2.2.2.2.1 k0_h4 (k0_off19_inb k0_t1 arg8_r0 arg9_r0 arg10_r0 arg11_r0 arg12_r0 arg13_r0 arg14_r0 arg15_r0 arg18_r0 arg19_r0 arg20_r0 arg21_r0 arg22_r0 k0_hw1 k0_h4)
theorem k0_off21_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h5 : k0_cond5 k0_t1 arg22_r0 = 1#1), ∀ a, (k0_off21 arg14_r0) a + S1.size a ≤ S2.size a := fun k0_t1 arg8_r0 arg9_r0 arg10_r0 arg11_r0 arg12_r0 arg13_r0 arg14_r0 arg15_r0 arg18_r0 arg19_r0 arg20_r0 arg21_r0 arg22_r0 k0_hw1 k0_h5 => k0_hw1.1.2.2.2.2.2.2.2.2.2.2.2.2.2.2.2.1 k0_h5
theorem k0_off22_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h5 : k0_cond5 k0_t1 arg22_r0 = 1#1), ∀ a, (k0_off22 arg14_r0).2 a = 0 ∨ (k0_off22 arg14_r0).1 a + (k0_off22 arg14_r0).2 a ≤ S2x1024x384.size a := fun k0_t1 arg8_r0 arg9_r0 arg10_r0 arg11_r0 arg12_r0 arg13_r0 arg14_r0 arg15_r0 arg18_r0 arg19_r0 arg20_r0 arg21_r0 arg22_r0 k0_hw1 k0_h5 => k0_hw1.1.2.2.2.2.2.2.2.2.2.2.2.2.2.2.2.2.1 k0_h5
theorem k0_sz2_squeezes : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h5 : k0_cond5 k0_t1 arg22_r0 = 1#1), (⟨3, (k0_off22 arg14_r0).2⟩ : Shape).Squeezes ⟨2, k0_sz2⟩ := fun k0_t1 arg8_r0 arg9_r0 arg10_r0 arg11_r0 arg12_r0 arg13_r0 arg14_r0 arg15_r0 arg18_r0 arg19_r0 arg20_r0 arg21_r0 arg22_r0 k0_hw1 k0_h5 => k0_hw1.1.2.2.2.2.2.2.2.2.2.2.2.2.2.2.2.2.2.1 k0_h5
theorem k0_off23_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h5 : k0_cond5 k0_t1 arg22_r0 = 1#1), ∀ a, (k0_off23 arg22_r0).2 a = 0 ∨ (k0_off23 arg22_r0).1 a + (k0_off23 arg22_r0).2 a ≤ S16384x3584.size a := fun k0_t1 arg8_r0 arg9_r0 arg10_r0 arg11_r0 arg12_r0 arg13_r0 arg14_r0 arg15_r0 arg18_r0 arg19_r0 arg20_r0 arg21_r0 arg22_r0 k0_hw1 k0_h5 => k0_hw1.1.2.2.2.2.2.2.2.2.2.2.2.2.2.2.2.2.2.2.1 k0_h5
theorem k0_off23_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h5 : k0_cond5 k0_t1 arg22_r0 = 1#1), (Rect.unitDyn (s := S16384x3584) (k0_off23 arg22_r0).1 (k0_off23 arg22_r0).2 (k0_off23_inb k0_t1 arg8_r0 arg9_r0 arg10_r0 arg11_r0 arg12_r0 arg13_r0 arg14_r0 arg15_r0 arg18_r0 arg19_r0 arg20_r0 arg21_r0 arg22_r0 k0_hw1 k0_h5)).WholeWords (EltTy.packing .bf16) := fun k0_t1 arg8_r0 arg9_r0 arg10_r0 arg11_r0 arg12_r0 arg13_r0 arg14_r0 arg15_r0 arg18_r0 arg19_r0 arg20_r0 arg21_r0 arg22_r0 k0_hw1 k0_h5 => k0_hw1.1.2.2.2.2.2.2.2.2.2.2.2.2.2.2.2.2.2.2.2.1 k0_h5 (k0_off23_inb k0_t1 arg8_r0 arg9_r0 arg10_r0 arg11_r0 arg12_r0 arg13_r0 arg14_r0 arg15_r0 arg18_r0 arg19_r0 arg20_r0 arg21_r0 arg22_r0 k0_hw1 k0_h5)
theorem k0_off22_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h5 : k0_cond5 k0_t1 arg22_r0 = 1#1), (Rect.unitDyn (s := S2x1024x384) (k0_off22 arg14_r0).1 (k0_off22 arg14_r0).2 (k0_off22_inb k0_t1 arg8_r0 arg9_r0 arg10_r0 arg11_r0 arg12_r0 arg13_r0 arg14_r0 arg15_r0 arg18_r0 arg19_r0 arg20_r0 arg21_r0 arg22_r0 k0_hw1 k0_h5)).WholeWords (EltTy.packing .bf16) := fun k0_t1 arg8_r0 arg9_r0 arg10_r0 arg11_r0 arg12_r0 arg13_r0 arg14_r0 arg15_r0 arg18_r0 arg19_r0 arg20_r0 arg21_r0 arg22_r0 k0_hw1 k0_h5 => k0_hw1.1.2.2.2.2.2.2.2.2.2.2.2.2.2.2.2.2.2.2.2.2.1 k0_h5 (k0_off22_inb k0_t1 arg8_r0 arg9_r0 arg10_r0 arg11_r0 arg12_r0 arg13_r0 arg14_r0 arg15_r0 arg18_r0 arg19_r0 arg20_r0 arg21_r0 arg22_r0 k0_hw1 k0_h5)
theorem k0_off26_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h7 : k0_cond7 k0_t1 arg22_r0 = 1#1), ∀ a, (k0_off26 arg18_r0) a + S1.size a ≤ S3.size a := fun k0_t1 arg8_r0 arg9_r0 arg10_r0 arg11_r0 arg12_r0 arg13_r0 arg14_r0 arg15_r0 arg18_r0 arg19_r0 arg20_r0 arg21_r0 arg22_r0 k0_hw1 k0_h7 => k0_hw1.1.2.2.2.2.2.2.2.2.2.2.2.2.2.2.2.2.2.2.2.2.2.1 k0_h7
theorem k0_off27_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h7 : k0_cond7 k0_t1 arg22_r0 = 1#1), ∀ a, (k0_off27 arg18_r0) a + S1x1024x1024.size a ≤ S3x1024x1024.size a := fun k0_t1 arg8_r0 arg9_r0 arg10_r0 arg11_r0 arg12_r0 arg13_r0 arg14_r0 arg15_r0 arg18_r0 arg19_r0 arg20_r0 arg21_r0 arg22_r0 k0_hw1 k0_h7 => k0_hw1.1.2.2.2.2.2.2.2.2.2.2.2.2.2.2.2.2.2.2.2.2.2.2.1 k0_h7
theorem k0_off28_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h7 : k0_cond7 k0_t1 arg22_r0 = 1#1), ∀ a, (k0_off28 arg22_r0) a + S1024x1024.size a ≤ S16384x1024.size a := fun k0_t1 arg8_r0 arg9_r0 arg10_r0 arg11_r0 arg12_r0 arg13_r0 arg14_r0 arg15_r0 arg18_r0 arg19_r0 arg20_r0 arg21_r0 arg22_r0 k0_hw1 k0_h7 => k0_hw1.1.2.2.2.2.2.2.2.2.2.2.2.2.2.2.2.2.2.2.2.2.2.2.2.1 k0_h7
theorem k0_off29_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h8 : k0_cond8 k0_t1 arg22_r0 = 1#1), ∀ a, (k0_off29 arg9_r0) a + S1.size a ≤ S2.size a := fun k0_t1 arg8_r0 arg9_r0 arg10_r0 arg11_r0 arg12_r0 arg13_r0 arg14_r0 arg15_r0 arg18_r0 arg19_r0 arg20_r0 arg21_r0 arg22_r0 k0_hw1 k0_h8 => k0_hw1.1.2.2.2.2.2.2.2.2.2.2.2.2.2.2.2.2.2.2.2.2.2.2.2.2.1 k0_h8
theorem k0_off30_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h8 : k0_cond8 k0_t1 arg22_r0 = 1#1), ∀ a, (k0_off30 arg9_r0) a + S1x1024x384.size a ≤ S2x1024x384.size a := fun k0_t1 arg8_r0 arg9_r0 arg10_r0 arg11_r0 arg12_r0 arg13_r0 arg14_r0 arg15_r0 arg18_r0 arg19_r0 arg20_r0 arg21_r0 arg22_r0 k0_hw1 k0_h8 => k0_hw1.1.2.2.2.2.2.2.2.2.2.2.2.2.2.2.2.2.2.2.2.2.2.2.2.2.2.1 k0_h8
theorem k0_off31_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h8 : k0_cond8 k0_t1 arg22_r0 = 1#1), ∀ a, (k0_off31 arg22_r0) a + S1024x384.size a ≤ S16384x384.size a := fun k0_t1 arg8_r0 arg9_r0 arg10_r0 arg11_r0 arg12_r0 arg13_r0 arg14_r0 arg15_r0 arg18_r0 arg19_r0 arg20_r0 arg21_r0 arg22_r0 k0_hw1 k0_h8 => k0_hw1.1.2.2.2.2.2.2.2.2.2.2.2.2.2.2.2.2.2.2.2.2.2.2.2.2.2.2.1 k0_h8
theorem k0_off31_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h8 : k0_cond8 k0_t1 arg22_r0 = 1#1), (Rect.unit (s := S16384x384) (k0_off31 arg22_r0) S1024x384.size (k0_off31_inb k0_t1 arg8_r0 arg9_r0 arg10_r0 arg11_r0 arg12_r0 arg13_r0 arg14_r0 arg15_r0 arg18_r0 arg19_r0 arg20_r0 arg21_r0 arg22_r0 k0_hw1 k0_h8)).WholeWords (EltTy.packing .bf16) := fun k0_t1 arg8_r0 arg9_r0 arg10_r0 arg11_r0 arg12_r0 arg13_r0 arg14_r0 arg15_r0 arg18_r0 arg19_r0 arg20_r0 arg21_r0 arg22_r0 k0_hw1 k0_h8 => k0_hw1.1.2.2.2.2.2.2.2.2.2.2.2.2.2.2.2.2.2.2.2.2.2.2.2.2.2.2.2.1 k0_h8 (k0_off31_inb k0_t1 arg8_r0 arg9_r0 arg10_r0 arg11_r0 arg12_r0 arg13_r0 arg14_r0 arg15_r0 arg18_r0 arg19_r0 arg20_r0 arg21_r0 arg22_r0 k0_hw1 k0_h8)
theorem k0_off30_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h8 : k0_cond8 k0_t1 arg22_r0 = 1#1), (Rect.unit (s := S2x1024x384) (k0_off30 arg9_r0) S1x1024x384.size (k0_off30_inb k0_t1 arg8_r0 arg9_r0 arg10_r0 arg11_r0 arg12_r0 arg13_r0 arg14_r0 arg15_r0 arg18_r0 arg19_r0 arg20_r0 arg21_r0 arg22_r0 k0_hw1 k0_h8)).WholeWords (EltTy.packing .bf16) := fun k0_t1 arg8_r0 arg9_r0 arg10_r0 arg11_r0 arg12_r0 arg13_r0 arg14_r0 arg15_r0 arg18_r0 arg19_r0 arg20_r0 arg21_r0 arg22_r0 k0_hw1 k0_h8 => k0_hw1.1.2.2.2.2.2.2.2.2.2.2.2.2.2.2.2.2.2.2.2.2.2.2.2.2.2.2.2.2.1 k0_h8 (k0_off30_inb k0_t1 arg8_r0 arg9_r0 arg10_r0 arg11_r0 arg12_r0 arg13_r0 arg14_r0 arg15_r0 arg18_r0 arg19_r0 arg20_r0 arg21_r0 arg22_r0 k0_hw1 k0_h8)
theorem k0_off32_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h9 : k0_cond9 k0_t1 arg22_r0 = 1#1), ∀ a, (k0_off32 arg11_r0) a + S1.size a ≤ S2.size a := fun k0_t1 arg8_r0 arg9_r0 arg10_r0 arg11_r0 arg12_r0 arg13_r0 arg14_r0 arg15_r0 arg18_r0 arg19_r0 arg20_r0 arg21_r0 arg22_r0 k0_hw1 k0_h9 => k0_hw1.1.2.2.2.2.2.2.2.2.2.2.2.2.2.2.2.2.2.2.2.2.2.2.2.2.2.2.2.2.2.1 k0_h9
theorem k0_off33_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h9 : k0_cond9 k0_t1 arg22_r0 = 1#1), ∀ a, (k0_off33 arg11_r0) a + S1x1024x384.size a ≤ S2x1024x384.size a := fun k0_t1 arg8_r0 arg9_r0 arg10_r0 arg11_r0 arg12_r0 arg13_r0 arg14_r0 arg15_r0 arg18_r0 arg19_r0 arg20_r0 arg21_r0 arg22_r0 k0_hw1 k0_h9 => k0_hw1.1.2.2.2.2.2.2.2.2.2.2.2.2.2.2.2.2.2.2.2.2.2.2.2.2.2.2.2.2.2.2.1 k0_h9
theorem k0_off34_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h9 : k0_cond9 k0_t1 arg22_r0 = 1#1), ∀ a, (k0_off34 arg22_r0) a + S1024x384.size a ≤ S16384x384.size a := fun k0_t1 arg8_r0 arg9_r0 arg10_r0 arg11_r0 arg12_r0 arg13_r0 arg14_r0 arg15_r0 arg18_r0 arg19_r0 arg20_r0 arg21_r0 arg22_r0 k0_hw1 k0_h9 => k0_hw1.1.2.2.2.2.2.2.2.2.2.2.2.2.2.2.2.2.2.2.2.2.2.2.2.2.2.2.2.2.2.2.2 k0_h9
theorem k0_off34_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h9 : k0_cond9 k0_t1 arg22_r0 = 1#1), (Rect.unit (s := S16384x384) (k0_off34 arg22_r0) S1024x384.size (k0_off34_inb k0_t1 arg8_r0 arg9_r0 arg10_r0 arg11_r0 arg12_r0 arg13_r0 arg14_r0 arg15_r0 arg18_r0 arg19_r0 arg20_r0 arg21_r0 arg22_r0 k0_hw1 k0_h9)).WholeWords (EltTy.packing .bf16) := fun k0_t1 arg8_r0 arg9_r0 arg10_r0 arg11_r0 arg12_r0 arg13_r0 arg14_r0 arg15_r0 arg18_r0 arg19_r0 arg20_r0 arg21_r0 arg22_r0 k0_hw1 k0_h9 => k0_hw1.2.1 k0_h9 (k0_off34_inb k0_t1 arg8_r0 arg9_r0 arg10_r0 arg11_r0 arg12_r0 arg13_r0 arg14_r0 arg15_r0 arg18_r0 arg19_r0 arg20_r0 arg21_r0 arg22_r0 k0_hw1 k0_h9)
theorem k0_off33_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h9 : k0_cond9 k0_t1 arg22_r0 = 1#1), (Rect.unit (s := S2x1024x384) (k0_off33 arg11_r0) S1x1024x384.size (k0_off33_inb k0_t1 arg8_r0 arg9_r0 arg10_r0 arg11_r0 arg12_r0 arg13_r0 arg14_r0 arg15_r0 arg18_r0 arg19_r0 arg20_r0 arg21_r0 arg22_r0 k0_hw1 k0_h9)).WholeWords (EltTy.packing .bf16) := fun k0_t1 arg8_r0 arg9_r0 arg10_r0 arg11_r0 arg12_r0 arg13_r0 arg14_r0 arg15_r0 arg18_r0 arg19_r0 arg20_r0 arg21_r0 arg22_r0 k0_hw1 k0_h9 => k0_hw1.2.2.1 k0_h9 (k0_off33_inb k0_t1 arg8_r0 arg9_r0 arg10_r0 arg11_r0 arg12_r0 arg13_r0 arg14_r0 arg15_r0 arg18_r0 arg19_r0 arg20_r0 arg21_r0 arg22_r0 k0_hw1 k0_h9)
theorem k0_off35_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h10 : k0_cond10 k0_t1 arg22_r0 = 1#1), ∀ a, (k0_off35 arg13_r0) a + S1.size a ≤ S2.size a := fun k0_t1 arg8_r0 arg9_r0 arg10_r0 arg11_r0 arg12_r0 arg13_r0 arg14_r0 arg15_r0 arg18_r0 arg19_r0 arg20_r0 arg21_r0 arg22_r0 k0_hw1 k0_h10 => k0_hw1.2.2.2.1 k0_h10
theorem k0_off36_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h10 : k0_cond10 k0_t1 arg22_r0 = 1#1), ∀ a, (k0_off36 arg13_r0) a + S1x1024x256.size a ≤ S2x1024x256.size a := fun k0_t1 arg8_r0 arg9_r0 arg10_r0 arg11_r0 arg12_r0 arg13_r0 arg14_r0 arg15_r0 arg18_r0 arg19_r0 arg20_r0 arg21_r0 arg22_r0 k0_hw1 k0_h10 => k0_hw1.2.2.2.2.1 k0_h10
theorem k0_off37_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h10 : k0_cond10 k0_t1 arg22_r0 = 1#1), ∀ a, (k0_off37 arg22_r0) a + S1024x256.size a ≤ S16384x256.size a := fun k0_t1 arg8_r0 arg9_r0 arg10_r0 arg11_r0 arg12_r0 arg13_r0 arg14_r0 arg15_r0 arg18_r0 arg19_r0 arg20_r0 arg21_r0 arg22_r0 k0_hw1 k0_h10 => k0_hw1.2.2.2.2.2.1 k0_h10
theorem k0_off37_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h10 : k0_cond10 k0_t1 arg22_r0 = 1#1), (Rect.unit (s := S16384x256) (k0_off37 arg22_r0) S1024x256.size (k0_off37_inb k0_t1 arg8_r0 arg9_r0 arg10_r0 arg11_r0 arg12_r0 arg13_r0 arg14_r0 arg15_r0 arg18_r0 arg19_r0 arg20_r0 arg21_r0 arg22_r0 k0_hw1 k0_h10)).WholeWords (EltTy.packing .bf16) := fun k0_t1 arg8_r0 arg9_r0 arg10_r0 arg11_r0 arg12_r0 arg13_r0 arg14_r0 arg15_r0 arg18_r0 arg19_r0 arg20_r0 arg21_r0 arg22_r0 k0_hw1 k0_h10 => k0_hw1.2.2.2.2.2.2.1 k0_h10 (k0_off37_inb k0_t1 arg8_r0 arg9_r0 arg10_r0 arg11_r0 arg12_r0 arg13_r0 arg14_r0 arg15_r0 arg18_r0 arg19_r0 arg20_r0 arg21_r0 arg22_r0 k0_hw1 k0_h10)
theorem k0_off36_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h10 : k0_cond10 k0_t1 arg22_r0 = 1#1), (Rect.unit (s := S2x1024x256) (k0_off36 arg13_r0) S1x1024x256.size (k0_off36_inb k0_t1 arg8_r0 arg9_r0 arg10_r0 arg11_r0 arg12_r0 arg13_r0 arg14_r0 arg15_r0 arg18_r0 arg19_r0 arg20_r0 arg21_r0 arg22_r0 k0_hw1 k0_h10)).WholeWords (EltTy.packing .bf16) := fun k0_t1 arg8_r0 arg9_r0 arg10_r0 arg11_r0 arg12_r0 arg13_r0 arg14_r0 arg15_r0 arg18_r0 arg19_r0 arg20_r0 arg21_r0 arg22_r0 k0_hw1 k0_h10 => k0_hw1.2.2.2.2.2.2.2.1 k0_h10 (k0_off36_inb k0_t1 arg8_r0 arg9_r0 arg10_r0 arg11_r0 arg12_r0 arg13_r0 arg14_r0 arg15_r0 arg18_r0 arg19_r0 arg20_r0 arg21_r0 arg22_r0 k0_hw1 k0_h10)
theorem k0_off38_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h11 : k0_cond11 k0_t1 arg22_r0 = 1#1), ∀ a, (k0_off38 arg15_r0) a + S1.size a ≤ S2.size a := fun k0_t1 arg8_r0 arg9_r0 arg10_r0 arg11_r0 arg12_r0 arg13_r0 arg14_r0 arg15_r0 arg18_r0 arg19_r0 arg20_r0 arg21_r0 arg22_r0 k0_hw1 k0_h11 => k0_hw1.2.2.2.2.2.2.2.2.1 k0_h11
theorem k0_sz3_squeezes : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h11 : k0_cond11 k0_t1 arg22_r0 = 1#1), (⟨3, (k0_off39 arg15_r0).2⟩ : Shape).Squeezes ⟨2, k0_sz3⟩ := fun k0_t1 arg8_r0 arg9_r0 arg10_r0 arg11_r0 arg12_r0 arg13_r0 arg14_r0 arg15_r0 arg18_r0 arg19_r0 arg20_r0 arg21_r0 arg22_r0 k0_hw1 k0_h11 => k0_hw1.2.2.2.2.2.2.2.2.2.1 k0_h11
theorem k0_off43_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h13 : k0_cond13 k0_t1 arg22_r0 = 1#1), ∀ a, (k0_off43 arg19_r0) a + S1.size a ≤ S3.size a := fun k0_t1 arg8_r0 arg9_r0 arg10_r0 arg11_r0 arg12_r0 arg13_r0 arg14_r0 arg15_r0 arg18_r0 arg19_r0 arg20_r0 arg21_r0 arg22_r0 k0_hw1 k0_h13 => k0_hw1.2.2.2.2.2.2.2.2.2.2.1 k0_h13
theorem k0_off44_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h13 : k0_cond13 k0_t1 arg22_r0 = 1#1), ∀ a, (k0_off44 arg19_r0) a + S1x1024x1024.size a ≤ S3x1024x1024.size a := fun k0_t1 arg8_r0 arg9_r0 arg10_r0 arg11_r0 arg12_r0 arg13_r0 arg14_r0 arg15_r0 arg18_r0 arg19_r0 arg20_r0 arg21_r0 arg22_r0 k0_hw1 k0_h13 => k0_hw1.2.2.2.2.2.2.2.2.2.2.2.1 k0_h13
theorem k0_off45_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h13 : k0_cond13 k0_t1 arg22_r0 = 1#1), ∀ a, (k0_off45 arg22_r0) a + S1024x1024.size a ≤ S16384x1024.size a := fun k0_t1 arg8_r0 arg9_r0 arg10_r0 arg11_r0 arg12_r0 arg13_r0 arg14_r0 arg15_r0 arg18_r0 arg19_r0 arg20_r0 arg21_r0 arg22_r0 k0_hw1 k0_h13 => k0_hw1.2.2.2.2.2.2.2.2.2.2.2.2.1 k0_h13
theorem k0_off53_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h21 : k0_cond21 k0_t1 arg22_r0 = 1#1), ∀ a, (k0_off53 arg20_r0) a + S1.size a ≤ S2.size a := fun k0_t1 arg8_r0 arg9_r0 arg10_r0 arg11_r0 arg12_r0 arg13_r0 arg14_r0 arg15_r0 arg18_r0 arg19_r0 arg20_r0 arg21_r0 arg22_r0 k0_hw1 k0_h21 => k0_hw1.2.2.2.2.2.2.2.2.2.2.2.2.2.1 k0_h21
theorem k0_off54_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h21 : k0_cond21 k0_t1 arg22_r0 = 1#1), ∀ a, (k0_off54 arg22_r0) a + S1024x1024.size a ≤ S16384x1024.size a := fun k0_t1 arg8_r0 arg9_r0 arg10_r0 arg11_r0 arg12_r0 arg13_r0 arg14_r0 arg15_r0 arg18_r0 arg19_r0 arg20_r0 arg21_r0 arg22_r0 k0_hw1 k0_h21 => k0_hw1.2.2.2.2.2.2.2.2.2.2.2.2.2.2.1 k0_h21
theorem k0_off55_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h21 : k0_cond21 k0_t1 arg22_r0 = 1#1), ∀ a, (k0_off55 arg20_r0) a + S1x1024x1024.size a ≤ S2x1024x1024.size a := fun k0_t1 arg8_r0 arg9_r0 arg10_r0 arg11_r0 arg12_r0 arg13_r0 arg14_r0 arg15_r0 arg18_r0 arg19_r0 arg20_r0 arg21_r0 arg22_r0 k0_hw1 k0_h21 => k0_hw1.2.2.2.2.2.2.2.2.2.2.2.2.2.2.2.1 k0_h21
theorem k0_off56_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h28 : k0_cond28 k0_t1 arg22_r0 = 1#1), ∀ a, (k0_off56 arg21_r0) a + S1.size a ≤ S2.size a := fun k0_t1 arg8_r0 arg9_r0 arg10_r0 arg11_r0 arg12_r0 arg13_r0 arg14_r0 arg15_r0 arg18_r0 arg19_r0 arg20_r0 arg21_r0 arg22_r0 k0_hw1 k0_h28 => k0_hw1.2.2.2.2.2.2.2.2.2.2.2.2.2.2.2.2.1 k0_h28
theorem k0_off57_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h28 : k0_cond28 k0_t1 arg22_r0 = 1#1), ∀ a, (k0_off57 arg22_r0) a + S1024x1024.size a ≤ S16384x1024.size a := fun k0_t1 arg8_r0 arg9_r0 arg10_r0 arg11_r0 arg12_r0 arg13_r0 arg14_r0 arg15_r0 arg18_r0 arg19_r0 arg20_r0 arg21_r0 arg22_r0 k0_hw1 k0_h28 => k0_hw1.2.2.2.2.2.2.2.2.2.2.2.2.2.2.2.2.2.1 k0_h28
theorem k0_off58_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg18_r0 arg19_r0 arg20_r0 arg21_r0 arg22_r0), ∀ (k0_h28 : k0_cond28 k0_t1 arg22_r0 = 1#1), ∀ a, (k0_off58 arg21_r0) a + S1x1024x1024.size a ≤ S2x1024x1024.size a := fun k0_t1 arg8_r0 arg9_r0 arg10_r0 arg11_r0 arg12_r0 arg13_r0 arg14_r0 arg15_r0 arg18_r0 arg19_r0 arg20_r0 arg21_r0 arg22_r0 k0_hw1 k0_h28 => k0_hw1.2.2.2.2.2.2.2.2.2.2.2.2.2.2.2.2.2.2 k0_h28

def k0_off59 (v77_13_r0 : BitVec 32) : Fin 1 → Nat :=
  let c2_i32_112_r0 : BitVec 32 := 2#32
  let v103_r0 : BitVec 32 := Scalar.remui v77_13_r0 c2_i32_112_r0
  ![v103_r0.toNat]

def k0_off60 (v77_14_r0 : BitVec 32) : Fin 2 → Nat :=
  let c1024_i32_r0 : BitVec 32 := 1024#32
  let true_88_r0 : BitVec 1 := 1#1
  let c1_i32_87_r0 : BitVec 32 := 1#32
  let v78_r0 : BitVec 32 := Scalar.subi v77_14_r0 c1_i32_87_r0
  let v79_r0 : BitVec 32 := Scalar.select true_88_r0 v78_r0 v77_14_r0
  let c_m1_i32_89_r0 : BitVec 32 := 4294967295#32
  let v80_r0 : BitVec 1 := Scalar.cmpi .eq v79_r0 c_m1_i32_89_r0
  let c15_i32_90_r0 : BitVec 32 := 15#32
  let v81_r0 : BitVec 32 := Scalar.select v80_r0 c15_i32_90_r0 v79_r0
  let c0_i32_91_r0 : BitVec 32 := 0#32
  let v82_r0 : BitVec 32 := Scalar.addi v81_r0 c0_i32_91_r0
  let v104_r0 : BitVec 32 := Scalar.muli c1024_i32_r0 v82_r0
  let c0_i32_113_r0 : BitVec 32 := 0#32
  ![v104_r0.toNat, 0]

def k0_chk11 (v77_14_r0 : BitVec 32) : Prop :=
  (∀ a, (k0_off60 v77_14_r0) a + S1024x1024.size a ≤ S16384x1024.size a)
theorem k0_off60_inb : ∀ (v77_14_r0 : BitVec 32) (k0_hw11 : k0_chk11 v77_14_r0), ∀ a, (k0_off60 v77_14_r0) a + S1024x1024.size a ≤ S16384x1024.size a := fun v77_14_r0 k0_hw11 => k0_hw11

def k0_off61 (v77_13_r0 : BitVec 32) : Fin 3 → Nat :=
  let c2_i32_112_r0 : BitVec 32 := 2#32
  let v103_r0 : BitVec 32 := Scalar.remui v77_13_r0 c2_i32_112_r0
  let c0_i32_114_r0 : BitVec 32 := 0#32
  let c0_i32_115_r0 : BitVec 32 := 0#32
  ![v103_r0.toNat, 0, 0]

def k0_chk10 (v77_13_r0 : BitVec 32) : Prop :=
  (∀ a, (k0_off59 v77_13_r0) a + S1.size a ≤ S2.size a) ∧
  (∀ a, (k0_off61 v77_13_r0) a + S1x1024x1024.size a ≤ S2x1024x1024.size a)
theorem k0_off59_inb : ∀ (v77_13_r0 : BitVec 32) (k0_hw10 : k0_chk10 v77_13_r0), ∀ a, (k0_off59 v77_13_r0) a + S1.size a ≤ S2.size a := fun v77_13_r0 k0_hw10 => k0_hw10.1
theorem k0_off61_inb : ∀ (v77_13_r0 : BitVec 32) (k0_hw10 : k0_chk10 v77_13_r0), ∀ a, (k0_off61 v77_13_r0) a + S1x1024x1024.size a ≤ S2x1024x1024.size a := fun v77_13_r0 k0_hw10 => k0_hw10.2
-- ==== ReferenceIdeal.lean ====
abbrev S8x2048x384 : Shape := ⟨3, ![8, 2048, 384]⟩
abbrev S8x2048x256 : Shape := ⟨3, ![8, 2048, 256]⟩
abbrev S8x2048x3584 : Shape := ⟨3, ![8, 2048, 3584]⟩
abbrev S4x1024x1024 : Shape := ⟨3, ![4, 1024, 1024]⟩
abbrev S8x2048x1024 : Shape := ⟨3, ![8, 2048, 1024]⟩
abbrev S_ : Shape := ⟨0, ![]⟩
abbrev S1x1024x1024 : Shape := ⟨3, ![1, 1024, 1024]⟩
abbrev S1024x1024 : Shape := ⟨2, ![1024, 1024]⟩
abbrev S16384x1024 : Shape := ⟨2, ![16384, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8x2048x384, .bf16⟩
  | .hbm, ⟨1, _⟩ => ⟨S8x2048x384, .bf16⟩
  | .hbm, ⟨2, _⟩ => ⟨S8x2048x256, .bf16⟩
  | .hbm, ⟨3, _⟩ => ⟨S8x2048x3584, .bf16⟩
  | .hbm, ⟨4, _⟩ => ⟨S4x1024x1024, .f32⟩
  | .hbm, ⟨5, _⟩ => ⟨S8x2048x1024, .f32⟩
  | .hbm, ⟨6, _⟩ => ⟨S8x2048x384, .bf16⟩
  | .hbm, ⟨7, _⟩ => ⟨S8x2048x384, .f32⟩
  | .hbm, ⟨8, _⟩ => ⟨S8x2048x384, .f32⟩
  | .hbm, ⟨9, _⟩ => ⟨S8x2048x384, .f32⟩
  | .hbm, ⟨10, _⟩ => ⟨S8x2048x384, .f32⟩
  | .hbm, ⟨11, _⟩ => ⟨S_, .f32⟩
  | .hbm, ⟨12, _⟩ => ⟨S8x2048x384, .f32⟩
  | .hbm, ⟨13, _⟩ => ⟨S8x2048x384, .f32⟩
  | .hbm, ⟨14, _⟩ => ⟨S_, .f32⟩
  | .hbm, ⟨15, _⟩ => ⟨S8x2048x384, .f32⟩
  | .hbm, ⟨16, _⟩ => ⟨S8x2048x384, .f32⟩
  | .hbm, ⟨17, _⟩ => ⟨S8x2048x384, .f32⟩
  | .hbm, ⟨18, _⟩ => ⟨S8x2048x384, .f32⟩
  | .hbm, ⟨19, _⟩ => ⟨S8x2048x384, .f32⟩
  | .hbm, ⟨20, _⟩ => ⟨S8x2048x256, .f32⟩
  | .hbm, ⟨21, _⟩ => ⟨S8x2048x1024, .f32⟩
  | .hbm, ⟨22, _⟩ => ⟨S1x1024x1024, .f32⟩
  | .hbm, ⟨23, _⟩ => ⟨S1024x1024, .f32⟩
  | .hbm, ⟨24, _⟩ => ⟨S8x2048x1024, .f32⟩
  | .hbm, ⟨25, _⟩ => ⟨S8x2048x1024, .f32⟩
  | .hbm, ⟨26, _⟩ => ⟨S16384x1024, .f32⟩
  | _, _ => ⟨S8x2048x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩

abbrev nD : Nat := 1
abbrev τ : Topo := Topo.v7x

variable {F : FTy → Type} [FloatOps F]
-- ==== Kernel2.lean ====
abbrev S8x2048x384 : Shape := ⟨3, ![8, 2048, 384]⟩
abbrev S8x2048x256 : Shape := ⟨3, ![8, 2048, 256]⟩
abbrev S8x2048x3584 : Shape := ⟨3, ![8, 2048, 3584]⟩
abbrev S4x1024x1024 : Shape := ⟨3, ![4, 1024, 1024]⟩
abbrev S8x2048x1024 : Shape := ⟨3, ![8, 2048, 1024]⟩
abbrev S4x1024 : Shape := ⟨2, ![4, 1024]⟩
abbrev S4x1024x3584 : Shape := ⟨3, ![4, 1024, 3584]⟩
abbrev S8x2048x32 : Shape := ⟨3, ![8, 2048, 32]⟩
abbrev S8x2048x128 : Shape := ⟨3, ![8, 2048, 128]⟩
abbrev S16384x384 : Shape := ⟨2, ![16384, 384]⟩
abbrev S16384x256 : Shape := ⟨2, ![16384, 256]⟩
abbrev S16384x3584 : Shape := ⟨2, ![16384, 3584]⟩
abbrev S16384x1024 : Shape := ⟨2, ![16384, 1024]⟩
abbrev S4x1x1024 : Shape := ⟨3, ![4, 1, 1024]⟩
abbrev S16384x128 : Shape := ⟨2, ![16384, 128]⟩
abbrev S512x384 : Shape := ⟨2, ![512, 384]⟩
abbrev S512x256 : Shape := ⟨2, ![512, 256]⟩
abbrev S1x1024x1024 : Shape := ⟨3, ![1, 1024, 1024]⟩
abbrev S512x1024 : Shape := ⟨2, ![512, 1024]⟩
abbrev S1x1x1024 : Shape := ⟨3, ![1, 1, 1024]⟩
abbrev S1x1024x3584 : Shape := ⟨3, ![1, 1024, 3584]⟩
abbrev S512x128 : Shape := ⟨2, ![512, 128]⟩
abbrev S512x3584 : Shape := ⟨2, ![512, 3584]⟩
abbrev S1024x1024 : Shape := ⟨2, ![1024, 1024]⟩
abbrev S512 : Shape := ⟨1, ![512]⟩
abbrev S512x1 : Shape := ⟨2, ![512, 1]⟩
abbrev S1x1024 : Shape := ⟨2, ![1, 1024]⟩
abbrev S1x128 : Shape := ⟨2, ![1, 128]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 20
  | .vmem => 19
  | .smem => 0
  | _ => 0

abbrev bufTy : (tb : Table) → Fin (tcTables nBuf tb) → BufTy
  | .hbm, ⟨0, _⟩ => ⟨S8x2048x384, .bf16⟩
  | .hbm, ⟨1, _⟩ => ⟨S8x2048x384, .bf16⟩
  | .hbm, ⟨2, _⟩ => ⟨S8x2048x256, .bf16⟩
  | .hbm, ⟨3, _⟩ => ⟨S8x2048x3584, .bf16⟩
  | .hbm, ⟨4, _⟩ => ⟨S4x1024x1024, .f32⟩
  | .hbm, ⟨5, _⟩ => ⟨S8x2048x1024, .f32⟩
  | .hbm, ⟨6, _⟩ => ⟨S4x1024, .f32⟩
  | .hbm, ⟨7, _⟩ => ⟨S4x1024x3584, .f32⟩
  | .hbm, ⟨8, _⟩ => ⟨S8x2048x32, .f32⟩
  | .hbm, ⟨9, _⟩ => ⟨S8x2048x32, .f32⟩
  | .hbm, ⟨10, _⟩ => ⟨S8x2048x128, .f32⟩
  | .hbm, ⟨11, _⟩ => ⟨S16384x384, .bf16⟩
  | .hbm, ⟨12, _⟩ => ⟨S16384x384, .bf16⟩
  | .hbm, ⟨13, _⟩ => ⟨S16384x256, .bf16⟩
  | .hbm, ⟨14, _⟩ => ⟨S16384x3584, .bf16⟩
  | .hbm, ⟨15, _⟩ => ⟨S16384x1024, .f32⟩
  | .hbm, ⟨16, _⟩ => ⟨S4x1x1024, .f32⟩
  | .hbm, ⟨17, _⟩ => ⟨S16384x128, .f32⟩
  | .hbm, ⟨18, _⟩ => ⟨S16384x1024, .f32⟩
  | .hbm, ⟨19, _⟩ => ⟨S16384x3584, .bf16⟩
  | .local _ .vmem, ⟨0, _⟩ => ⟨S512x384, .bf16⟩
  | .local _ .vmem, ⟨1, _⟩ => ⟨S512x384, .bf16⟩
  | .local _ .vmem, ⟨2, _⟩ => ⟨S512x384, .bf16⟩
  | .local _ .vmem, ⟨3, _⟩ => ⟨S512x384, .bf16⟩
  | .local _ .vmem, ⟨4, _⟩ => ⟨S512x256, .bf16⟩
  | .local _ .vmem, ⟨5, _⟩ => ⟨S512x256, .bf16⟩
  | .local _ .vmem, ⟨6, _⟩ => ⟨S512x384, .bf16⟩
  | .local _ .vmem, ⟨7, _⟩ => ⟨S512x384, .bf16⟩
  | .local _ .vmem, ⟨8, _⟩ => ⟨S1x1024x1024, .f32⟩
  | .local _ .vmem, ⟨9, _⟩ => ⟨S512x1024, .f32⟩
  | .local _ .vmem, ⟨10, _⟩ => ⟨S512x1024, .f32⟩
  | .local _ .vmem, ⟨11, _⟩ => ⟨S1x1x1024, .f32⟩
  | .local _ .vmem, ⟨12, _⟩ => ⟨S1x1024x3584, .f32⟩
  | .local _ .vmem, ⟨13, _⟩ => ⟨S512x128, .f32⟩
  | .local _ .vmem, ⟨14, _⟩ => ⟨S512x128, .f32⟩
  | .local _ .vmem, ⟨15, _⟩ => ⟨S512x1024, .f32⟩
  | .local _ .vmem, ⟨16, _⟩ => ⟨S512x1024, .f32⟩
  | .local _ .vmem, ⟨17, _⟩ => ⟨S512x3584, .bf16⟩
  | .local _ .vmem, ⟨18, _⟩ => ⟨S512x3584, .bf16⟩
  | _, _ => ⟨S8x2048x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x3584 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3584 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S8x2048x384 : Shape := ⟨3, ![8, 2048, 384]⟩
abbrev S8x2048x256 : Shape := ⟨3, ![8, 2048, 256]⟩
abbrev S8x2048x3584 : Shape := ⟨3, ![8, 2048, 3584]⟩
abbrev S4x1024x1024 : Shape := ⟨3, ![4, 1024, 1024]⟩
abbrev S8x2048x1024 : Shape := ⟨3, ![8, 2048, 1024]⟩
abbrev S4x1024 : Shape := ⟨2, ![4, 1024]⟩
abbrev S4x1024x3584 : Shape := ⟨3, ![4, 1024, 3584]⟩
abbrev S8x2048x32 : Shape := ⟨3, ![8, 2048, 32]⟩
abbrev S_ : Shape := ⟨0, ![]⟩
abbrev S1x1024x1024 : Shape := ⟨3, ![1, 1024, 1024]⟩
abbrev S1024x1024 : Shape := ⟨2, ![1024, 1024]⟩
abbrev S8x2048 : Shape := ⟨2, ![8, 2048]⟩
abbrev S8x2048x1 : Shape := ⟨3, ![8, 2048, 1]⟩
abbrev S1x1024 : Shape := ⟨2, ![1, 1024]⟩
abbrev S1024 : Shape := ⟨1, ![1024]⟩
abbrev S1x1x1024 : Shape := ⟨3, ![1, 1, 1024]⟩
abbrev S1x1024x3584 : Shape := ⟨3, ![1, 1024, 3584]⟩
abbrev S1024x3584 : Shape := ⟨2, ![1024, 3584]⟩
abbrev S8x2048x1152 : Shape := ⟨3, ![8, 2048, 1152]⟩
abbrev S8x2048x1280 : Shape := ⟨3, ![8, 2048, 1280]⟩
abbrev S8x2048x6x64 : Shape := ⟨4, ![8, 2048, 6, 64]⟩
abbrev S8x2048x6x32 : Shape := ⟨4, ![8, 2048, 6, 32]⟩
abbrev S8x2048x1x32 : Shape := ⟨4, ![8, 2048, 1, 32]⟩
abbrev S16384x1024 : Shape := ⟨2, ![16384, 1024]⟩
abbrev S16384x3584 : Shape := ⟨2, ![16384, 3584]⟩

abbrev nBuf : Space → Nat
  | .hbm => 100
  | .vmem => 0
  | .smem => 0
  | _ => 0

abbrev bufTy : (tb : Table) → Fin (tcTables nBuf tb) → BufTy
  | .hbm, ⟨0, _⟩ => ⟨S8x2048x384, .bf16⟩
  | .hbm, ⟨1, _⟩ => ⟨S8x2048x384, .bf16⟩
  | .hbm, ⟨2, _⟩ => ⟨S8x2048x256, .bf16⟩
  | .hbm, ⟨3, _⟩ => ⟨S8x2048x3584, .bf16⟩
  | .hbm, ⟨4, _⟩ => ⟨S4x1024x1024, .f32⟩
  | .hbm, ⟨5, _⟩ => ⟨S8x2048x1024, .f32⟩
  | .hbm, ⟨6, _⟩ => ⟨S4x1024, .f32⟩
  | .hbm, ⟨7, _⟩ => ⟨S4x1024x3584, .f32⟩
  | .hbm, ⟨8, _⟩ => ⟨S8x2048x32, .f32⟩
  | .hbm, ⟨9, _⟩ => ⟨S8x2048x32, .f32⟩
  | .hbm, ⟨10, _⟩ => ⟨S8x2048x384, .bf16⟩
  | .hbm, ⟨11, _⟩ => ⟨S8x2048x384, .f32⟩
  | .hbm, ⟨12, _⟩ => ⟨S8x2048x384, .f32⟩
  | .hbm, ⟨13, _⟩ => ⟨S8x2048x384, .f32⟩
  | .hbm, ⟨14, _⟩ => ⟨S8x2048x384, .f32⟩
  | .hbm, ⟨15, _⟩ => ⟨S_, .f32⟩
  | .hbm, ⟨16, _⟩ => ⟨S8x2048x384, .f32⟩
  | .hbm, ⟨17, _⟩ => ⟨S8x2048x384, .f32⟩
  | .hbm, ⟨18, _⟩ => ⟨S_, .f32⟩
  | .hbm, ⟨19, _⟩ => ⟨S8x2048x384, .f32⟩
  | .hbm, ⟨20, _⟩ => ⟨S8x2048x384, .f32⟩
  | .hbm, ⟨21, _⟩ => ⟨S8x2048x384, .f32⟩
  | .hbm, ⟨22, _⟩ => ⟨S8x2048x384, .f32⟩
  | .hbm, ⟨23, _⟩ => ⟨S8x2048x384, .f32⟩
  | .hbm, ⟨24, _⟩ => ⟨S8x2048x256, .f32⟩
  | .hbm, ⟨25, _⟩ => ⟨S8x2048x1024, .f32⟩
  | .hbm, ⟨26, _⟩ => ⟨S1x1024x1024, .f32⟩
  | .hbm, ⟨27, _⟩ => ⟨S1024x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S_, .f32⟩
  | .hbm, ⟨32, _⟩ => ⟨S8x2048, .f32⟩
  | .hbm, ⟨33, _⟩ => ⟨S8x2048x1, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S_, .f32⟩
  | .hbm, ⟨38, _⟩ => ⟨S8x2048x1, .f32⟩
  | .hbm, ⟨39, _⟩ => ⟨S8x2048x1, .f32⟩
  | .hbm, ⟨40, _⟩ => ⟨S8x2048x1, .f32⟩
  | .hbm, ⟨41, _⟩ => ⟨S8x2048x1024, .f32⟩
  | .hbm, ⟨42, _⟩ => ⟨S8x2048x1024, .f32⟩
  | .hbm, ⟨43, _⟩ => ⟨S1x1024, .f32⟩
  | .hbm, ⟨44, _⟩ => ⟨S1024, .f32⟩
  | .hbm, ⟨45, _⟩ => ⟨S1x1x1024, .f32⟩
  | .hbm, ⟨46, _⟩ => ⟨S8x2048x1024, .f32⟩
  | .hbm, ⟨47, _⟩ => ⟨S8x2048x1024, .f32⟩
  | .hbm, ⟨48, _⟩ => ⟨S1x1024x3584, .f32⟩
  | .hbm, ⟨49, _⟩ => ⟨S1024x3584, .f32⟩
  | .hbm, ⟨50, _⟩ => ⟨S8x2048x3584, .f32⟩
  | .hbm, ⟨51, _⟩ => ⟨S8x2048x384, .f32⟩
  | .hbm, ⟨52, _⟩ => ⟨S8x2048x1152, .f32⟩
  | .hbm, ⟨53, _⟩ => ⟨S8x2048x384, .f32⟩
  | .hbm, ⟨54, _⟩ => ⟨S8x2048x384, .f32⟩
  | .hbm, ⟨55, _⟩ => ⟨S8x2048x1280, .f32⟩
  | .hbm, ⟨56, _⟩ => ⟨S_, .f32⟩
  | .hbm, ⟨57, _⟩ => ⟨S8x2048x384, .f32⟩
  | .hbm, ⟨58, _⟩ => ⟨S8x2048x384, .f32⟩
  | .hbm, ⟨59, _⟩ => ⟨S8x2048x6x64, .f32⟩
  | .hbm, ⟨60, _⟩ => ⟨S8x2048x6x32, .f32⟩
  | .hbm, ⟨61, _⟩ => ⟨S8x2048x6x32, .f32⟩
  | .hbm, ⟨62, _⟩ => ⟨S8x2048x1x32, .f32⟩
  | .hbm, ⟨63, _⟩ => ⟨S8x2048x1x32, .f32⟩
  | .hbm, ⟨64, _⟩ => ⟨S8x2048x6x32, .f32⟩
  | .hbm, ⟨65, _⟩ => ⟨S8x2048x6x32, .f32⟩
  | .hbm, ⟨66, _⟩ => ⟨S8x2048x6x32, .f32⟩
  | .hbm, ⟨67, _⟩ => ⟨S8x2048x6x32, .f32⟩
  | .hbm, ⟨68, _⟩ => ⟨S8x2048x6x32, .f32⟩
  | .hbm, ⟨69, _⟩ => ⟨S8x2048x6x32, .f32⟩
  | .hbm, ⟨70, _⟩ => ⟨S8x2048x6x32, .f32⟩
  | .hbm, ⟨71, _⟩ => ⟨S8x2048x6x32, .f32⟩
  | .hbm, ⟨72, _⟩ => ⟨S8x2048x6x32, .f32⟩
  | .hbm, ⟨73, _⟩ => ⟨S8x2048x6x32, .f32⟩
  | .hbm, ⟨74, _⟩ => ⟨S8x2048x6x64, .f32⟩
  | .hbm, ⟨75, _⟩ => ⟨S8x2048x384, .f32⟩
  | .hbm, ⟨76, _⟩ => ⟨S8x2048x6x64, .f32⟩
  | .hbm, ⟨77, _⟩ => ⟨S8x2048x6x32, .f32⟩
  | .hbm, ⟨78, _⟩ => ⟨S8x2048x6x32, .f32⟩
  | .hbm, ⟨79, _⟩ => ⟨S8x2048x1x32, .f32⟩
  | .hbm, ⟨80, _⟩ => ⟨S8x2048x1x32, .f32⟩
  | .hbm, ⟨81, _⟩ => ⟨S8x2048x6x32, .f32⟩
  | .hbm, ⟨82, _⟩ => ⟨S8x2048x6x32, .f32⟩
  | .hbm, ⟨83, _⟩ => ⟨S8x2048x6x32, .f32⟩
  | .hbm, ⟨84, _⟩ => ⟨S8x2048x6x32, .f32⟩
  | .hbm, ⟨85, _⟩ => ⟨S8x2048x6x32, .f32⟩
  | .hbm, ⟨86, _⟩ => ⟨S8x2048x6x32, .f32⟩
  | .hbm, ⟨87, _⟩ => ⟨S8x2048x6x32, .f32⟩
  | .hbm, ⟨88, _⟩ => ⟨S8x2048x6x32, .f32⟩
  | .hbm, ⟨89, _⟩ => ⟨S8x2048x6x32, .f32⟩
  | .hbm, ⟨90, _⟩ => ⟨S8x2048x6x32, .f32⟩
  | .hbm, ⟨91, _⟩ => ⟨S8x2048x6x64, .f32⟩
  | .hbm, ⟨92, _⟩ => ⟨S8x2048x384, .f32⟩
  | .hbm, ⟨93, _⟩ => ⟨S_, .f32⟩
  | .hbm, ⟨94, _⟩ => ⟨S8x2048x384, .f32⟩
  | .hbm, ⟨95, _⟩ => ⟨S8x2048x384, .f32⟩
  | .hbm, ⟨96, _⟩ => ⟨S8x2048x3584, .f32⟩
  | .hbm, ⟨97, _⟩ => ⟨S16384x1024, .f32⟩
  | .hbm, ⟨98, _⟩ => ⟨S16384x3584, .f32⟩
  | .hbm, ⟨99, _⟩ => ⟨S16384x3584, .bf16⟩
  | _, _ => ⟨S8x2048x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_cst_0 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_2 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_3 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩

abbrev nD : Nat := 1
abbrev τ : Topo := Topo.v7x

variable {F : FTy → Type} [FloatOps F]
-- ==== Kernel3.lean ====
abbrev S8x2048x1024 : Shape := ⟨3, ![8, 2048, 1024]⟩
abbrev S4x1024 : Shape := ⟨2, ![4, 1024]⟩
abbrev S4x1024x3584 : Shape := ⟨3, ![4, 1024, 3584]⟩
abbrev S8x2048x32 : Shape := ⟨3, ![8, 2048, 32]⟩
abbrev S8x2048x128 : Shape := ⟨3, ![8, 2048, 128]⟩
abbrev S16384x1024 : Shape := ⟨2, ![16384, 1024]⟩
abbrev S4x1x1024 : Shape := ⟨3, ![4, 1, 1024]⟩
abbrev S16384x128 : Shape := ⟨2, ![16384, 128]⟩
abbrev S16384x3584 : Shape := ⟨2, ![16384, 3584]⟩
abbrev S512x1024 : Shape := ⟨2, ![512, 1024]⟩
abbrev S1x1x1024 : Shape := ⟨3, ![1, 1, 1024]⟩
abbrev S1x1024x3584 : Shape := ⟨3, ![1, 1024, 3584]⟩
abbrev S512x128 : Shape := ⟨2, ![512, 128]⟩
abbrev S512x3584 : Shape := ⟨2, ![512, 3584]⟩
abbrev S512 : Shape := ⟨1, ![512]⟩
abbrev S512x1 : Shape := ⟨2, ![512, 1]⟩
abbrev S1x1024 : Shape := ⟨2, ![1, 1024]⟩
abbrev S1x128 : Shape := ⟨2, ![1, 128]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 10
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S4x1024, .f32⟩
  | .hbm, ⟨2, _⟩ => ⟨S4x1024x3584, .f32⟩
  | .hbm, ⟨3, _⟩ => ⟨S8x2048x32, .f32⟩
  | .hbm, ⟨4, _⟩ => ⟨S8x2048x32, .f32⟩
  | .hbm, ⟨5, _⟩ => ⟨S8x2048x128, .f32⟩
  | .hbm, ⟨6, _⟩ => ⟨S16384x1024, .f32⟩
  | .hbm, ⟨7, _⟩ => ⟨S4x1x1024, .f32⟩
  | .hbm, ⟨8, _⟩ => ⟨S16384x128, .f32⟩
  | .hbm, ⟨9, _⟩ => ⟨S16384x3584, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x3584, .f32⟩
  | .local _ .vmem, ⟨4, _⟩ => ⟨S512x128, .f32⟩
  | .local _ .vmem, ⟨5, _⟩ => ⟨S512x128, .f32⟩
  | .local _ .vmem, ⟨6, _⟩ => ⟨S512x3584, .bf16⟩
  | .local _ .vmem, ⟨7, _⟩ => ⟨S512x3584, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S8x2048x1024 : Shape := ⟨3, ![8, 2048, 1024]⟩
abbrev S4x1024 : Shape := ⟨2, ![4, 1024]⟩
abbrev S4x1024x3584 : Shape := ⟨3, ![4, 1024, 3584]⟩
abbrev S8x2048x32 : Shape := ⟨3, ![8, 2048, 32]⟩
abbrev S_ : Shape := ⟨0, ![]⟩
abbrev S8x2048 : Shape := ⟨2, ![8, 2048]⟩
abbrev S8x2048x1 : Shape := ⟨3, ![8, 2048, 1]⟩
abbrev S1x1024 : Shape := ⟨2, ![1, 1024]⟩
abbrev S1024 : Shape := ⟨1, ![1024]⟩
abbrev S1x1x1024 : Shape := ⟨3, ![1, 1, 1024]⟩
abbrev S1x1024x3584 : Shape := ⟨3, ![1, 1024, 3584]⟩
abbrev S1024x3584 : Shape := ⟨2, ![1024, 3584]⟩
abbrev S8x2048x3584 : Shape := ⟨3, ![8, 2048, 3584]⟩
abbrev S8x2048x384 : Shape := ⟨3, ![8, 2048, 384]⟩
abbrev S8x2048x1152 : Shape := ⟨3, ![8, 2048, 1152]⟩
abbrev S8x2048x1280 : Shape := ⟨3, ![8, 2048, 1280]⟩
abbrev S8x2048x6x64 : Shape := ⟨4, ![8, 2048, 6, 64]⟩
abbrev S8x2048x6x32 : Shape := ⟨4, ![8, 2048, 6, 32]⟩
abbrev S8x2048x1x32 : Shape := ⟨4, ![8, 2048, 1, 32]⟩
abbrev S16384x3584 : Shape := ⟨2, ![16384, 3584]⟩

abbrev nBuf : Space → Nat
  | .hbm => 74
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x1024, .f32⟩
  | .hbm, ⟨2, _⟩ => ⟨S4x1024x3584, .f32⟩
  | .hbm, ⟨3, _⟩ => ⟨S8x2048x32, .f32⟩
  | .hbm, ⟨4, _⟩ => ⟨S8x2048x32, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1024, .f32⟩
  | .hbm, ⟨19, _⟩ => ⟨S1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S1x1024x3584, .f32⟩
  | .hbm, ⟨24, _⟩ => ⟨S1024x3584, .f32⟩
  | .hbm, ⟨25, _⟩ => ⟨S8x2048x3584, .f32⟩
  | .hbm, ⟨26, _⟩ => ⟨S8x2048x384, .f32⟩
  | .hbm, ⟨27, _⟩ => ⟨S8x2048x1152, .f32⟩
  | .hbm, ⟨28, _⟩ => ⟨S8x2048x384, .f32⟩
  | .hbm, ⟨29, _⟩ => ⟨S8x2048x384, .f32⟩
  | .hbm, ⟨30, _⟩ => ⟨S8x2048x1280, .f32⟩
  | .hbm, ⟨31, _⟩ => ⟨S_, .f32⟩
  | .hbm, ⟨32, _⟩ => ⟨S8x2048x384, .f32⟩
  | .hbm, ⟨33, _⟩ => ⟨S8x2048x384, .f32⟩
  | .hbm, ⟨34, _⟩ => ⟨S8x2048x6x64, .f32⟩
  | .hbm, ⟨35, _⟩ => ⟨S8x2048x6x32, .f32⟩
  | .hbm, ⟨36, _⟩ => ⟨S8x2048x6x32, .f32⟩
  | .hbm, ⟨37, _⟩ => ⟨S8x2048x1x32, .f32⟩
  | .hbm, ⟨38, _⟩ => ⟨S8x2048x1x32, .f32⟩
  | .hbm, ⟨39, _⟩ => ⟨S8x2048x6x32, .f32⟩
  | .hbm, ⟨40, _⟩ => ⟨S8x2048x6x32, .f32⟩
  | .hbm, ⟨41, _⟩ => ⟨S8x2048x6x32, .f32⟩
  | .hbm, ⟨42, _⟩ => ⟨S8x2048x6x32, .f32⟩
  | .hbm, ⟨43, _⟩ => ⟨S8x2048x6x32, .f32⟩
  | .hbm, ⟨44, _⟩ => ⟨S8x2048x6x32, .f32⟩
  | .hbm, ⟨45, _⟩ => ⟨S8x2048x6x32, .f32⟩
  | .hbm, ⟨46, _⟩ => ⟨S8x2048x6x32, .f32⟩
  | .hbm, ⟨47, _⟩ => ⟨S8x2048x6x32, .f32⟩
  | .hbm, ⟨48, _⟩ => ⟨S8x2048x6x32, .f32⟩
  | .hbm, ⟨49, _⟩ => ⟨S8x2048x6x64, .f32⟩
  | .hbm, ⟨50, _⟩ => ⟨S8x2048x384, .f32⟩
  | .hbm, ⟨51, _⟩ => ⟨S8x2048x6x64, .f32⟩
  | .hbm, ⟨52, _⟩ => ⟨S8x2048x6x32, .f32⟩
  | .hbm, ⟨53, _⟩ => ⟨S8x2048x6x32, .f32⟩
  | .hbm, ⟨54, _⟩ => ⟨S8x2048x1x32, .f32⟩
  | .hbm, ⟨55, _⟩ => ⟨S8x2048x1x32, .f32⟩
  | .hbm, ⟨56, _⟩ => ⟨S8x2048x6x32, .f32⟩
  | .hbm, ⟨57, _⟩ => ⟨S8x2048x6x32, .f32⟩
  | .hbm, ⟨58, _⟩ => ⟨S8x2048x6x32, .f32⟩
  | .hbm, ⟨59, _⟩ => ⟨S8x2048x6x32, .f32⟩
  | .hbm, ⟨60, _⟩ => ⟨S8x2048x6x32, .f32⟩
  | .hbm, ⟨61, _⟩ => ⟨S8x2048x6x32, .f32⟩
  | .hbm, ⟨62, _⟩ => ⟨S8x2048x6x32, .f32⟩
  | .hbm, ⟨63, _⟩ => ⟨S8x2048x6x32, .f32⟩
  | .hbm, ⟨64, _⟩ => ⟨S8x2048x6x32, .f32⟩
  | .hbm, ⟨65, _⟩ => ⟨S8x2048x6x32, .f32⟩
  | .hbm, ⟨66, _⟩ => ⟨S8x2048x6x64, .f32⟩
  | .hbm, ⟨67, _⟩ => ⟨S8x2048x384, .f32⟩
  | .hbm, ⟨68, _⟩ => ⟨S_, .f32⟩
  | .hbm, ⟨69, _⟩ => ⟨S8x2048x384, .f32⟩
  | .hbm, ⟨70, _⟩ => ⟨S8x2048x384, .f32⟩
  | .hbm, ⟨71, _⟩ => ⟨S8x2048x3584, .f32⟩
  | .hbm, ⟨72, _⟩ => ⟨S16384x3584, .f32⟩
  | .hbm, ⟨73, _⟩ => ⟨S16384x3584, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_cst_3 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩

abbrev nD : Nat := 1
abbrev τ : Topo := Topo.v7x

variable {F : FTy → Type} [FloatOps F]
-- ==== Kernel4.lean ====
abbrev S8x256x1024 : Shape := ⟨3, ![8, 256, 1024]⟩
abbrev S4x1024 : Shape := ⟨2, ![4, 1024]⟩
abbrev S4x1024x512 : Shape := ⟨3, ![4, 1024, 512]⟩
abbrev S4x64 : Shape := ⟨2, ![4, 64]⟩
abbrev S1x4x1x64 : Shape := ⟨4, ![1, 4, 1, 64]⟩
abbrev S1x4x2x64 : Shape := ⟨4, ![1, 4, 2, 64]⟩
abbrev S4x128 : Shape := ⟨2, ![4, 128]⟩
abbrev S4x1x128 : Shape := ⟨3, ![4, 1, 128]⟩
abbrev S2048x1024 : Shape := ⟨2, ![2048, 1024]⟩
abbrev S4x1x1024 : Shape := ⟨3, ![4, 1, 1024]⟩
abbrev S4x2048x256 : Shape := ⟨3, ![4, 2048, 256]⟩
abbrev S1x1x1024 : Shape := ⟨3, ![1, 1, 1024]⟩
abbrev S1x1024x512 : Shape := ⟨3, ![1, 1024, 512]⟩
abbrev S1x1x128 : Shape := ⟨3, ![1, 1, 128]⟩
abbrev S1x2048x256 : Shape := ⟨3, ![1, 2048, 256]⟩
abbrev S1x128 : Shape := ⟨2, ![1, 128]⟩
abbrev S2048 : Shape := ⟨1, ![2048]⟩
abbrev S2048x1 : Shape := ⟨2, ![2048, 1]⟩
abbrev S1x1024 : Shape := ⟨2, ![1, 1024]⟩
abbrev S1024x512 : Shape := ⟨2, ![1024, 512]⟩
abbrev S2048x512 : Shape := ⟨2, ![2048, 512]⟩
abbrev S2048x128 : Shape := ⟨2, ![2048, 128]⟩
abbrev S1x2048x128 : Shape := ⟨3, ![1, 2048, 128]⟩
abbrev S2048x256 : Shape := ⟨2, ![2048, 256]⟩

abbrev nBuf : Space → Nat
  | .hbm => 12
  | .vmem => 11
  | .smem => 0
  | _ => 0

abbrev bufTy : (tb : Table) → Fin (tcTables nBuf tb) → BufTy
  | .hbm, ⟨0, _⟩ => ⟨S8x256x1024, .f32⟩
  | .hbm, ⟨1, _⟩ => ⟨S4x1024, .f32⟩
  | .hbm, ⟨2, _⟩ => ⟨S4x1024x512, .f32⟩
  | .hbm, ⟨3, _⟩ => ⟨S4x64, .f32⟩
  | .hbm, ⟨4, _⟩ => ⟨S1x4x1x64, .f32⟩
  | .hbm, ⟨5, _⟩ => ⟨S1x4x2x64, .f32⟩
  | .hbm, ⟨6, _⟩ => ⟨S4x128, .f32⟩
  | .hbm, ⟨7, _⟩ => ⟨S4x1x128, .f32⟩
  | .hbm, ⟨8, _⟩ => ⟨S2048x1024, .f32⟩
  | .hbm, ⟨9, _⟩ => ⟨S4x1x1024, .f32⟩
  | .hbm, ⟨10, _⟩ => ⟨S4x2048x256, .bf16⟩
  | .hbm, ⟨11, _⟩ => ⟨S4x2048x256, .bf16⟩
  | .local _ .vmem, ⟨0, _⟩ => ⟨S2048x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1024x512, .f32⟩
  | .local _ .vmem, ⟨4, _⟩ => ⟨S1x1024x512, .f32⟩
  | .local _ .vmem, ⟨5, _⟩ => ⟨S1x1x128, .f32⟩
  | .local _ .vmem, ⟨6, _⟩ => ⟨S1x1x128, .f32⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x2048x256, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S8x256x1024 : Shape := ⟨3, ![8, 256, 1024]⟩
abbrev S4x1024 : Shape := ⟨2, ![4, 1024]⟩
abbrev S4x1024x512 : Shape := ⟨3, ![4, 1024, 512]⟩
abbrev S4x64 : Shape := ⟨2, ![4, 64]⟩
abbrev S_ : Shape := ⟨0, ![]⟩
abbrev S8x256 : Shape := ⟨2, ![8, 256]⟩
abbrev S8x256x1 : Shape := ⟨3, ![8, 256, 1]⟩
abbrev S1x1024 : Shape := ⟨2, ![1, 1024]⟩
abbrev S1024 : Shape := ⟨1, ![1024]⟩
abbrev S1x1x1024 : Shape := ⟨3, ![1, 1, 1024]⟩
abbrev S1x1024x512 : Shape := ⟨3, ![1, 1024, 512]⟩
abbrev S1024x512 : Shape := ⟨2, ![1024, 512]⟩
abbrev S8x256x512 : Shape := ⟨3, ![8, 256, 512]⟩
abbrev S8x256x256 : Shape := ⟨3, ![8, 256, 256]⟩
abbrev S8x256x4x64 : Shape := ⟨4, ![8, 256, 4, 64]⟩
abbrev S8x4x256x64 : Shape := ⟨4, ![8, 4, 256, 64]⟩
abbrev S8x4x256 : Shape := ⟨3, ![8, 4, 256]⟩
abbrev S8x4x256x1 : Shape := ⟨4, ![8, 4, 256, 1]⟩
abbrev S1x64 : Shape := ⟨2, ![1, 64]⟩
abbrev S64 : Shape := ⟨1, ![64]⟩
abbrev S1x1x1x64 : Shape := ⟨4, ![1, 1, 1, 64]⟩
abbrev S2048x256 : Shape := ⟨2, ![2048, 256]⟩
abbrev S1x2048x256 : Shape := ⟨3, ![1, 2048, 256]⟩
abbrev S4x2048x256 : Shape := ⟨3, ![4, 2048, 256]⟩

abbrev nBuf : Space → Nat
  | .hbm => 200
  | .vmem => 0
  | .smem => 0
  | _ => 0

abbrev hbmTy0_0 (i : Nat) : BufTy := match i % 128 with
  | 0 => ⟨S8x256x1024, .f32⟩
  | 1 => ⟨S4x1024, .f32⟩
  | 2 => ⟨S4x1024x512, .f32⟩
  | 3 => ⟨S4x64, .f32⟩
  | 4 => ⟨S8x256x1024, .f32⟩
  | 5 => ⟨S_, .f32⟩
  | 6 => ⟨S8x256, .f32⟩
  | 7 => ⟨S8x256x1, .f32⟩
  | 8 => ⟨S_, .f32⟩
  | 9 => ⟨S8x256x1, .f32⟩
  | 10 => ⟨S8x256x1, .f32⟩
  | 11 => ⟨S_, .f32⟩
  | 12 => ⟨S8x256x1, .f32⟩
  | 13 => ⟨S8x256x1, .f32⟩
  | 14 => ⟨S8x256x1, .f32⟩
  | 15 => ⟨S8x256x1024, .f32⟩
  | 16 => ⟨S8x256x1024, .f32⟩
  | 17 => ⟨S1x1024, .f32⟩
  | 18 => ⟨S1024, .f32⟩
  | 19 => ⟨S1x1x1024, .f32⟩
  | 20 => ⟨S8x256x1024, .f32⟩
  | 21 => ⟨S8x256x1024, .f32⟩
  | 22 => ⟨S1x1024x512, .f32⟩
  | 23 => ⟨S1024x512, .f32⟩
  | 24 => ⟨S8x256x512, .f32⟩
  | 25 => ⟨S8x256x256, .f32⟩
  | 26 => ⟨S8x256x256, .f32⟩
  | 27 => ⟨S8x256x4x64, .f32⟩
  | 28 => ⟨S8x4x256x64, .f32⟩
  | 29 => ⟨S8x4x256x64, .f32⟩
  | 30 => ⟨S_, .f32⟩
  | 31 => ⟨S8x4x256, .f32⟩
  | 32 => ⟨S8x4x256x1, .f32⟩
  | 33 => ⟨S_, .f32⟩
  | 34 => ⟨S8x4x256x1, .f32⟩
  | 35 => ⟨S8x4x256x1, .f32⟩
  | 36 => ⟨S_, .f32⟩
  | 37 => ⟨S8x4x256x1, .f32⟩
  | 38 => ⟨S8x4x256x1, .f32⟩
  | 39 => ⟨S8x4x256x1, .f32⟩
  | 40 => ⟨S8x4x256x64, .f32⟩
  | 41 => ⟨S8x4x256x64, .f32⟩
  | 42 => ⟨S1x64, .f32⟩
  | 43 => ⟨S64, .f32⟩
  | 44 => ⟨S1x1x1x64, .f32⟩
  | 45 => ⟨S8x4x256x64, .f32⟩
  | 46 => ⟨S8x4x256x64, .f32⟩
  | 47 => ⟨S8x256x4x64, .f32⟩
  | 48 => ⟨S2048x256, .f32⟩
  | 49 => ⟨S2048x256, .f32⟩
  | 50 => ⟨S8x256x1024, .f32⟩
  | 51 => ⟨S_, .f32⟩
  | 52 => ⟨S8x256, .f32⟩
  | 53 => ⟨S8x256x1, .f32⟩
  | 54 => ⟨S_, .f32⟩
  | 55 => ⟨S8x256x1, .f32⟩
  | 56 => ⟨S8x256x1, .f32⟩
  | 57 => ⟨S_, .f32⟩
  | 58 => ⟨S8x256x1, .f32⟩
  | 59 => ⟨S8x256x1, .f32⟩
  | 60 => ⟨S8x256x1, .f32⟩
  | 61 => ⟨S8x256x1024, .f32⟩
  | 62 => ⟨S8x256x1024, .f32⟩
  | 63 => ⟨S1x1024, .f32⟩
  | 64 => ⟨S1024, .f32⟩
  | 65 => ⟨S1x1x1024, .f32⟩
  | 66 => ⟨S8x256x1024, .f32⟩
  | 67 => ⟨S8x256x1024, .f32⟩
  | 68 => ⟨S1x1024x512, .f32⟩
  | 69 => ⟨S1024x512, .f32⟩
  | 70 => ⟨S8x256x512, .f32⟩
  | 71 => ⟨S8x256x256, .f32⟩
  | 72 => ⟨S8x256x256, .f32⟩
  | 73 => ⟨S8x256x4x64, .f32⟩
  | 74 => ⟨S8x4x256x64, .f32⟩
  | 75 => ⟨S8x4x256x64, .f32⟩
  | 76 => ⟨S_, .f32⟩
  | 77 => ⟨S8x4x256, .f32⟩
  | 78 => ⟨S8x4x256x1, .f32⟩
  | 79 => ⟨S_, .f32⟩
  | 80 => ⟨S8x4x256x1, .f32⟩
  | 81 => ⟨S8x4x256x1, .f32⟩
  | 82 => ⟨S_, .f32⟩
  | 83 => ⟨S8x4x256x1, .f32⟩
  | 84 => ⟨S8x4x256x1, .f32⟩
  | 85 => ⟨S8x4x256x1, .f32⟩
  | 86 => ⟨S8x4x256x64, .f32⟩
  | 87 => ⟨S8x4x256x64, .f32⟩
  | 88 => ⟨S1x64, .f32⟩
  | 89 => ⟨S64, .f32⟩
  | 90 => ⟨S1x1x1x64, .f32⟩
  | 91 => ⟨S8x4x256x64, .f32⟩
  | 92 => ⟨S8x4x256x64, .f32⟩
  | 93 => ⟨S8x256x4x64, .f32⟩
  | 94 => ⟨S2048x256, .f32⟩
  | 95 => ⟨S2048x256, .f32⟩
  | 96 => ⟨S8x256x1024, .f32⟩
  | 97 => ⟨S_, .f32⟩
  | 98 => ⟨S8x256, .f32⟩
  | 99 => ⟨S8x256x1, .f32⟩
  | 100 => ⟨S_, .f32⟩
  | 101 => ⟨S8x256x1, .f32⟩
  | 102 => ⟨S8x256x1, .f32⟩
  | 103 => ⟨S_, .f32⟩
  | 104 => ⟨S8x256x1, .f32⟩
  | 105 => ⟨S8x256x1, .f32⟩
  | 106 => ⟨S8x256x1, .f32⟩
  | 107 => ⟨S8x256x1024, .f32⟩
  | 108 => ⟨S8x256x1024, .f32⟩
  | 109 => ⟨S1x1024, .f32⟩
  | 110 => ⟨S1024, .f32⟩
  | 111 => ⟨S1x1x1024, .f32⟩
  | 112 => ⟨S8x256x1024, .f32⟩
  | 113 => ⟨S8x256x1024, .f32⟩
  | 114 => ⟨S1x1024x512, .f32⟩
  | 115 => ⟨S1024x512, .f32⟩
  | 116 => ⟨S8x256x512, .f32⟩
  | 117 => ⟨S8x256x256, .f32⟩
  | 118 => ⟨S8x256x256, .f32⟩
  | 119 => ⟨S8x256x4x64, .f32⟩
  | 120 => ⟨S8x4x256x64, .f32⟩
  | 121 => ⟨S8x4x256x64, .f32⟩
  | 122 => ⟨S_, .f32⟩
  | 123 => ⟨S8x4x256, .f32⟩
  | 124 => ⟨S8x4x256x1, .f32⟩
  | 125 => ⟨S_, .f32⟩
  | 126 => ⟨S8x4x256x1, .f32⟩
  | 127 => ⟨S8x4x256x1, .f32⟩
  | _ => ⟨S8x256x1024, .f32⟩

abbrev hbmTy0_1 (i : Nat) : BufTy := match i % 128 with
  | 0 => ⟨S_, .f32⟩
  | 1 => ⟨S8x4x256x1, .f32⟩
  | 2 => ⟨S8x4x256x1, .f32⟩
  | 3 => ⟨S8x4x256x1, .f32⟩
  | 4 => ⟨S8x4x256x64, .f32⟩
  | 5 => ⟨S8x4x256x64, .f32⟩
  | 6 => ⟨S1x64, .f32⟩
  | 7 => ⟨S64, .f32⟩
  | 8 => ⟨S1x1x1x64, .f32⟩
  | 9 => ⟨S8x4x256x64, .f32⟩
  | 10 => ⟨S8x4x256x64, .f32⟩
  | 11 => ⟨S8x256x4x64, .f32⟩
  | 12 => ⟨S2048x256, .f32⟩
  | 13 => ⟨S2048x256, .f32⟩
  | 14 => ⟨S8x256x1024, .f32⟩
  | 15 => ⟨S_, .f32⟩
  | 16 => ⟨S8x256, .f32⟩
  | 17 => ⟨S8x256x1, .f32⟩
  | 18 => ⟨S_, .f32⟩
  | 19 => ⟨S8x256x1, .f32⟩
  | 20 => ⟨S8x256x1, .f32⟩
  | 21 => ⟨S_, .f32⟩
  | 22 => ⟨S8x256x1, .f32⟩
  | 23 => ⟨S8x256x1, .f32⟩
  | 24 => ⟨S8x256x1, .f32⟩
  | 25 => ⟨S8x256x1024, .f32⟩
  | 26 => ⟨S8x256x1024, .f32⟩
  | 27 => ⟨S1x1024, .f32⟩
  | 28 => ⟨S1024, .f32⟩
  | 29 => ⟨S1x1x1024, .f32⟩
  | 30 => ⟨S8x256x1024, .f32⟩
  | 31 => ⟨S8x256x1024, .f32⟩
  | 32 => ⟨S1x1024x512, .f32⟩
  | 33 => ⟨S1024x512, .f32⟩
  | 34 => ⟨S8x256x512, .f32⟩
  | 35 => ⟨S8x256x256, .f32⟩
  | 36 => ⟨S8x256x256, .f32⟩
  | 37 => ⟨S8x256x4x64, .f32⟩
  | 38 => ⟨S8x4x256x64, .f32⟩
  | 39 => ⟨S8x4x256x64, .f32⟩
  | 40 => ⟨S_, .f32⟩
  | 41 => ⟨S8x4x256, .f32⟩
  | 42 => ⟨S8x4x256x1, .f32⟩
  | 43 => ⟨S_, .f32⟩
  | 44 => ⟨S8x4x256x1, .f32⟩
  | 45 => ⟨S8x4x256x1, .f32⟩
  | 46 => ⟨S_, .f32⟩
  | 47 => ⟨S8x4x256x1, .f32⟩
  | 48 => ⟨S8x4x256x1, .f32⟩
  | 49 => ⟨S8x4x256x1, .f32⟩
  | 50 => ⟨S8x4x256x64, .f32⟩
  | 51 => ⟨S8x4x256x64, .f32⟩
  | 52 => ⟨S1x64, .f32⟩
  | 53 => ⟨S64, .f32⟩
  | 54 => ⟨S1x1x1x64, .f32⟩
  | 55 => ⟨S8x4x256x64, .f32⟩
  | 56 => ⟨S8x4x256x64, .f32⟩
  | 57 => ⟨S8x256x4x64, .f32⟩
  | 58 => ⟨S2048x256, .f32⟩
  | 59 => ⟨S2048x256, .f32⟩
  | 60 => ⟨S1x2048x256, .f32⟩
  | 61 => ⟨S1x2048x256, .f32⟩
  | 62 => ⟨S1x2048x256, .f32⟩
  | 63 => ⟨S1x2048x256, .f32⟩
  | 64 => ⟨S4x2048x256, .f32⟩
  | 65 => ⟨S4x2048x256, .bf16⟩
  | 66 => ⟨S1x2048x256, .f32⟩
  | 67 => ⟨S1x2048x256, .f32⟩
  | 68 => ⟨S1x2048x256, .f32⟩
  | 69 => ⟨S1x2048x256, .f32⟩
  | 70 => ⟨S4x2048x256, .f32⟩
  | 71 => ⟨S4x2048x256, .bf16⟩
  | _ => ⟨S8x256x1024, .f32⟩

abbrev hbmTy (i : Nat) : BufTy := match i / 128 with
  | 0 => hbmTy0_0 i
  | 1 => hbmTy0_1 i
  | _ => ⟨S8x256x1024, .f32⟩

abbrev bufTy : (tb : Table) → Fin (tcTables nBuf tb) → BufTy
  | .hbm, ⟨i, _⟩ => hbmTy i
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_8 : Ref sig .tc := ⟨.hbm, 76, rfl⟩
abbrev main_v63 : Ref sig .tc := ⟨.hbm, 77, rfl⟩
abbrev main_v64 : Ref sig .tc := ⟨.hbm, 78, rfl⟩
abbrev main_cst_9 : Ref sig .tc := ⟨.hbm, 79, rfl⟩
abbrev main_v65 : Ref sig .tc := ⟨.hbm, 80, rfl⟩
abbrev main_v66 : Ref sig .tc := ⟨.hbm, 81, rfl⟩
abbrev main_cst_10 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_cst_11 : Ref sig .tc := ⟨.hbm, 97, rfl⟩
abbrev main_v81 : Ref sig .tc := ⟨.hbm, 98, rfl⟩
abbrev main_v82 : Ref sig .tc := ⟨.hbm, 99, rfl⟩
abbrev main_cst_12 : Ref sig .tc := ⟨.hbm, 100, rfl⟩
abbrev main_v83 : Ref sig .tc := ⟨.hbm, 101, rfl⟩
abbrev main_v84 : Ref sig .tc := ⟨.hbm, 102, rfl⟩
abbrev main_cst_13 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_cst_14 : Ref sig .tc := ⟨.hbm, 122, rfl⟩
abbrev main_v103 : Ref sig .tc := ⟨.hbm, 123, rfl⟩
abbrev main_v104 : Ref sig .tc := ⟨.hbm, 124, rfl⟩
abbrev main_cst_15 : Ref sig .tc := ⟨.hbm, 125, rfl⟩
abbrev main_v105 : Ref sig .tc := ⟨.hbm, 126, rfl⟩
abbrev main_v106 : Ref sig .tc := ⟨.hbm, 127, rfl⟩
abbrev main_cst_16 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_cst_17 : Ref sig .tc := ⟨.hbm, 143, rfl⟩
abbrev main_v121 : Ref sig .tc := ⟨.hbm, 144, rfl⟩
abbrev main_v122 : Ref sig .tc := ⟨.hbm, 145, rfl⟩
abbrev main_cst_18 : Ref sig .tc := ⟨.hbm, 146, rfl⟩
abbrev main_v123 : Ref sig .tc := ⟨.hbm, 147, rfl⟩
abbrev main_v124 : Ref sig .tc := ⟨.hbm, 148, rfl⟩
abbrev main_cst_19 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_cst_20 : Ref sig .tc := ⟨.hbm, 168, rfl⟩
abbrev main_v143 : Ref sig .tc := ⟨.hbm, 169, rfl⟩
abbrev main_v144 : Ref sig .tc := ⟨.hbm, 170, rfl⟩
abbrev main_cst_21 : Ref sig .tc := ⟨.hbm, 171, rfl⟩
abbrev main_v145 : Ref sig .tc := ⟨.hbm, 172, rfl⟩
abbrev main_v146 : Ref sig .tc := ⟨.hbm, 173, rfl⟩
abbrev main_cst_22 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩

abbrev nD : Nat := 1
abbrev τ : Topo := Topo.v7x

variable {F : FTy → Type} [FloatOps F]
-- ==== Kernel5.lean ====
abbrev S8x2048x3584 : Shape := ⟨3, ![8, 2048, 3584]⟩
abbrev S4x2048x256 : Shape := ⟨3, ![4, 2048, 256]⟩
abbrev S4x64 : Shape := ⟨2, ![4, 64]⟩
abbrev S1x4x1x64 : Shape := ⟨4, ![1, 4, 1, 64]⟩
abbrev S1x4x2x64 : Shape := ⟨4, ![1, 4, 2, 64]⟩
abbrev S4x128 : Shape := ⟨2, ![4, 128]⟩
abbrev S4x1x128 : Shape := ⟨3, ![4, 1, 128]⟩
abbrev S16384x3584 : Shape := ⟨2, ![16384, 3584]⟩
abbrev S16384x256 : Shape := ⟨2, ![16384, 256]⟩
abbrev S2048x128 : Shape := ⟨2, ![2048, 128]⟩
abbrev S1x256x128 : Shape := ⟨3, ![1, 256, 128]⟩
abbrev S1x1x128 : Shape := ⟨3, ![1, 1, 128]⟩
abbrev S2x1024x256 : Shape := ⟨3, ![2, 1024, 256]⟩
abbrev S2x1024x128 : Shape := ⟨3, ![2, 1024, 128]⟩
abbrev S1x128 : Shape := ⟨2, ![1, 128]⟩
abbrev S256x128 : Shape := ⟨2, ![256, 128]⟩
abbrev S512x128 : Shape := ⟨2, ![512, 128]⟩
abbrev S512 : Shape := ⟨1, ![512]⟩
abbrev S512x1 : Shape := ⟨2, ![512, 1]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩
abbrev S1x1024x128 : Shape := ⟨3, ![1, 1024, 128]⟩
abbrev S1x1024x256 : Shape := ⟨3, ![1, 1024, 256]⟩

abbrev nBuf : Space → Nat
  | .hbm => 10
  | .vmem => 13
  | .smem => 0
  | _ => 0

abbrev bufTy : (tb : Table) → Fin (tcTables nBuf tb) → BufTy
  | .hbm, ⟨0, _⟩ => ⟨S8x2048x3584, .bf16⟩
  | .hbm, ⟨1, _⟩ => ⟨S4x2048x256, .bf16⟩
  | .hbm, ⟨2, _⟩ => ⟨S4x2048x256, .bf16⟩
  | .hbm, ⟨3, _⟩ => ⟨S4x64, .f32⟩
  | .hbm, ⟨4, _⟩ => ⟨S1x4x1x64, .f32⟩
  | .hbm, ⟨5, _⟩ => ⟨S1x4x2x64, .f32⟩
  | .hbm, ⟨6, _⟩ => ⟨S4x128, .f32⟩
  | .hbm, ⟨7, _⟩ => ⟨S4x1x128, .f32⟩
  | .hbm, ⟨8, _⟩ => ⟨S16384x3584, .bf16⟩
  | .hbm, ⟨9, _⟩ => ⟨S16384x256, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x1x128, .f32⟩
  | .local _ .vmem, ⟨9, _⟩ => ⟨S2048x128, .bf16⟩
  | .local _ .vmem, ⟨10, _⟩ => ⟨S2048x128, .bf16⟩
  | .local _ .vmem, ⟨11, _⟩ => ⟨S2x1024x256, .bf16⟩
  | .local _ .vmem, ⟨12, _⟩ => ⟨S2x1024x128, .f32⟩
  | _, _ => ⟨S8x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg1
  let c0_i32 : BitVec 32 := 0#32
  ![arg0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8x2048x3584 : Shape := ⟨3, ![8, 2048, 3584]⟩
abbrev S4x2048x256 : Shape := ⟨3, ![4, 2048, 256]⟩
abbrev S4x64 : Shape := ⟨2, ![4, 64]⟩
abbrev S8x2048x256 : Shape := ⟨3, ![8, 2048, 256]⟩
abbrev S8x2048x4x64 : Shape := ⟨4, ![8, 2048, 4, 64]⟩
abbrev S8x4x2048x64 : Shape := ⟨4, ![8, 4, 2048, 64]⟩
abbrev S_ : Shape := ⟨0, ![]⟩
abbrev S8x4x2048 : Shape := ⟨3, ![8, 4, 2048]⟩
abbrev S8x4x2048x1 : Shape := ⟨4, ![8, 4, 2048, 1]⟩
abbrev S1x64 : Shape := ⟨2, ![1, 64]⟩
abbrev S64 : Shape := ⟨1, ![64]⟩
abbrev S1x1x1x64 : Shape := ⟨4, ![1, 1, 1, 64]⟩
abbrev S1x2048x256 : Shape := ⟨3, ![1, 2048, 256]⟩
abbrev S2048x256 : Shape := ⟨2, ![2048, 256]⟩
abbrev S8x256x4x64 : Shape := ⟨4, ![8, 256, 4, 64]⟩
abbrev S8x4x256x64 : Shape := ⟨4, ![8, 4, 256, 64]⟩
abbrev S8x4x2048x256 : Shape := ⟨4, ![8, 4, 2048, 256]⟩
abbrev S16384x256 : Shape := ⟨2, ![16384, 256]⟩

abbrev nBuf : Space → Nat
  | .hbm => 71
  | .vmem => 0
  | .smem => 0
  | _ => 0

abbrev bufTy : (tb : Table) → Fin (tcTables nBuf tb) → BufTy
  | .hbm, ⟨0, _⟩ => ⟨S8x2048x3584, .bf16⟩
  | .hbm, ⟨1, _⟩ => ⟨S4x2048x256, .bf16⟩
  | .hbm, ⟨2, _⟩ => ⟨S4x2048x256, .bf16⟩
  | .hbm, ⟨3, _⟩ => ⟨S4x64, .f32⟩
  | .hbm, ⟨4, _⟩ => ⟨S8x2048x256, .bf16⟩
  | .hbm, ⟨5, _⟩ => ⟨S8x2048x256, .f32⟩
  | .hbm, ⟨6, _⟩ => ⟨S8x2048x4x64, .f32⟩
  | .hbm, ⟨7, _⟩ => ⟨S8x4x2048x64, .f32⟩
  | .hbm, ⟨8, _⟩ => ⟨S8x2048x256, .bf16⟩
  | .hbm, ⟨9, _⟩ => ⟨S8x2048x256, .f32⟩
  | .hbm, ⟨10, _⟩ => ⟨S8x4x2048x64, .f32⟩
  | .hbm, ⟨11, _⟩ => ⟨S_, .f32⟩
  | .hbm, ⟨12, _⟩ => ⟨S8x4x2048, .f32⟩
  | .hbm, ⟨13, _⟩ => ⟨S8x4x2048x1, .f32⟩
  | .hbm, ⟨14, _⟩ => ⟨S_, .f32⟩
  | .hbm, ⟨15, _⟩ => ⟨S8x4x2048x1, .f32⟩
  | .hbm, ⟨16, _⟩ => ⟨S8x4x2048x1, .f32⟩
  | .hbm, ⟨17, _⟩ => ⟨S_, .f32⟩
  | .hbm, ⟨18, _⟩ => ⟨S8x4x2048x1, .f32⟩
  | .hbm, ⟨19, _⟩ => ⟨S8x4x2048x1, .f32⟩
  | .hbm, ⟨20, _⟩ => ⟨S8x4x2048x1, .f32⟩
  | .hbm, ⟨21, _⟩ => ⟨S8x4x2048x64, .f32⟩
  | .hbm, ⟨22, _⟩ => ⟨S8x4x2048x64, .f32⟩
  | .hbm, ⟨23, _⟩ => ⟨S1x64, .f32⟩
  | .hbm, ⟨24, _⟩ => ⟨S64, .f32⟩
  | .hbm, ⟨25, _⟩ => ⟨S1x1x1x64, .f32⟩
  | .hbm, ⟨26, _⟩ => ⟨S8x4x2048x64, .f32⟩
  | .hbm, ⟨27, _⟩ => ⟨S8x4x2048x64, .f32⟩
  | .hbm, ⟨28, _⟩ => ⟨S1x2048x256, .bf16⟩
  | .hbm, ⟨29, _⟩ => ⟨S2048x256, .bf16⟩
  | .hbm, ⟨30, _⟩ => ⟨S2048x256, .f32⟩
  | .hbm, ⟨31, _⟩ => ⟨S8x256x4x64, .f32⟩
  | .hbm, ⟨32, _⟩ => ⟨S8x4x256x64, .f32⟩
  | .hbm, ⟨33, _⟩ => ⟨S8x4x2048x256, .f32⟩
  | .hbm, ⟨34, _⟩ => ⟨S_, .f32⟩
  | .hbm, ⟨35, _⟩ => ⟨S8x4x2048x256, .f32⟩
  | .hbm, ⟨36, _⟩ => ⟨S8x4x2048x256, .f32⟩
  | .hbm, ⟨37, _⟩ => ⟨S_, .f32⟩
  | .hbm, ⟨38, _⟩ => ⟨S8x4x2048, .f32⟩
  | .hbm, ⟨39, _⟩ => ⟨S_, .f32⟩
  | .hbm, ⟨40, _⟩ => ⟨S8x4x2048, .f32⟩
  | .hbm, ⟨41, _⟩ => ⟨S8x4x2048, .f32⟩
  | .hbm, ⟨42, _⟩ => ⟨S8x4x2048x1, .f32⟩
  | .hbm, ⟨43, _⟩ => ⟨S8x4x2048x256, .f32⟩
  | .hbm, ⟨44, _⟩ => ⟨S8x4x2048x256, .f32⟩
  | .hbm, ⟨45, _⟩ => ⟨S8x4x2048x256, .f32⟩
  | .hbm, ⟨46, _⟩ => ⟨S_, .f32⟩
  | .hbm, ⟨47, _⟩ => ⟨S8x4x2048, .f32⟩
  | .hbm, ⟨48, _⟩ => ⟨S8x4x2048x1, .f32⟩
  | .hbm, ⟨49, _⟩ => ⟨S8x4x2048x256, .f32⟩
  | .hbm, ⟨50, _⟩ => ⟨S8x4x2048x256, .f32⟩
  | .hbm, ⟨51, _⟩ => ⟨S1x2048x256, .bf16⟩
  | .hbm, ⟨52, _⟩ => ⟨S2048x256, .bf16⟩
  | .hbm, ⟨53, _⟩ => ⟨S2048x256, .f32⟩
  | .hbm, ⟨54, _⟩ => ⟨S8x256x4x64, .f32⟩
  | .hbm, ⟨55, _⟩ => ⟨S8x4x256x64, .f32⟩
  | .hbm, ⟨56, _⟩ => ⟨S8x4x2048x64, .f32⟩
  | .hbm, ⟨57, _⟩ => ⟨S8x2048x4x64, .f32⟩
  | .hbm, ⟨58, _⟩ => ⟨S8x2048x256, .f32⟩
  | .hbm, ⟨59, _⟩ => ⟨S8x2048x256, .f32⟩
  | .hbm, ⟨60, _⟩ => ⟨S8x2048x256, .f32⟩
  | .hbm, ⟨61, _⟩ => ⟨S_, .f32⟩
  | .hbm, ⟨62, _⟩ => ⟨S8x2048x256, .f32⟩
  | .hbm, ⟨63, _⟩ => ⟨S8x2048x256, .f32⟩
  | .hbm, ⟨64, _⟩ => ⟨S_, .f32⟩
  | .hbm, ⟨65, _⟩ => ⟨S8x2048x256, .f32⟩
  | .hbm, ⟨66, _⟩ => ⟨S8x2048x256, .f32⟩
  | .hbm, ⟨67, _⟩ => ⟨S8x2048x256, .f32⟩
  | .hbm, ⟨68, _⟩ => ⟨S8x2048x256, .f32⟩
  | .hbm, ⟨69, _⟩ => ⟨S16384x256, .f32⟩
  | .hbm, ⟨70, _⟩ => ⟨S16384x256, .bf16⟩
  | _, _ => ⟨S8x2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== Proof.Rings.lean ====
/-
  The rings of the fused output projection's pipeline: the slots of its seven VMEM ring buffers and the row blocks of
  its HBM arrays as memrefs over a symbolic number, what a slot holds once block `b` has landed, and a slot's three
  states (free, a block in flight into it, the result block in flight out of it).
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring.Trips
public import Idealize.ShloMosaic.Lib.Tactic
public import Idealize.ShloMosaic.Lib.ValueIdxCore
public import Idealize.ShloMosaic.Lib.WordCmp
public import Idealize.ShloMosaic.Lib.Pipeline.Value
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The contents of a buffer of core `c`. -/
abbrev Bf (F : FTy → Type) (c : Dev nD) (b : Ref sig .tc) : Type := Buf (Elt F) ((c : Thread nD τ).loc b)

/-! ## Slots and row blocks -/

theorem inbA (n : Fin 2) : ∀ a, (![n.val, 0, 0] : Fin 3 → ℕ) a + S1x1024x384.size a ≤ S2x1024x384.size a := by revert n; decide
theorem inbM (n : Fin 2) : ∀ a, (![n.val, 0, 0] : Fin 3 → ℕ) a + S1x1024x256.size a ≤ S2x1024x256.size a := by revert n; decide
theorem inbX (n : Fin 3) : ∀ a, (![n.val, 0, 0] : Fin 3 → ℕ) a + S1x1024x1024.size a ≤ S3x1024x1024.size a := by revert n; decide
theorem inbO (n : Fin 2) : ∀ a, (![n.val, 0, 0] : Fin 3 → ℕ) a + S1x1024x1024.size a ≤ S2x1024x1024.size a := by revert n; decide
theorem inbW (n : Fin 2) : ∀ a, (![n.val, 0, 0, 0] : Fin 4 → ℕ) a + S1x1x1024x1024.size a ≤ S2x1x1024x1024.size a := by revert n; decide
theorem inbRA (b : Fin 16) : ∀ a, (![1024 * b.val, 0] : Fin 2 → ℕ) a + S1024x384.size a ≤ S16384x384.size a := by revert b; decide
theorem inbRM (b : Fin 16) : ∀ a, (![1024 * b.val, 0] : Fin 2 → ℕ) a + S1024x256.size a ≤ S16384x256.size a := by revert b; decide
theorem inbRG (b : Fin 16) : ∀ a, (![1024 * b.val, 1152] : Fin 2 → ℕ) a + S1024x384.size a ≤ S16384x3584.size a := by revert b; decide
theorem inbRX (b : Fin 16) : ∀ a, (![1024 * b.val, 0] : Fin 2 → ℕ) a + S1024x1024.size a ≤ S16384x1024.size a := by revert b; decide

/-- Slot `n` of a two-slot ring of 1024×384 blocks, as a memref. -/
abbrev slA (M : Memref sig .tc .vmem S2x1024x384 .bf16) (n : Fin 2) : Memref sig .tc .vmem S1024x384 .bf16 :=
  (M.slice (Rect.unit (s := S2x1024x384) ![n.val, 0, 0] S1x1024x384.size (inbA n)) (fun _ => rfl)).squeeze S1024x384 squeezes_S1x1024x384_S1024x384
abbrev slSb (n : Fin 2) : Memref sig .tc .vmem S1024x384 .bf16 := slA (Memref.whole cc0_scoped0) n
abbrev slRe (n : Fin 2) : Memref sig .tc .vmem S1024x384 .bf16 := slA (Memref.whole cc0_scoped2) n
abbrev slMe (n : Fin 2) : Memref sig .tc .vmem S1024x256 .bf16 :=
  ((Memref.whole cc0_scoped4 : Memref sig .tc .vmem S2x1024x256 .bf16).slice (Rect.unit (s := S2x1024x256) ![n.val, 0, 0] S1x1024x256.size (inbM n)) (fun _ => rfl)).squeeze S1024x256 squeezes_S1x1024x256_S1024x256
abbrev slGa (n : Fin 2) : Memref sig .tc .vmem S1024x384 .bf16 := slA (Memref.whole cc0_scoped6) n
abbrev slW (n : Fin 2) : Memref sig .tc .vmem S1x1024x1024 .f32 :=
  ((Memref.whole cc0_scoped8 : Memref sig .tc .vmem S2x1x1024x1024 .f32).slice (Rect.unit (s := S2x1x1024x1024) ![n.val, 0, 0, 0] S1x1x1024x1024.size (inbW n)) (fun _ => rfl)).squeeze S1x1024x1024 squeezes_S1x1x1024x1024_S1x1024x1024
abbrev slX (n : Fin 3) : Memref sig .tc .vmem S1024x1024 .f32 :=
  ((Memref.whole cc0_scoped10 : Memref sig .tc .vmem S3x1024x1024 .f32).slice (Rect.unit (s := S3x1024x1024) ![n.val, 0, 0] S1x1024x1024.size (inbX n)) (fun _ => rfl)).squeeze S1024x1024 squeezes_S1x1024x1024_S1024x1024
abbrev slO (n : Fin 2) : Memref sig .tc .vmem S1024x1024 .f32 :=
  ((Memref.whole cc0_scoped12 : Memref sig .tc .vmem S2x1024x1024 .f32).slice (Rect.unit (s := S2x1024x1024) ![n.val, 0, 0] S1x1024x1024.size (inbO n)) (fun _ => rfl)).squeeze S1024x1024 squeezes_S1x1024x1024_S1024x1024

/-- Row block `b` of each array. -/
abbrev roSb (b : Fin 16) : Memref sig .tc .hbm S1024x384 .bf16 :=
  (Memref.whole main_v0 : Memref sig .tc .hbm S16384x384 .bf16).slice (Rect.unit (s := S16384x384) ![1024 * b.val, 0] S1024x384.size (inbRA b)) (fun _ => rfl)
abbrev roRe (b : Fin 16) : Memref sig .tc .hbm S1024x384 .bf16 :=
  (Memref.whole main_v1 : Memref sig .tc .hbm S16384x384 .bf16).slice (Rect.unit (s := S16384x384) ![1024 * b.val, 0] S1024x384.size (inbRA b)) (fun _ => rfl)
abbrev roMe (b : Fin 16) : Memref sig .tc .hbm S1024x256 .bf16 :=
  (Memref.whole main_v2 : Memref sig .tc .hbm S16384x256 .bf16).slice (Rect.unit (s := S16384x256) ![1024 * b.val, 0] S1024x256.size (inbRM b)) (fun _ => rfl)
abbrev roGa (b : Fin 16) : Memref sig .tc .hbm S1024x384 .bf16 :=
  (Memref.whole main_v3 : Memref sig .tc .hbm S16384x3584 .bf16).slice (Rect.unit (s := S16384x3584) ![1024 * b.val, 1152] S1024x384.size (inbRG b)) (fun _ => rfl)
abbrev roW : Memref sig .tc .hbm S1x1024x1024 .f32 :=
  (Memref.whole main_arg4 : Memref sig .tc .hbm S4x1024x1024 .f32).slice (Rect.unit (s := S4x1024x1024) ![3, 0, 0] S1x1024x1024.size inb_S4x1024x1024_S1x1024x1024_3_0_0) (fun _ => rfl)
abbrev roX (b : Fin 16) : Memref sig .tc .hbm S1024x1024 .f32 :=
  (Memref.whole main_v4 : Memref sig .tc .hbm S16384x1024 .f32).slice (Rect.unit (s := S16384x1024) ![1024 * b.val, 0] S1024x1024.size (inbRX b)) (fun _ => rfl)
abbrev roO (b : Fin 16) : Memref sig .tc .hbm S1024x1024 .f32 :=
  (Memref.whole main_v5 : Memref sig .tc .hbm S16384x1024 .f32).slice (Rect.unit (s := S16384x1024) ![1024 * b.val, 0] S1024x1024.size (inbRX b)) (fun _ => rfl)

/-! ## Holding a view's own elements, an array at a share, a cell at zero -/

/-- A memref's own elements held at share `q` and contents `f`. -/
abbrev ownq (c : Dev nD) {sp : Space} {S : Shape} {e : EltTy} (M : Memref sig .tc sp S e) (q : PosShare TreeShare)
    (f : Buf (Elt F) (M.view.loc (c : Thread nD τ))) : sProp 𝕄 :=
  M.view.loc (c : Thread nD τ) ↦[M.view.set]{q} f
abbrev own (c : Dev nD) {sp : Space} {S : Shape} {e : EltTy} (M : Memref sig .tc sp S e) (f : Buf (Elt F) (M.view.loc (c : Thread nD τ))) : sProp 𝕄 :=
  ownq c M fullShare f
/-- A whole array read at share `q`. -/
abbrev rd (c : Dev nD) (b : Ref sig .tc) (q : PosShare TreeShare) (f : Bf F c b) : sProp 𝕄 :=
  (Memref.whole b).view.loc (c : Thread nD τ) ↦{q} f
/-- The array but for the elements of `M` (one of its blocks). -/
abbrev rest (c : Dev nD) (b : Ref sig .tc) (q : PosShare TreeShare) (J : Finset (Idx ((c : Thread nD τ).loc b))) (f : Bf F c b) : sProp 𝕄 :=
  (Memref.whole b).view.loc (c : Thread nD τ) ↦[Finset.univ \ J]{q} f
abbrev cell0 (c : Dev nD) (n : Fin 15) : sProp 𝕄 := semVal ((c : Thread nD τ), SemLoc.dma n) 0
/-- A transfer in flight on cell `n`, `N` bytes, delivering `D`. -/
abbrev fly (c : Dev nD) (n : Fin 15) (N : ℕ) (D : sProp 𝕄) : sProp 𝕄 :=
  Transfers.Flight (countersEmb (U := Pipeline.UD sig nD τ)) (c : Thread nD τ) (SemLoc.dma n) () N D

/-- The share of an array that the transfers into slot `n` of a two-slot ring read at. -/
def sh2 : Fin 2 → PosShare TreeShare
  | 0 => fullShare.left
  | 1 => fullShare.right

/-! ## What the pipeline computes -/

/-- The block the step computes from its six operand blocks (the gate `g`, the weight `w`): what it stores, before the
    leading unit axis is put back. -/
def outVal (sb g re : FVec F S1024x384 .bf16) (me : FVec F S1024x256 .bf16) (x w : FVec F S1024x1024 .f32) : FVec F S1024x1024 .f32 :=
  addf x (matmul dot_S1024x1024_S1024x1024_S1024x1024_1_0_0_1_n_n none
    (concatenate S1024x1024 1 [⟨S1024x384, truncf .bf16 (mulf (extf .f32 sb bitsLt_bf16_f32) (divf (extf .f32 g bitsLt_bf16_f32)
      (addf (broadcast S1024x384 (Scalar.ofBits .f32 0x3F800000#32)) (exp (subf (broadcast S1024x384 (Scalar.ofBits .f32 0x00000000#32))
        (extf .f32 g bitsLt_bf16_f32)))))) bitsLt_bf16_f32⟩, ⟨S1024x384, re⟩, ⟨S1024x256, me⟩]
      concatenates_S1024x384_S1024x384_S1024x256_S1024x1024_d1)
    (truncf .bf16 w bitsLt_bf16_f32) (constant S1024x1024 .f32 0x00000000#32))

theorem k0_pay1_eq (sb g re : Vec F S1x1024x384 .bf16) (me : Vec F S1x1024x256 .bf16) (x w : Vec F S1x1024x1024 .f32) :
    k0_pay1 sb g re me x w = shapeCast S1x1024x1024
      (outVal (shapeCast S1024x384 sb shapeCasts_S1x1024x384_S1024x384) (shapeCast S1024x384 g shapeCasts_S1x1024x384_S1024x384)
        (shapeCast S1024x384 re shapeCasts_S1x1024x384_S1024x384) (shapeCast S1024x256 me shapeCasts_S1x1024x256_S1024x256)
        (shapeCast S1024x1024 x shapeCasts_S1x1024x1024_S1024x1024) (shapeCast S1024x1024 w shapeCasts_S1x1024x1024_S1024x1024))
      shapeCasts_S1024x1024_S1x1024x1024 := rfl

/-- The contents of the arrays the pipeline reads. -/
structure Arrs (F : FTy → Type) [FloatOps F] (c : Dev nD) where
  sb : Bf F c main_v0
  re : Bf F c main_v1
  me : Bf F c main_v2
  ga : Bf F c main_v3
  w : Bf F c main_arg4
  x : Bf F c main_v4

variable {c : Dev nD}

/-- Row block `b` of the result. -/
def outB (A : Arrs F c) (b : Fin 16) : FVec F S1024x1024 .f32 :=
  outVal ((roSb b).view.read (Elt F) A.sb) ((roGa b).view.read (Elt F) A.ga) ((roRe b).view.read (Elt F) A.re) ((roMe b).view.read (Elt F) A.me)
    ((roX b).view.read (Elt F) A.x) (shapeCast S1024x1024 (roW.view.read (Elt F) A.w) shapeCasts_S1x1024x1024_S1024x1024)

/-- The result array: row `r` is row `r % 1024` of block `r / 1024`. -/
def outFin (A : Arrs F c) : Bf F c main_v5 := fun i : S16384x1024.Idx =>
  outB A ⟨(i 0).val / 1024, (Nat.div_lt_iff_lt_mul (by decide)).mpr (i 0).isLt⟩
    (ValueIdx.ix2 ⟨(i 0).val % 1024, Nat.mod_lt _ (by decide)⟩ (i 1))

theorem read_outFin (A : Arrs F c) (b : Fin 16) : (roO b).view.read (Elt F) (outFin A) = outB A b := by
  funext x
  have h0 : ((roO b).view.emb x 0).val = 1024 * b.val + (x 0).val := by
    show 1024 * b.val + 1 * (x 0).val = _
    rw [Nat.one_mul]
  have h1 : ((roO b).view.emb x 1).val = (x 1).val := by
    show 0 + 1 * (x 1).val = _
    omega
  have hx : (x 0).val < 1024 := (x 0).isLt
  rw [View.read_apply]
  show outB A _ _ = _
  congr 1
  · apply Fin.ext
    show ((roO b).view.emb x 0).val / 1024 = b.val
    rw [h0]; omega
  · funext a
    apply Fin.ext
    fin_cases a
    · show ((roO b).view.emb x 0).val % 1024 = (x 0).val
      rw [h0]; omega
    · exact h1

/-- Holding a view's own elements at contents it reads the same. -/
theorem own_eq_of_read {sp : Space} {S : Shape} {e : EltTy} (M : Memref sig .tc sp S e) (q : PosShare TreeShare)
    (f g : Buf (Elt F) (M.view.loc (c : Thread nD τ))) (h : M.view.read (Elt F) f = M.view.read (Elt F) g) :
    (ownq c M q f : sProp 𝕄) = ownq c M q g :=
  pointsTo_congr fun i hi => by
    obtain ⟨x, -, rfl⟩ := Finset.mem_map.mp hi
    have := congrFun h x
    rw [View.read_apply, View.read_apply] at this
    simpa using this

/-- A block landed in a slot reads back. -/
theorem landed {sp : Space} {S : Shape} {e : EltTy} (M : Memref sig .tc sp S e) (f : M.view.ty.Contents (Elt F)) (p : S.Idx → Elt F e) :
    M.view.read (Elt F) (M.view.writes (Elt F) f [⟨Rect.whole S, p⟩]) = p := View.read_writes_whole _ _ _

/-- What a trip stores into its output slot, read back as the block copied out of it. -/
theorem out_payload (A : Arrs F c) (n : Fin 2) (m : Fin 3) (b : Fin 16) {g0 : Bf F c cc0_scoped0} {g1 : Bf F c cc0_scoped2}
    {g2 : Bf F c cc0_scoped4} {g3 : Bf F c cc0_scoped6} {g4 : Bf F c cc0_scoped8} {g5 : Bf F c cc0_scoped10} (f : Bf F c cc0_scoped12)
    (h0 : (slSb n).view.read (Elt F) g0 = (roSb b).view.read (Elt F) A.sb) (h1 : (slRe n).view.read (Elt F) g1 = (roRe b).view.read (Elt F) A.re)
    (h2 : (slMe n).view.read (Elt F) g2 = (roMe b).view.read (Elt F) A.me) (h3 : (slGa n).view.read (Elt F) g3 = (roGa b).view.read (Elt F) A.ga)
    (h4 : (slW 0).view.read (Elt F) g4 = roW.view.read (Elt F) A.w) (h5 : (slX m).view.read (Elt F) g5 = (roX b).view.read (Elt F) A.x)
    {v0 v1 v3 : S1x1024x384.Idx → Elt F .bf16} {v2 : S1x1024x256.Idx → Elt F .bf16} {v4 v5 : S1x1024x1024.Idx → Elt F .f32}
    (e0 : v0 = (Memref.whole cc0_scoped0 : Memref sig .tc .vmem S2x1024x384 .bf16).view.readAt (Elt F) (Rect.unit (s := S2x1024x384) ![n.val, 0, 0] S1x1024x384.size (inbA n)).toLoadRect g0)
    (e3 : v3 = (Memref.whole cc0_scoped6 : Memref sig .tc .vmem S2x1024x384 .bf16).view.readAt (Elt F) (Rect.unit (s := S2x1024x384) ![n.val, 0, 0] S1x1024x384.size (inbA n)).toLoadRect g3)
    (e1 : v1 = (Memref.whole cc0_scoped2 : Memref sig .tc .vmem S2x1024x384 .bf16).view.readAt (Elt F) (Rect.unit (s := S2x1024x384) ![n.val, 0, 0] S1x1024x384.size (inbA n)).toLoadRect g1)
    (e2 : v2 = (Memref.whole cc0_scoped4 : Memref sig .tc .vmem S2x1024x256 .bf16).view.readAt (Elt F) (Rect.unit (s := S2x1024x256) ![n.val, 0, 0] S1x1024x256.size (inbM n)).toLoadRect g2)
    (e5 : v5 = (Memref.whole cc0_scoped10 : Memref sig .tc .vmem S3x1024x1024 .f32).view.readAt (Elt F) (Rect.unit (s := S3x1024x1024) ![m.val, 0, 0] S1x1024x1024.size (inbX m)).toLoadRect g5)
    (e4 : v4 = (slW 0).view.readAt (Elt F) (Rect.unit (s := S1x1024x1024) ![0, 0, 0] S1x1024x1024.size inb_S1x1024x1024_S1x1024x1024_0_0_0).toLoadRect g4) :
    (slO n).view.read (Elt F)
        (((Memref.whole cc0_scoped12 : Memref sig .tc .vmem S2x1024x1024 .f32).access (Rect.unit (s := S2x1024x1024) ![n.val, 0, 0] S1x1024x1024.size (inbO n))).write (Elt F) f
          (k0_pay1 v0 v3 v1 v2 v5 v4) Finset.univ)
      = outB A b := by
  subst e0 e1 e2 e3 e5
  rw [e4.trans ((View.readAt_full _ _ _).trans h4)]
  unfold outB
  rw [← h0, ← h1, ← h2, ← h3, ← h5, k0_pay1_eq]
  funext x
  refine (View.read_write_of_mem (v := (Memref.whole cc0_scoped12 : Memref sig .tc .vmem S2x1024x1024 .f32).access
    (Rect.unit (s := S2x1024x1024) ![n.val, 0, 0] S1x1024x1024.size (inbO n))) f _ (Finset.mem_univ (Shape.reshapeEquiv _ x))).trans ?_
  exact congrFun (shapeCast_shapeCast _ shapeCasts_S1024x1024_S1x1024x1024 shapeCasts_S1x1024x1024_S1024x1024) x

theorem out_done (A : Arrs F c) {b : Fin 16} {r : Bf F c main_v5} (h : (roO b).view.read (Elt F) r = outB A b) :
    (own c (roO b) r : sProp 𝕄) ⊢ own c (roO b) (outFin A) := by
  have e : (own c (roO b) r : sProp 𝕄) = own c (roO b) (outFin A) :=
    own_eq_of_read (roO b) fullShare r (outFin A) (h.trans (read_outFin A b).symm)
  exact e ▸ .rfl

/-! ## A slot's states -/

section Slots
variable (A : Arrs F c)

/-- Slot `n` (cell `s`) with block `b` in flight into it, read at share `q`. -/
def flSb (n : Fin 2) (s : Fin 15) (q : PosShare TreeShare) (b : Fin 16) : sProp 𝕄 :=
  iprop(∃ g, fly c s 24576 iprop(own c (slSb n) g ∗ ownq c (roSb b) q A.sb) ∗ rest c main_v0 q (roSb b).view.set A.sb
    ∗ ⌜(slSb n).view.read (Elt F) g = (roSb b).view.read (Elt F) A.sb⌝)
def frSb (n : Fin 2) (s : Fin 15) (q : PosShare TreeShare) : sProp 𝕄 := iprop(cell0 c s ∗ (∃ g, own c (slSb n) g) ∗ rd c main_v0 q A.sb)
def flRe (n : Fin 2) (s : Fin 15) (q : PosShare TreeShare) (b : Fin 16) : sProp 𝕄 :=
  iprop(∃ g, fly c s 24576 iprop(own c (slRe n) g ∗ ownq c (roRe b) q A.re) ∗ rest c main_v1 q (roRe b).view.set A.re
    ∗ ⌜(slRe n).view.read (Elt F) g = (roRe b).view.read (Elt F) A.re⌝)
def frRe (n : Fin 2) (s : Fin 15) (q : PosShare TreeShare) : sProp 𝕄 := iprop(cell0 c s ∗ (∃ g, own c (slRe n) g) ∗ rd c main_v1 q A.re)
def flMe (n : Fin 2) (s : Fin 15) (q : PosShare TreeShare) (b : Fin 16) : sProp 𝕄 :=
  iprop(∃ g, fly c s 16384 iprop(own c (slMe n) g ∗ ownq c (roMe b) q A.me) ∗ rest c main_v2 q (roMe b).view.set A.me
    ∗ ⌜(slMe n).view.read (Elt F) g = (roMe b).view.read (Elt F) A.me⌝)
def frMe (n : Fin 2) (s : Fin 15) (q : PosShare TreeShare) : sProp 𝕄 := iprop(cell0 c s ∗ (∃ g, own c (slMe n) g) ∗ rd c main_v2 q A.me)
def flGa (n : Fin 2) (s : Fin 15) (q : PosShare TreeShare) (b : Fin 16) : sProp 𝕄 :=
  iprop(∃ g, fly c s 24576 iprop(own c (slGa n) g ∗ ownq c (roGa b) q A.ga) ∗ rest c main_v3 q (roGa b).view.set A.ga
    ∗ ⌜(slGa n).view.read (Elt F) g = (roGa b).view.read (Elt F) A.ga⌝)
def frGa (n : Fin 2) (s : Fin 15) (q : PosShare TreeShare) : sProp 𝕄 := iprop(cell0 c s ∗ (∃ g, own c (slGa n) g) ∗ rd c main_v3 q A.ga)
def flX (n : Fin 3) (s : Fin 15) (b : Fin 16) : sProp 𝕄 :=
  iprop(∃ g, fly c s 131072 iprop(own c (slX n) g ∗ ownq c (roX b) (Ring.shares3 fullShare n) A.x)
    ∗ rest c main_v4 (Ring.shares3 fullShare n) (roX b).view.set A.x ∗ ⌜(slX n).view.read (Elt F) g = (roX b).view.read (Elt F) A.x⌝)
def frX (n : Fin 3) (s : Fin 15) : sProp 𝕄 := iprop(cell0 c s ∗ (∃ g, own c (slX n) g) ∗ rd c main_v4 (Ring.shares3 fullShare n) A.x)
/-- The weight, in flight into its slot, and landed there. -/
def flW : sProp 𝕄 :=
  iprop(∃ g, fly c 8 131072 iprop(own c (slW 0) g ∗ ownq c roW fullShare A.w) ∗ rest c main_arg4 fullShare roW.view.set A.w
    ∗ ⌜(slW 0).view.read (Elt F) g = roW.view.read (Elt F) A.w⌝)
def atW : sProp 𝕄 :=
  iprop(cell0 c 8 ∗ (∃ g, own c (slW 0) g ∗ ⌜(slW 0).view.read (Elt F) g = roW.view.read (Elt F) A.w⌝) ∗ rd c main_arg4 fullShare A.w)
/-- Out slot `n` (cell `s`) with result block `b` in flight out of it; free. -/
def flO (n : Fin 2) (s : Fin 15) (b : Fin 16) : sProp 𝕄 :=
  iprop(∃ r g, fly c s 131072 iprop(own c (roO b) r ∗ own c (slO n) g) ∗ ⌜(roO b).view.read (Elt F) r = outB A b⌝)
def frO (c : Dev nD) (n : Fin 2) (s : Fin 15) : sProp 𝕄 := iprop(cell0 c s ∗ (∃ g, own c (slO n) g : sProp 𝕄))
/-- Row block `b` of the result array, before its block is written and after. -/
def toB (o : Bf F c main_v5) (b : Fin 16) : sProp 𝕄 := own c (roO b) o
def doB (b : Fin 16) : sProp 𝕄 := own c (roO b) (outFin A)

end Slots

end Cert.KernelIdeal.Hand

end
-- ==== Proof.Inv.lean ====
/-
  The pipeline loop's invariant: before trip `k` each input ring has the blocks from `k` on in flight, as many as it
  prefetches, and its other slots free; the result's block `k - 1` is in flight out of the output ring; the result
  array's blocks before that are written and those from `k` on untouched.
-/
module

public import proofs.«01_k».proof.Proof.Rings

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The words the loop carries. -/
abbrev Carried : Type :=
  BitVec 32 × BitVec 32 × BitVec 32 × BitVec 32 × BitVec 32 × BitVec 32 × BitVec 32 × BitVec 32 × BitVec 32 × BitVec 32
    × BitVec 32 × BitVec 32 × BitVec 32 × BitVec 32 × BitVec 32

/-- Before trip `k`: how far each ring has been filled, and how far used. -/
def carried (k : ℕ) : Carried :=
  let e : BitVec 32 := BitVec.ofNat 32 (if k < 15 then k + 1 else 16)
  let u : BitVec 32 := BitVec.ofNat 32 k
  (e, u, e, u, e, u, e, u, 1#32, BitVec.ofNat 32 (if k < 16 then 0 else 1), BitVec.ofNat 32 (if k < 14 then k + 2 else 16), u, u,
    BitVec.ofNat 32 (k - 1), BitVec.ofNat 32 (k % 16))

variable {c : Dev nD} (A : Arrs F c) (o : Bf F c main_v5)

/-- The input rings before trip `k`. -/
def ringsAt (k : ℕ) : sProp 𝕄 :=
  iprop((if k < 16 then flSb A (Fin.ofNat 2 k) (Fin.ofNat 15 (k % 2)) (sh2 (Fin.ofNat 2 k)) (Fin.ofNat 16 k)
        else frSb A (Fin.ofNat 2 k) (Fin.ofNat 15 (k % 2)) (sh2 (Fin.ofNat 2 k)))
    ∗ frSb A (Fin.ofNat 2 (k + 1)) (Fin.ofNat 15 ((k + 1) % 2)) (sh2 (Fin.ofNat 2 (k + 1)))
    ∗ (if k < 16 then flRe A (Fin.ofNat 2 k) (Fin.ofNat 15 (2 + k % 2)) (sh2 (Fin.ofNat 2 k)) (Fin.ofNat 16 k)
        else frRe A (Fin.ofNat 2 k) (Fin.ofNat 15 (2 + k % 2)) (sh2 (Fin.ofNat 2 k)))
    ∗ frRe A (Fin.ofNat 2 (k + 1)) (Fin.ofNat 15 (2 + (k + 1) % 2)) (sh2 (Fin.ofNat 2 (k + 1)))
    ∗ (if k < 16 then flMe A (Fin.ofNat 2 k) (Fin.ofNat 15 (4 + k % 2)) (sh2 (Fin.ofNat 2 k)) (Fin.ofNat 16 k)
        else frMe A (Fin.ofNat 2 k) (Fin.ofNat 15 (4 + k % 2)) (sh2 (Fin.ofNat 2 k)))
    ∗ frMe A (Fin.ofNat 2 (k + 1)) (Fin.ofNat 15 (4 + (k + 1) % 2)) (sh2 (Fin.ofNat 2 (k + 1)))
    ∗ (if k < 16 then flGa A (Fin.ofNat 2 k) (Fin.ofNat 15 (6 + k % 2)) (sh2 (Fin.ofNat 2 k)) (Fin.ofNat 16 k)
        else frGa A (Fin.ofNat 2 k) (Fin.ofNat 15 (6 + k % 2)) (sh2 (Fin.ofNat 2 k)))
    ∗ frGa A (Fin.ofNat 2 (k + 1)) (Fin.ofNat 15 (6 + (k + 1) % 2)) (sh2 (Fin.ofNat 2 (k + 1)))
    ∗ (if k < 1 then flW A else atW A)
    ∗ (if k < 16 then flX A (Fin.ofNat 3 k) (Fin.ofNat 15 (10 + k % 3)) (Fin.ofNat 16 k)
        else frX A (Fin.ofNat 3 k) (Fin.ofNat 15 (10 + k % 3)))
    ∗ (if k < 15 then flX A (Fin.ofNat 3 (k + 1)) (Fin.ofNat 15 (10 + (k + 1) % 3)) (Fin.ofNat 16 (k + 1))
        else frX A (Fin.ofNat 3 (k + 1)) (Fin.ofNat 15 (10 + (k + 1) % 3)))
    ∗ frX A (Fin.ofNat 3 (k + 2)) (Fin.ofNat 15 (10 + (k + 2) % 3)))

/-- The output ring before trip `k`. -/
def outAt (k : ℕ) : sProp 𝕄 :=
  iprop((if k < 1 then frO c (Fin.ofNat 2 (k + 1)) (Fin.ofNat 15 (13 + (k + 1) % 2))
        else flO A (Fin.ofNat 2 (k + 1)) (Fin.ofNat 15 (13 + (k + 1) % 2)) (Fin.ofNat 16 (k - 1)))
    ∗ frO c (Fin.ofNat 2 k) (Fin.ofNat 15 (13 + k % 2)))

/-- What one trip at `k` touches, but for the row block it starts writing. -/
def tripAt (k : ℕ) : sProp 𝕄 :=
  iprop(ringsAt A k ∗ outAt A k ∗ ∃ W, owes (c : Thread nD τ) 0 W)

/-- The invariant before trip `k`. -/
def inv (k : ℕ) (acc : Carried) : sProp 𝕄 :=
  iprop(⌜acc = carried k⌝ ∗ tripAt A k ∗ bigSep (Ring.rangeSet 16 0 (k - 1)) (doB A) ∗ bigSep (Ring.rangeSet 16 k 16) (toB o))

/-- The loop's region at the program's own buffers. -/
abbrev body (k : Fin k0_t1_loop.trips) (acc : Carried) : Prog (TpuEff nD τ sig (Elt F) Λ₀ .tc) Carried :=
  k0_t1_body (F := F) (Memref.whole main_v0) (Memref.isWhole_whole _) (Memref.whole main_v1) (Memref.isWhole_whole _) (Memref.whole main_v2) (Memref.isWhole_whole _)
    (Memref.whole main_v3) (Memref.isWhole_whole _) (Memref.whole main_arg4) (Memref.isWhole_whole _) (Memref.whole main_v4) (Memref.isWhole_whole _)
    (Memref.whole main_v5) (Memref.isWhole_whole _) (Memref.whole cc0_scoped0) (Memref.isWhole_whole _) cc0_scoped1 (Memref.whole cc0_scoped2) (Memref.isWhole_whole _) cc0_scoped3
    (Memref.whole cc0_scoped4) (Memref.isWhole_whole _) cc0_scoped5 (Memref.whole cc0_scoped6) (Memref.isWhole_whole _) cc0_scoped7
    (Memref.whole cc0_scoped8) (Memref.isWhole_whole _) cc0_scoped9 (Memref.whole cc0_scoped10) (Memref.isWhole_whole _) cc0_scoped11
    (Memref.whole cc0_scoped12) (Memref.isWhole_whole _) cc0_scoped13 1#32 1#32 1#32 1#32 1#32 k acc

theorem sh2_0 : sh2 0 = fullShare.left := rfl
theorem sh2_1 : sh2 1 = fullShare.right := rfl

end Cert.KernelIdeal.Hand

end
-- ==== Proof.Trip.lean ====
/-
  One trip of the pipeline loop: from the invariant's pieces before it to those after it. The trips are run one by one,
  each at its literal number, by one script: the first trip also waits for the weight and for no result block, and the
  last two issue fewer copies.
-/
module

public import proofs.«01_k».proof.Proof.Inv

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {c : Dev nD} (A : Arrs F c) (o : Bf F c main_v5)

/-- One trip from its invariant's pieces to the next trip's: the block it copies out is written, and at every trip but
    the first the block before it has landed in the result. -/
theorem trip (i : Fin k0_t1_loop.trips) (Q : Carried → sProp 𝕄) :
    iprop(tripAt A i.val ∗ toB o (Fin.ofNat 16 i.val)
        ∗ (tripAt A (i.val + 1) ∗ (if i.val < 1 then emp else doB A (Fin.ofNat 16 (i.val - 1))) -∗ Q (carried (i.val + 1))))
      ⊢ wp frame (wpE (defs₀ (F := F)) Variants.none c none) Set.univ (body i (carried i.val)) Q := by
  fin_cases i
  all_goals
    simp only [tripAt, ringsAt, outAt, carried, body, Nat.reduceAdd, Nat.reduceSub, Nat.reduceMod, Nat.reduceLT, if_true, if_false, Fin.reduceOfNat, sh2_0, sh2_1, reduceIte, ite_true, ite_false, Fin.isValue]
    unfold flSb frSb flRe frRe flMe frMe flGa frGa flX frX frO toB
    unfold atW flO
    first | unfold flW | unfold doB
    first
      | iintro ⟨⟨⟨⟨%g0, M0, A0, %h0⟩, ⟨M0', ⟨%g0', S0'⟩, A0'⟩, ⟨%g1, M1, A1, %h1⟩, ⟨M1', ⟨%g1', S1'⟩, A1'⟩,
          ⟨%g2, M2, A2, %h2⟩, ⟨M2', ⟨%g2', S2'⟩, A2'⟩, ⟨%g3, M3, A3, %h3⟩, ⟨M3', ⟨%g3', S3'⟩, A3'⟩,
          ⟨M4, ⟨%g4, S4, %h4⟩, A4⟩, ⟨%g5, M5, A5, %h5⟩, P6, ⟨M5', ⟨%g5', S5'⟩, A5'⟩⟩,
          ⟨⟨%r7, %g7, M7, %h7⟩, M7', ⟨%g7', S7'⟩⟩, ⟨%W, HO⟩⟩, AO, Hk⟩
      | iintro ⟨⟨⟨⟨%g0, M0, A0, %h0⟩, ⟨M0', ⟨%g0', S0'⟩, A0'⟩, ⟨%g1, M1, A1, %h1⟩, ⟨M1', ⟨%g1', S1'⟩, A1'⟩,
          ⟨%g2, M2, A2, %h2⟩, ⟨M2', ⟨%g2', S2'⟩, A2'⟩, ⟨%g3, M3, A3, %h3⟩, ⟨M3', ⟨%g3', S3'⟩, A3'⟩,
          ⟨%g4, M4, A4, %h4⟩, ⟨%g5, M5, A5, %h5⟩, P6, ⟨M5', ⟨%g5', S5'⟩, A5'⟩⟩,
          ⟨⟨M7, %g7, S7⟩, M7', ⟨%g7', S7'⟩⟩, ⟨%W, HO⟩⟩, AO, Hk⟩
    sl_exec
    sl_step
    iapply Hk
    first
      | isplitr [M7_dst]; rotate_left; · iapply (out_done A h7); iexact M7_dst
      | isplitr []; rotate_left; · iempintro
    first | isplitr [M7' M7 M7_src HO] | isplitr [M7' M7 S7 HO]
    · first
        | isplitl [M0' A0']
          · iexists _; isplitl [M0']; · iexact M0'
            isplitl [A0']; · iexact A0'
            ipureintro; exact (landed _ _ _).trans rfl
        | isplitl [M0' S0' A0']
          · isplitl [M0']; · iexact M0'
            isplitl [S0']; · iexists _; iexact S0'
            iexact A0'
      isplitl [M0 M0_dst A0]
      · isplitl [M0]; · iexact M0
        isplitl [M0_dst]; · iexists _; iexact M0_dst
        iexact A0
      first
        | isplitl [M1' A1']
          · iexists _; isplitl [M1']; · iexact M1'
            isplitl [A1']; · iexact A1'
            ipureintro; exact (landed _ _ _).trans rfl
        | isplitl [M1' S1' A1']
          · isplitl [M1']; · iexact M1'
            isplitl [S1']; · iexists _; iexact S1'
            iexact A1'
      isplitl [M1 M1_dst A1]
      · isplitl [M1]; · iexact M1
        isplitl [M1_dst]; · iexists _; iexact M1_dst
        iexact A1
      first
        | isplitl [M2' A2']
          · iexists _; isplitl [M2']; · iexact M2'
            isplitl [A2']; · iexact A2'
            ipureintro; exact (landed _ _ _).trans rfl
        | isplitl [M2' S2' A2']
          · isplitl [M2']; · iexact M2'
            isplitl [S2']; · iexists _; iexact S2'
            iexact A2'
      isplitl [M2 M2_dst A2]
      · isplitl [M2]; · iexact M2
        isplitl [M2_dst]; · iexists _; iexact M2_dst
        iexact A2
      first
        | isplitl [M3' A3']
          · iexists _; isplitl [M3']; · iexact M3'
            isplitl [A3']; · iexact A3'
            ipureintro; exact (landed _ _ _).trans rfl
        | isplitl [M3' S3' A3']
          · isplitl [M3']; · iexact M3'
            isplitl [S3']; · iexists _; iexact S3'
            iexact A3'
      isplitl [M3 M3_dst A3]
      · isplitl [M3]; · iexact M3
        isplitl [M3_dst]; · iexists _; iexact M3_dst
        iexact A3
      first
        | isplitl [M4 S4 A4]
          · isplitl [M4]; · iexact M4
            isplitl [S4]
            · iexists _; isplitl [S4]; · iexact S4
              ipureintro; exact h4
            iexact A4
        | isplitl [M4 M4_dst A4]
          · isplitl [M4]; · iexact M4
            isplitl [M4_dst]
            · iexists _; isplitl [M4_dst]; · iexact M4_dst
              ipureintro; exact h4
            iexact A4
      isplitl [P6]; · iexact P6
      first
        | isplitl [M5' A5']
          · iexists _; isplitl [M5']; · iexact M5'
            isplitl [A5']; · iexact A5'
            ipureintro; exact (landed _ _ _).trans rfl
        | isplitl [M5' S5' A5']
          · isplitl [M5']; · iexact M5'
            isplitl [S5']; · iexists _; iexact S5'
            iexact A5'
      isplitl [M5]; · iexact M5
      isplitl [M5_dst]; · iexists _; iexact M5_dst
      iexact A5
    · isplitr [HO]; rotate_left; · iexists _; iexact HO
      isplitl [M7']
      · iexists _; iexists _; isplitl [M7']; · iexact M7'
        ipureintro
        refine (landed _ _ _).trans ?_
        refine out_payload A _ _ _ g7' h0 h1 h2 h3 h4 h5 ?_ ?_ ?_ ?_ ?_ ?_ <;> rfl
      isplitl [M7]; · iexact M7
      first | iexists _; iexact M7_src | iexists _; iexact S7

end Cert.KernelIdeal.Hand

end
-- ==== Proof.Loop.lean ====
/-
  The pipeline loop by its invariant: a trip takes the invariant before it to the invariant after it.
-/
module

public import proofs.«01_k».proof.Proof.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {c : Dev nD} (A : Arrs F c) (o : Bf F c main_v5)

theorem ofNat_eq {k : ℕ} (h : k < 16) : Fin.ofNat 16 k = ⟨k, h⟩ := Fin.ext (Nat.mod_eq_of_lt h)

theorem inv_step (i : Fin k0_t1_loop.trips) (acc : Carried) :
    inv A o i.val acc ⊢ wp frame (wpE (defs₀ (F := F)) Variants.none c none) Set.univ (body i acc) (inv A o (i.val + 1)) := by
  have hi : i.val < 16 := i.isLt
  have hd : iprop((if i.val < 1 then (emp : sProp 𝕄) else doB A (Fin.ofNat 16 (i.val - 1))) ∗ bigSep (Ring.rangeSet 16 0 (i.val - 1)) (doB A))
      ⊢ bigSep (Ring.rangeSet 16 0 (i.val + 1 - 1)) (doB A) := by
    rw [Nat.add_sub_cancel]
    by_cases h : i.val < 1
    · rw [if_pos h, Ring.bigSep_rangeSet_empty (by omega), Ring.bigSep_rangeSet_empty (by omega)]
      iintro ⟨-, H⟩; iexact H
    · rw [if_neg h, ofNat_eq (by omega), Ring.bigSep_rangeSet_last (lo := 0) (hi := i.val) (by omega) (by omega)]
  unfold inv
  rw [Ring.bigSep_rangeSet_head (Φ := toB o) hi hi, ← ofNat_eq hi]
  iintro ⟨%e, HT, HD, HB, HO⟩
  subst e
  iapply (trip A o i _)
  isplitl [HT]; · iexact HT
  isplitl [HB]; · iexact HB
  iintro ⟨HT, HB⟩
  isplitr; · ipureintro; rfl
  isplitl [HT]; · iexact HT
  isplitl [HD HB]
  · iapply hd
    isplitl [HB]; · iexact HB
    iexact HD
  iexact HO

end Cert.KernelIdeal.Hand

end
-- ==== Proof.Split.lean ====
/-
  The rings held slot by slot and the result array held row block by row block: the slots, and the row blocks, are
  disjoint and cover their buffer.
-/
module

public import proofs.«01_k».proof.Proof.Inv

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {c : Dev nD}

/-- A family of sets, pairwise disjoint and covering. -/
structure Tiles {ι α : Type} [Fintype ι] [Fintype α] [DecidableEq α] (J : ι → Finset α) : Prop where
  apart : ∀ b b', b ≠ b' → Disjoint (J b) (J b')
  cover : Finset.univ.biUnion J = Finset.univ

/-- Unit rectangles that differ in their offset along axis 0 only, `R` apart, tile the shape. -/
theorem tiles_lead {s : Shape} {NB : ℕ} (a₀ : Fin s.rank) (R : ℕ) (off : Fin NB → Fin s.rank → ℕ) (size : Fin s.rank → ℕ)
    (inb : ∀ b a, off b a + size a ≤ s.size a) (hoff₀ : ∀ b, off b a₀ = R * b.val) (hoff : ∀ b a, a ≠ a₀ → off b a = 0)
    (hsz₀ : size a₀ = R) (hsz : ∀ a, a ≠ a₀ → size a = s.size a) (hN : NB * R = s.size a₀) :
    Tiles fun b => (Rect.unit (off b) size (inb b)).set :=
  ⟨Ring.lead_disjoint a₀ R off size inb hoff₀ hsz₀, Ring.lead_cover a₀ R off size inb hoff₀ hoff hsz₀ hsz hN⟩

theorem tilesSb : Tiles (α := S2x1024x384.Idx) fun n => (slSb n).view.set := by
  have e : (fun n => (slSb n).view.set : Fin _ → Finset S2x1024x384.Idx) = fun n : Fin 2 => (Rect.unit (s := S2x1024x384) ![n.val, 0, 0] S1x1024x384.size (inbA n)).set :=
    funext fun n => by simp only [slA, Memref.view_squeeze, View.set_reshape]; exact View.set_slice_whole _ _
  rw [e]
  exact tiles_lead (s := S2x1024x384) (0 : Fin 3) 1 (fun n : Fin 2 => ![n.val, 0, 0]) _ inbA (fun n => by simp)
    (fun n a ha => by fin_cases a <;> first | exact absurd rfl ha | rfl) rfl (fun a ha => by fin_cases a <;> first | exact absurd rfl ha | rfl) rfl
theorem tilesRe : Tiles (α := S2x1024x384.Idx) fun n => (slRe n).view.set := tilesSb
theorem tilesGa : Tiles (α := S2x1024x384.Idx) fun n => (slGa n).view.set := tilesSb
theorem tilesMe : Tiles (α := S2x1024x256.Idx) fun n => (slMe n).view.set := by
  have e : (fun n => (slMe n).view.set : Fin _ → Finset S2x1024x256.Idx) = fun n : Fin 2 => (Rect.unit (s := S2x1024x256) ![n.val, 0, 0] S1x1024x256.size (inbM n)).set :=
    funext fun n => by simp only [Memref.view_squeeze, View.set_reshape]; exact View.set_slice_whole _ _
  rw [e]
  exact tiles_lead (s := S2x1024x256) (0 : Fin 3) 1 (fun n : Fin 2 => ![n.val, 0, 0]) _ inbM (fun n => by simp)
    (fun n a ha => by fin_cases a <;> first | exact absurd rfl ha | rfl) rfl (fun a ha => by fin_cases a <;> first | exact absurd rfl ha | rfl) rfl
theorem tilesW : Tiles (α := S2x1x1024x1024.Idx) fun n => (slW n).view.set := by
  have e : (fun n => (slW n).view.set : Fin _ → Finset S2x1x1024x1024.Idx) = fun n : Fin 2 => (Rect.unit (s := S2x1x1024x1024) ![n.val, 0, 0, 0] S1x1x1024x1024.size (inbW n)).set :=
    funext fun n => by simp only [Memref.view_squeeze, View.set_reshape]; exact View.set_slice_whole _ _
  rw [e]
  exact tiles_lead (s := S2x1x1024x1024) (0 : Fin 4) 1 (fun n : Fin 2 => ![n.val, 0, 0, 0]) _ inbW (fun n => by simp)
    (fun n a ha => by fin_cases a <;> first | exact absurd rfl ha | rfl) rfl (fun a ha => by fin_cases a <;> first | exact absurd rfl ha | rfl) rfl
theorem tilesX : Tiles (α := S3x1024x1024.Idx) fun n => (slX n).view.set := by
  have e : (fun n => (slX n).view.set : Fin _ → Finset S3x1024x1024.Idx) = fun n : Fin 3 => (Rect.unit (s := S3x1024x1024) ![n.val, 0, 0] S1x1024x1024.size (inbX n)).set :=
    funext fun n => by simp only [Memref.view_squeeze, View.set_reshape]; exact View.set_slice_whole _ _
  rw [e]
  exact tiles_lead (s := S3x1024x1024) (0 : Fin 3) 1 (fun n : Fin 3 => ![n.val, 0, 0]) _ inbX (fun n => by simp)
    (fun n a ha => by fin_cases a <;> first | exact absurd rfl ha | rfl) rfl (fun a ha => by fin_cases a <;> first | exact absurd rfl ha | rfl) rfl
theorem tilesO : Tiles (α := S2x1024x1024.Idx) fun n => (slO n).view.set := by
  have e : (fun n => (slO n).view.set : Fin _ → Finset S2x1024x1024.Idx) = fun n : Fin 2 => (Rect.unit (s := S2x1024x1024) ![n.val, 0, 0] S1x1024x1024.size (inbO n)).set :=
    funext fun n => by simp only [Memref.view_squeeze, View.set_reshape]; exact View.set_slice_whole _ _
  rw [e]
  exact tiles_lead (s := S2x1024x1024) (0 : Fin 3) 1 (fun n : Fin 2 => ![n.val, 0, 0]) _ inbO (fun n => by simp)
    (fun n a ha => by fin_cases a <;> first | exact absurd rfl ha | rfl) rfl (fun a ha => by fin_cases a <;> first | exact absurd rfl ha | rfl) rfl
theorem tilesRo : Tiles (α := S16384x1024.Idx) fun b => (roO b).view.set := by
  have e : (fun b => (roO b).view.set : Fin 16 → Finset S16384x1024.Idx) = fun b : Fin 16 => (Rect.unit (s := S16384x1024) ![1024 * b.val, 0] S1024x1024.size (inbRX b)).set :=
    funext fun n => View.set_slice_whole _ _
  rw [e]
  exact tiles_lead (s := S16384x1024) (0 : Fin 2) 1024 (fun b : Fin 16 => ![1024 * b.val, 0]) _ inbRX (fun n => by simp)
    (fun n a ha => by fin_cases a <;> first | exact absurd rfl ha | rfl) rfl (fun a ha => by fin_cases a <;> first | exact absurd rfl ha | rfl) rfl

/-- A buffer whole, at something. -/
abbrev some0 (c : Dev nD) (b : Ref sig .tc) : sProp 𝕄 := iprop(∃ f, (Memref.whole b).view.loc (c : Thread nD τ) ↦{fullShare} f)

/-- Each ring as its slots, and back. -/
theorem ringSb : (some0 c cc0_scoped0 : sProp 𝕄) ⊣⊢ iprop((∃ f, own c (slSb 0) f) ∗ ∃ f, own c (slSb 1) f) :=
  ⟨Ring.slots2_split (ℓ := (c : Thread nD τ).loc cc0_scoped0) (fun n => (slSb n).view.set) tilesSb.apart tilesSb.cover (own c (slSb 0)) (own c (slSb 1)) (fun _ => rfl) (fun _ => rfl),
    Ring.slots2_join (ℓ := (c : Thread nD τ).loc cc0_scoped0) (fun n => (slSb n).view.set) tilesSb.apart tilesSb.cover (own c (slSb 0)) (own c (slSb 1)) (fun _ => rfl) (fun _ => rfl)⟩
theorem ringRe : (some0 c cc0_scoped2 : sProp 𝕄) ⊣⊢ iprop((∃ f, own c (slRe 0) f) ∗ ∃ f, own c (slRe 1) f) :=
  ⟨Ring.slots2_split (ℓ := (c : Thread nD τ).loc cc0_scoped2) (fun n => (slRe n).view.set) tilesRe.apart tilesRe.cover (own c (slRe 0)) (own c (slRe 1)) (fun _ => rfl) (fun _ => rfl),
    Ring.slots2_join (ℓ := (c : Thread nD τ).loc cc0_scoped2) (fun n => (slRe n).view.set) tilesRe.apart tilesRe.cover (own c (slRe 0)) (own c (slRe 1)) (fun _ => rfl) (fun _ => rfl)⟩
theorem ringMe : (some0 c cc0_scoped4 : sProp 𝕄) ⊣⊢ iprop((∃ f, own c (slMe 0) f) ∗ ∃ f, own c (slMe 1) f) :=
  ⟨Ring.slots2_split (ℓ := (c : Thread nD τ).loc cc0_scoped4) (fun n => (slMe n).view.set) tilesMe.apart tilesMe.cover (own c (slMe 0)) (own c (slMe 1)) (fun _ => rfl) (fun _ => rfl),
    Ring.slots2_join (ℓ := (c : Thread nD τ).loc cc0_scoped4) (fun n => (slMe n).view.set) tilesMe.apart tilesMe.cover (own c (slMe 0)) (own c (slMe 1)) (fun _ => rfl) (fun _ => rfl)⟩
theorem ringGa : (some0 c cc0_scoped6 : sProp 𝕄) ⊣⊢ iprop((∃ f, own c (slGa 0) f) ∗ ∃ f, own c (slGa 1) f) :=
  ⟨Ring.slots2_split (ℓ := (c : Thread nD τ).loc cc0_scoped6) (fun n => (slGa n).view.set) tilesGa.apart tilesGa.cover (own c (slGa 0)) (own c (slGa 1)) (fun _ => rfl) (fun _ => rfl),
    Ring.slots2_join (ℓ := (c : Thread nD τ).loc cc0_scoped6) (fun n => (slGa n).view.set) tilesGa.apart tilesGa.cover (own c (slGa 0)) (own c (slGa 1)) (fun _ => rfl) (fun _ => rfl)⟩
theorem ringW : (some0 c cc0_scoped8 : sProp 𝕄) ⊣⊢ iprop((∃ f, own c (slW 0) f) ∗ ∃ f, own c (slW 1) f) :=
  ⟨Ring.slots2_split (ℓ := (c : Thread nD τ).loc cc0_scoped8) (fun n => (slW n).view.set) tilesW.apart tilesW.cover (own c (slW 0)) (own c (slW 1)) (fun _ => rfl) (fun _ => rfl),
    Ring.slots2_join (ℓ := (c : Thread nD τ).loc cc0_scoped8) (fun n => (slW n).view.set) tilesW.apart tilesW.cover (own c (slW 0)) (own c (slW 1)) (fun _ => rfl) (fun _ => rfl)⟩
theorem ringX : (some0 c cc0_scoped10 : sProp 𝕄) ⊣⊢ iprop((∃ f, own c (slX 0) f) ∗ (∃ f, own c (slX 1) f) ∗ ∃ f, own c (slX 2) f) :=
  ⟨Ring.slots3_split (ℓ := (c : Thread nD τ).loc cc0_scoped10) (fun n => (slX n).view.set) tilesX.apart tilesX.cover (own c (slX 0)) (own c (slX 1)) (own c (slX 2)) (fun _ => rfl) (fun _ => rfl) (fun _ => rfl),
    Ring.slots3_join (ℓ := (c : Thread nD τ).loc cc0_scoped10) (fun n => (slX n).view.set) tilesX.apart tilesX.cover (own c (slX 0)) (own c (slX 1)) (own c (slX 2)) (fun _ => rfl) (fun _ => rfl) (fun _ => rfl)⟩
theorem ringO : (some0 c cc0_scoped12 : sProp 𝕄) ⊣⊢ iprop((∃ f, own c (slO 0) f) ∗ ∃ f, own c (slO 1) f) :=
  ⟨Ring.slots2_split (ℓ := (c : Thread nD τ).loc cc0_scoped12) (fun n => (slO n).view.set) tilesO.apart tilesO.cover (own c (slO 0)) (own c (slO 1)) (fun _ => rfl) (fun _ => rfl),
    Ring.slots2_join (ℓ := (c : Thread nD τ).loc cc0_scoped12) (fun n => (slO n).view.set) tilesO.apart tilesO.cover (own c (slO 0)) (own c (slO 1)) (fun _ => rfl) (fun _ => rfl)⟩

/-- The result array as its row blocks. -/
theorem result_blocks (f : Bf F c main_v5) :
    (rd c main_v5 fullShare f : sProp 𝕄) = bigSep (Ring.rangeSet 16 0 16) fun b => own c (roO b) f := by
  rw [Ring.rangeSet_univ]
  exact Ring.pointsTo_blocks (ℓ := (c : Thread nD τ).loc main_v5) (fun b => (roO b).view.set) tilesRo.apart tilesRo.cover f

/-- An array's two halves, and back. -/
theorem halves (b : Ref sig .tc) (f : Bf F c b) :
    (rd c b fullShare f : sProp 𝕄) ⊣⊢ iprop(rd c b (sh2 0) f ∗ rd c b (sh2 1) f) :=
  pointsTo_share (PosShare.mem_left_op_right fullShare)

end Cert.KernelIdeal.Hand

end
-- ==== Proof.Run.lean ====
/-
  The kernel's body run: the prologue's copies, the pipeline loop by its invariant, the last block's wait; from every
  ring at something, every cell at zero and the arrays whole to the same with the result array at `outFin`.
-/
module

public import proofs.«01_k».proof.Proof.Loop
public import proofs.«01_k».proof.Proof.Split

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {c : Dev nD} (A : Arrs F c) (o : Bf F c main_v5)

/-- What the body holds at both ends: the rings at something, the cells at zero, the arrays it reads; and the result. -/
def rings (c : Dev nD) : sProp 𝕄 :=
  iprop(some0 c cc0_scoped0 ∗ some0 c cc0_scoped2 ∗ some0 c cc0_scoped4 ∗ some0 c cc0_scoped6 ∗ some0 c cc0_scoped8 ∗ some0 c cc0_scoped10 ∗ some0 c cc0_scoped12)
def cells (c : Dev nD) : sProp 𝕄 :=
  iprop(cell0 c 0 ∗ cell0 c 1 ∗ cell0 c 2 ∗ cell0 c 3 ∗ cell0 c 4 ∗ cell0 c 5 ∗ cell0 c 6 ∗ cell0 c 7 ∗ cell0 c 8 ∗ cell0 c 9
    ∗ cell0 c 10 ∗ cell0 c 11 ∗ cell0 c 12 ∗ cell0 c 13 ∗ cell0 c 14)
def arrays : sProp 𝕄 :=
  iprop(rd c main_v0 fullShare A.sb ∗ rd c main_v1 fullShare A.re ∗ rd c main_v2 fullShare A.me ∗ rd c main_v3 fullShare A.ga
    ∗ rd c main_arg4 fullShare A.w ∗ rd c main_v4 fullShare A.x)

/-- What of the array of which two blocks are in flight at once the first of its copies does not read. -/
def laterX : sProp 𝕄 :=
  iprop(rest c main_v4 (Ring.shares3 fullShare 0) (roX 0).view.set A.x
    ∗ rd c main_v4 (Ring.shares3 fullShare 1) A.x ∗ rd c main_v4 (Ring.shares3 fullShare 2) A.x)
theorem first_X : rd c main_v4 fullShare A.x ⊢ iprop(ownq c (roX 0) (Ring.shares3 fullShare 0) A.x ∗ laterX A) := by
  unfold laterX
  refine (Ring.pointsTo_thirds fullShare A.x).1.trans ?_
  iintro ⟨H, H'⟩
  ihave H := (pointsTo_split_subset (Finset.subset_univ (roX 0).view.set)).1 $$ H
  icases H with ⟨H, H''⟩
  isplitl [H]; · iexact H
  isplitl [H'']; · iexact H''
  iexact H'

theorem tripAt_zero : tripAt A 0 = iprop(
    (flSb A 0 0 (sh2 0) 0 ∗ frSb A 1 1 (sh2 1) ∗ flRe A 0 2 (sh2 0) 0 ∗ frRe A 1 3 (sh2 1) ∗ flMe A 0 4 (sh2 0) 0 ∗ frMe A 1 5 (sh2 1)
      ∗ flGa A 0 6 (sh2 0) 0 ∗ frGa A 1 7 (sh2 1) ∗ flW A ∗ flX A 0 10 0 ∗ flX A 1 11 1 ∗ frX A 2 12)
    ∗ (frO c 1 14 ∗ frO c 0 13) ∗ ∃ W, owes (c : Thread nD τ) 0 W) := rfl
theorem tripAt_end : tripAt A 16 = iprop(
    (frSb A 0 0 (sh2 0) ∗ frSb A 1 1 (sh2 1) ∗ frRe A 0 2 (sh2 0) ∗ frRe A 1 3 (sh2 1) ∗ frMe A 0 4 (sh2 0) ∗ frMe A 1 5 (sh2 1)
      ∗ frGa A 0 6 (sh2 0) ∗ frGa A 1 7 (sh2 1) ∗ atW A ∗ frX A 1 11 ∗ frX A 2 12 ∗ frX A 0 10)
    ∗ (flO A 1 14 15 ∗ frO c 0 13) ∗ ∃ W, owes (c : Thread nD τ) 0 W) := rfl

/-- What the loop leaves, laid open. -/
theorem inv_end (acc : Carried) : inv A o 16 acc ⊢ iprop(⌜acc = carried 16⌝
    ∗ (((cell0 c 0 ∗ (∃ g, own c (slSb 0) g) ∗ rd c main_v0 (sh2 0) A.sb) ∗ (cell0 c 1 ∗ (∃ g, own c (slSb 1) g) ∗ rd c main_v0 (sh2 1) A.sb)
        ∗ (cell0 c 2 ∗ (∃ g, own c (slRe 0) g) ∗ rd c main_v1 (sh2 0) A.re) ∗ (cell0 c 3 ∗ (∃ g, own c (slRe 1) g) ∗ rd c main_v1 (sh2 1) A.re)
        ∗ (cell0 c 4 ∗ (∃ g, own c (slMe 0) g) ∗ rd c main_v2 (sh2 0) A.me) ∗ (cell0 c 5 ∗ (∃ g, own c (slMe 1) g) ∗ rd c main_v2 (sh2 1) A.me)
        ∗ (cell0 c 6 ∗ (∃ g, own c (slGa 0) g) ∗ rd c main_v3 (sh2 0) A.ga) ∗ (cell0 c 7 ∗ (∃ g, own c (slGa 1) g) ∗ rd c main_v3 (sh2 1) A.ga)
        ∗ (cell0 c 8 ∗ (∃ g, own c (slW 0) g ∗ ⌜(slW 0).view.read (Elt F) g = roW.view.read (Elt F) A.w⌝) ∗ rd c main_arg4 fullShare A.w)
        ∗ (cell0 c 11 ∗ (∃ g, own c (slX 1) g) ∗ rd c main_v4 (Ring.shares3 fullShare 1) A.x)
        ∗ (cell0 c 12 ∗ (∃ g, own c (slX 2) g) ∗ rd c main_v4 (Ring.shares3 fullShare 2) A.x)
        ∗ (cell0 c 10 ∗ (∃ g, own c (slX 0) g) ∗ rd c main_v4 (Ring.shares3 fullShare 0) A.x))
      ∗ ((∃ r g, fly c 14 131072 iprop(own c (roO 15) r ∗ own c (slO 1) g) ∗ ⌜(roO 15).view.read (Elt F) r = outB A 15⌝)
        ∗ (cell0 c 13 ∗ (∃ g, own c (slO 0) g)))
      ∗ ∃ W, owes (c : Thread nD τ) 0 W)
    ∗ bigSep (Ring.rangeSet 16 0 15) (doB A)) := by
  unfold inv
  rw [tripAt_end]
  unfold frSb frRe frMe frGa atW frX flO frO
  iintro ⟨%e, HT, HD, -⟩
  isplitr; · ipureintro; exact e
  isplitl [HT]; · iexact HT
  iexact HD

theorem kernelRun (W : Waits sig Unit) (K : PUnit → sProp 𝕄) :
    iprop(rings c ∗ cells c ∗ arrays A ∗ rd c main_v5 fullShare o ∗ owes (c : Thread nD τ) 0 W
        ∗ (iprop(rings c ∗ cells c ∗ arrays A ∗ rd c main_v5 fullShare (outFin A) ∗ ∃ W', owes (c : Thread nD τ) 0 W') -∗ K ⟨⟩))
      ⊢ wp frame (wpE (defs₀ (F := F)) Variants.none c none) Set.univ (bodyAt0 (F := F) t0_0) K := by
  unfold rings cells arrays
  rw [result_blocks o, result_blocks (outFin A)]
  iintro ⟨⟨R0, R1, R2, R3, R4, R5, R7⟩, ⟨M0, M0', M1, M1', M2, M2', M3, M3', M4, M4', M5, M6, M5', M7', M7⟩,
    ⟨A0, A1, A2, A3, A4, A5⟩, HB, HO, Hk⟩
  ihave R0 := ringSb.1 $$ R0; icases R0 with ⟨⟨%f0, S0⟩, ⟨%f0', S0'⟩⟩
  ihave R1 := ringRe.1 $$ R1; icases R1 with ⟨⟨%f1, S1⟩, ⟨%f1', S1'⟩⟩
  ihave R2 := ringMe.1 $$ R2; icases R2 with ⟨⟨%f2, S2⟩, ⟨%f2', S2'⟩⟩
  ihave R3 := ringGa.1 $$ R3; icases R3 with ⟨⟨%f3, S3⟩, ⟨%f3', S3'⟩⟩
  ihave R4 := ringW.1 $$ R4; icases R4 with ⟨⟨%f4, S4⟩, ⟨%f4', S4'⟩⟩
  ihave R5 := ringX.1 $$ R5; icases R5 with ⟨⟨%f5, S5⟩, ⟨%f6, S6⟩, ⟨%f5', S5'⟩⟩
  ihave R7 := ringO.1 $$ R7; icases R7 with ⟨⟨%f7', S7'⟩, ⟨%f7, S7⟩⟩
  ihave A0 := (halves main_v0 A.sb).1 $$ A0; icases A0 with ⟨A0, A0'⟩
  ihave A1 := (halves main_v1 A.re).1 $$ A1; icases A1 with ⟨A1, A1'⟩
  ihave A2 := (halves main_v2 A.me).1 $$ A2; icases A2 with ⟨A2, A2'⟩
  ihave A3 := (halves main_v3 A.ga).1 $$ A3; icases A3 with ⟨A3, A3'⟩
  ihave A5 := first_X A $$ A5; icases A5 with ⟨A5, P6⟩
  sl_exec
  unfold laterX
  icases P6 with ⟨P5, A6, P7⟩
  sl_exec

  sl_for (inv A o) $$ [M0 A0 M0' S0' A0' M1 A1 M1' S1' A1' M2 A2 M2' S2' A2' M3 A3 M3' S3' A3' M4 A4 M5 P5 M6 A6 M5' S5' P7 M7 S7 M7' S7' HO HB]
  case region =>
    intro i acc
    exact inv_step A o i acc
  · unfold inv
    rw [tripAt_zero]
    unfold flSb frSb flRe frRe flMe frMe flGa frGa flX frX frO flW
    isplitr; · ipureintro; rfl
    isplitl [M0 A0 M0' S0' A0' M1 A1 M1' S1' A1' M2 A2 M2' S2' A2' M3 A3 M3' S3' A3' M4 A4 M5 P5 M6 A6 M5' S5' P7 M7 S7 M7' S7' HO]
    · isplitl [M0 A0 M0' S0' A0' M1 A1 M1' S1' A1' M2 A2 M2' S2' A2' M3 A3 M3' S3' A3' M4 A4 M5 P5 M6 A6 M5' S5' P7]
      · skip
        isplitl [M0 A0]
        · iexists _; isplitl [M0]; · iexact M0
          isplitl [A0]; · iexact A0
          ipureintro; exact (landed _ _ _).trans rfl
        isplitl [M0' S0' A0']
        · isplitl [M0']; · iexact M0'
          isplitl [S0']; · iexists _; iexact S0'
          iexact A0'
        isplitl [M1 A1]
        · iexists _; isplitl [M1]; · iexact M1
          isplitl [A1]; · iexact A1
          ipureintro; exact (landed _ _ _).trans rfl
        isplitl [M1' S1' A1']
        · isplitl [M1']; · iexact M1'
          isplitl [S1']; · iexists _; iexact S1'
          iexact A1'
        isplitl [M2 A2]
        · iexists _; isplitl [M2]; · iexact M2
          isplitl [A2]; · iexact A2
          ipureintro; exact (landed _ _ _).trans rfl
        isplitl [M2' S2' A2']
        · isplitl [M2']; · iexact M2'
          isplitl [S2']; · iexists _; iexact S2'
          iexact A2'
        isplitl [M3 A3]
        · iexists _; isplitl [M3]; · iexact M3
          isplitl [A3]; · iexact A3
          ipureintro; exact (landed _ _ _).trans rfl
        isplitl [M3' S3' A3']
        · isplitl [M3']; · iexact M3'
          isplitl [S3']; · iexists _; iexact S3'
          iexact A3'
        isplitl [M4 A4]
        · iexists _; isplitl [M4]; · iexact M4
          isplitl [A4]; · iexact A4
          ipureintro; exact (landed _ _ _).trans rfl
        isplitl [M5 P5]
        · iexists _; isplitl [M5]; · iexact M5
          isplitl [P5]; · iexact P5
          ipureintro; exact (landed _ _ _).trans rfl
        isplitl [M6 A6]
        · iexists _; isplitl [M6]; · iexact M6
          isplitl [A6]; · iexact A6
          ipureintro; exact (landed _ _ _).trans rfl
        isplitl [M5']; · iexact M5'
        isplitl [S5']; · iexists _; iexact S5'
        iexact P7
      isplitr [HO]; rotate_left; · iexists _; iexact HO
      isplitl [M7 S7]
      · isplitl [M7]; · iexact M7
        iexists _; iexact S7
      isplitl [M7']; · iexact M7'
      iexists _; iexact S7'
    isplitr
    · rw [Ring.bigSep_rangeSet_empty (by omega)]; iempintro
    iexact HB
  iintro %acc HI
  rw [show Scf.trips k0_t1_loop.lb k0_t1_loop.ub k0_t1_loop.st = 16 from rfl]
  ihave HI := inv_end A o acc $$ HI
  icases HI with ⟨%e, HT, HD⟩
  subst e
  icases HT with ⟨⟨⟨M0, ⟨%g0, S0⟩, A0⟩, ⟨M0', ⟨%g0', S0'⟩, A0'⟩, ⟨M1, ⟨%g1, S1⟩, A1⟩, ⟨M1', ⟨%g1', S1'⟩, A1'⟩,
    ⟨M2, ⟨%g2, S2⟩, A2⟩, ⟨M2', ⟨%g2', S2'⟩, A2'⟩, ⟨M3, ⟨%g3, S3⟩, A3⟩, ⟨M3', ⟨%g3', S3'⟩, A3'⟩,
    ⟨M4, ⟨%g4, S4, -⟩, A4⟩, ⟨M6, ⟨%g6, S6⟩, A6⟩, ⟨M5', ⟨%g5', S5'⟩, A5'⟩, ⟨M5, ⟨%g5, S5⟩, A5⟩⟩,
    ⟨⟨%r7, %g7, M7, %h7⟩, M7', ⟨%g7', S7'⟩⟩, ⟨%W', HO⟩⟩
  sl_exec
  sl_step
  iapply Hk
  rw [Ring.bigSep_rangeSet_last (lo := 0) (hi := 16) (by omega) (by omega)]
  isplitl [S0 S0' S1 S1' S2 S2' S3 S3' S4 S4' S5 S6 S5' S7' M7_src]
  · isplitl [S0 S0']
    · iapply ringSb.2
      isplitl [S0]; · iexists _; iexact S0
      iexists _; iexact S0'
    isplitl [S1 S1']
    · iapply ringRe.2
      isplitl [S1]; · iexists _; iexact S1
      iexists _; iexact S1'
    isplitl [S2 S2']
    · iapply ringMe.2
      isplitl [S2]; · iexists _; iexact S2
      iexists _; iexact S2'
    isplitl [S3 S3']
    · iapply ringGa.2
      isplitl [S3]; · iexists _; iexact S3
      iexists _; iexact S3'
    isplitl [S4 S4']
    · iapply ringW.2
      isplitl [S4]; · iexists _; iexact S4
      iexists _; iexact S4'
    isplitl [S5 S6 S5']
    · iapply ringX.2
      isplitl [S5]; · iexists _; iexact S5
      isplitl [S6]; · iexists _; iexact S6
      iexists _; iexact S5'
    iapply ringO.2
    isplitl [S7']; · iexists _; iexact S7'
    iexists _; iexact M7_src
  isplitl [M0 M0' M1 M1' M2 M2' M3 M3' M4 M4' M5 M6 M5' M7' M7]
  · isplitl [M0]; · iexact M0
    isplitl [M0']; · iexact M0'
    isplitl [M1]; · iexact M1
    isplitl [M1']; · iexact M1'
    isplitl [M2]; · iexact M2
    isplitl [M2']; · iexact M2'
    isplitl [M3]; · iexact M3
    isplitl [M3']; · iexact M3'
    isplitl [M4]; · iexact M4
    isplitl [M4']; · iexact M4'
    isplitl [M5]; · iexact M5
    isplitl [M6]; · iexact M6
    isplitl [M5']; · iexact M5'
    isplitl [M7']; · iexact M7'
    iexact M7
  isplitl [A0 A0' A1 A1' A2 A2' A3 A3' A4 A5 A6 A5']
  · isplitl [A0 A0']
    · iapply (halves main_v0 A.sb).2
      isplitl [A0]; · iexact A0
      iexact A0'
    isplitl [A1 A1']
    · iapply (halves main_v1 A.re).2
      isplitl [A1]; · iexact A1
      iexact A1'
    isplitl [A2 A2']
    · iapply (halves main_v2 A.me).2
      isplitl [A2]; · iexact A2
      iexact A2'
    isplitl [A3 A3']
    · iapply (halves main_v3 A.ga).2
      isplitl [A3]; · iexact A3
      iexact A3'
    isplitl [A4]; · iexact A4
    iapply (Ring.pointsTo_thirds fullShare A.x).2
    isplitl [A5]; · iexact A5
    isplitl [A6]; · iexact A6
    iexact A5'
  isplitl [HD M7_dst]
  · isplitl [M7_dst]; · iapply (out_done A h7); iexact M7_dst
    iexact HD
  iexists _; iexact HO

end Cert.KernelIdeal.Hand

end
-- ==== Proof.Launch.lean ====
/-
  The launch: the five reshapes of @main, then the region, whose one point runs the body. What the region is entered
  with (its rings, its cells, the arrays) is what the body's run needs, and what that run leaves is handed back with
  the result array at `outFin`: so @main ends with the result named, its arguments unchanged and every cell at zero.
-/
module

public import proofs.«01_k».proof.Proof.Run
public import proofs.«01_k».proof.Proof.Gen.KernelIdeal.Launch
public import proofs.«01_k».proof.Proof.Gen.KernelIdeal.Frame
public import Idealize.ShloMosaic.Lib.Pipeline.FrameValue
public import Idealize.ShloMosaic.Lib.Pipeline.FrameBody

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The arrays as the region finds them. -/
def arrs (c : Dev nD) : Arrs F c where
  sb := V m c main_v0
  re := V m c main_v1
  me := V m c main_v2
  ga := V m c main_v3
  w := V m c main_arg4
  x := V m c main_v4

/-- What the region leaves: the result array written, every other as found. -/
def outs (c : Dev nD) (b : Ref sig .tc) : Buf (Elt F) ((c : Thread nD τ).loc b) :=
  Function.update (V m c) main_v5 (outFin (arrs m c)) b
theorem outs_v5 (c : Dev nD) : outs m c main_v5 = outFin (arrs m c) := Function.update_self ..

/-- The cells the body's copies use, the arrays it reads, the array it writes. -/
def osem0 : Fin 15 → SemLoc sig := fun j => SemLoc.dma j
theorem ownSemFacts0 : Pipeline.OwnSemFacts cfg0.spec osem0 := by decide
def H0 : Finset (Ref sig .tc) := {main_v0, main_v1, main_v2, main_v3, main_arg4, main_v4}
def R0 : Finset (Ref sig .tc) := {main_v5}
theorem H0_sub : H0 ⊆ Pipeline.restRefs sig cfg0.spec := by decide
theorem R0_sub : R0 ⊆ Pipeline.restRefs sig cfg0.spec \ H0 := by decide

theorem own_cells (c : Dev nD) :
    (Pipeline.ownSems0 (Ix := Unit) (Name := ℕ) (U := Pipeline.UD sig nD τ) (Lvl := ℕ) (Val := Elt F) (τ := τ) osem0 c : sProp 𝕄) = cells c := by
  rw [Pipeline.ownSems0_eq_of_list c osem0 [0, 1, 2, 3, 4, 5, 6, 7, 8, 9, 10, 11, 12, 13, 14] (by decide) (by decide)]; rfl
theorem read_arrays (c : Dev nD) :
    (bigSep H0 (fun b => ((c : Thread nD τ).loc b) ↦{fullShare} V m c b) : sProp 𝕄) = arrays (arrs m c) := by
  rw [BI.bigSep_eq_bigSepL_of_eq [main_v0, main_v1, main_v2, main_v3, main_arg4, main_v4] (by decide) (by decide)]; rfl
theorem written (c : Dev nD) (G : (b : Ref sig .tc) → Buf (Elt F) ((c : Thread nD τ).loc b)) :
    (Pipeline.routed R0 c G : sProp 𝕄) = rd c main_v5 fullShare (G main_v5) := by
  unfold Pipeline.routed; rw [BI.bigSep_eq_bigSepL_of_eq [main_v5] (by decide) (by decide)]; rfl

/-- What the region holds around the body: with the result array at `f`. -/
def held (c : Dev nD) (f : Bf F c main_v5) : sProp 𝕄 :=
  iprop(rings c ∗ (∃ r, prngReg c r) ∗ cells c ∗ arrays (arrs m c) ∗ rd c main_v5 fullShare f)
theorem held_eq (c : Dev nD) (G : (c : Dev nD) → (b : Ref sig .tc) → Buf (Elt F) ((c : Thread nD τ).loc b)) :
    (Pipeline.ΦDRG osem0 cfg0.spec H0 R0 (V m) G c : sProp 𝕄) = held m c (G c main_v5) := by
  rw [Pipeline.ΦDRG_eq, scopedRest0_eq, own_cells, read_arrays, written]; rfl

def dats (_ : Fin 1) (c : Dev nD) : Dat τ (Elt F) Unit ℕ (Pipeline.UD sig nD τ) ℕ cfg0 c where
  A w := w.elim0
  after w _ := w.elim0
  Φ t := if t.val = 0 then held m c (V m c main_v5) else held m c (outFin (arrs m c))
  q _ := fullShare
  owed _ := 0

theorem held_in (c : Dev nD) (t : Fin (cfg0.N + 1)) (h : t.val = 0) : (dats m 0 c).Φ t = held m c (V m c main_v5) := by
  unfold dats; exact if_pos h
theorem held_out (c : Dev nD) (t : Fin (cfg0.N + 1)) (h : t.val ≠ 0) : (dats m 0 c).Φ t = held m c (outFin (arrs m c)) := by
  unfold dats; exact if_neg h

theorem sound_body (c : Dev nD) (t : Fin cfg0.N) :
    iprop((dats m 0 c).Φ t.castSucc ∗ (dats m 0 c).owesAt () t.castSucc)
      ⊢ wp frame (wpE (defs₀ (F := F)) Variants.none c none) Set.univ (bodyAt0 t)
          (fun _ => iprop((dats m 0 c).Φ t.succ ∗ (dats m 0 c).owesAt () t.succ)) := by
  have ht : t.val = 0 := congrArg Fin.val (fin_N0 t)
  rw [held_in m c t.castSucc ht, held_out m c t.succ (Nat.succ_ne_zero _)]
  unfold Dat.owesAt Pipeline.owesWithin held
  rw [show (dats m 0 c).owed t.castSucc = 0 from rfl, show (dats m 0 c).owed t.succ = 0 from rfl]
  iintro ⟨⟨HR, Hg, HC, HA, HO⟩, ⟨%W, -, HW⟩⟩
  iapply (kernelRun (arrs m c) (V m c main_v5) W _)
  isplitl [HR]; · iexact HR
  isplitl [HC]; · iexact HC
  isplitl [HA]; · iexact HA
  isplitl [HO]; · iexact HO
  isplitl [HW]; · iexact HW
  iintro ⟨HR, HC, HA, HO, ⟨%W', HW⟩⟩
  isplitr [HW]
  · isplitl [HR]; · iexact HR
    isplitl [Hg]; · iexact Hg
    isplitl [HC]; · iexact HC
    isplitl [HA]; · iexact HA
    iexact HO
  iexists W'; isplitr; · ipureintro; exact fun _ _ => Or.inl trivial
  iexact HW

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  refine triple_restated (sound_body m c t) (by rw [defs₀_row]) ?_ fun _ => ?_
  · iintro ⟨H, H', -⟩
    isplitl [H]; · iexact H
    iexact H'
  · rw [show ∀ Φ : Fin cfg0.W → sProp 𝕄, bigSep Finset.univ Φ = iprop(emp) from fun _ => bigSep_empty]
    iintro ⟨H, H'⟩
    isplitl [H]; · iexact H
    isplitl [H']; · iexact H'
    iempintro

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- @main's end: the result named, the arguments unchanged, every cell at zero. -/
def Done (r : PUnit × MemSt nD τ sig (Elt F)) : Prop :=
  (∀ c : Dev nD, r.2.mem ((c.tc : Thread nD τ).loc main_v5) = outFin (arrs m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5))
  ∧ r.2.sem = fun _ => 0

theorem done_of (r : PUnit × MemSt nD τ sig (Elt F)) (h : Pipeline.FramePostRG cfgs (dats m) 0 R0 (V m) (outs m) r ∧ r.2.sem = fun _ => 0) :
    Done m r := by
  refine ⟨fun c => ⟨(h.1.2 c main_v5 (by decide)).trans (outs_v5 m c), ?_, ?_, ?_, ?_, ?_, ?_⟩, h.2⟩
  · exact ((h.1.1 c).2 main_arg0 (Finset.mem_sdiff.mpr ⟨Pipeline.mem_restRefs_of main_arg0 (by decide) (by decide), by decide⟩)).trans (V_main_arg0 m c)
  · exact ((h.1.1 c).2 main_arg1 (Finset.mem_sdiff.mpr ⟨Pipeline.mem_restRefs_of main_arg1 (by decide) (by decide), by decide⟩)).trans (V_main_arg1 m c)
  · exact ((h.1.1 c).2 main_arg2 (Finset.mem_sdiff.mpr ⟨Pipeline.mem_restRefs_of main_arg2 (by decide) (by decide), by decide⟩)).trans (V_main_arg2 m c)
  · exact ((h.1.1 c).2 main_arg3 (Finset.mem_sdiff.mpr ⟨Pipeline.mem_restRefs_of main_arg3 (by decide) (by decide), by decide⟩)).trans (V_main_arg3 m c)
  · exact ((h.1.1 c).2 main_arg4 (Finset.mem_sdiff.mpr ⟨Pipeline.mem_restRefs_of main_arg4 (by decide) (by decide), by decide⟩)).trans (V_main_arg4 m c)
  · exact ((h.1.1 c).2 main_arg5 (Finset.mem_sdiff.mpr ⟨Pipeline.mem_restRefs_of main_arg5 (by decide) (by decide), by decide⟩)).trans (V_main_arg5 m c)

set_option backward.isDefEq.respectTransparency.types false in
theorem run_main : θ_run defs (onTc (τ := τ) (main (F := F))) (s₀ m ρ) (Done m) :=
  Pipeline.θ_run_frame_dmaRG (Q' := Done m) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := fun _ w => w.elim0) (G := outs m)
    (hin := fun c => (congrArg (· ⊢ _) (held_eq m c (V m))).mpr .rfl)
    (hout := fun c => by exact (congrArg (_ ⊢ ·) ((held_eq m c (outs m)).trans (congrArg (held m c) (outs_v5 m c)))).mpr .rfl)
    (hQ' := done_of m)

end Cert.KernelIdeal.Hand

end
-- ==== Proof.Reference.lean ====
/-
  The reference: a straight line of host operations (the silu's nine where it is called), so its run ends with every
  buffer at the operations' fold over what it was launched with; the result is `refOut` of the arguments.
-/
module

public import proofs.«01_k».proof.Defs
public import proofs.«01_k».proof.Proof.Gen.ReferenceIdeal
public import Idealize.ShloMosaic.Lib.StableHlo.Run
public import Idealize.ShloMosaic.Lib.StableHlo.RunRead
public import Idealize.ShloMosaic.Lib.StableHlo.RunClose

@[expose] public section

set_option maxRecDepth 4096

noncomputable section

namespace Cert.ReferenceIdeal.Hand

open Cert.ReferenceIdeal Cert.ReferenceIdeal.Gen
open Idealize.ShloMosaic Idealize.ShloMosaic.TcCoe Idealize.SL.Sem
open Idealize.ShloMosaic.StableHlo

variable {F : FTy → Type} [FloatOps F]

/-- The reference's operations in order. -/
abbrev ops : List (HloOp τ sig (Elt F)) :=
  [ unary main_arg3 main_v0 (extractStridedSlice S8x2048x384 ![0, 0, 1152] · slices_S8x2048x3584_S8x2048x384_0_0_1152),
    unary main_arg0 main_v1 (extf .f32 · bitsLt_bf16_f32),
    unary main_v0 main_v2 (extf .f32 · bitsLt_bf16_f32),
    TRef.unary (.of main_v2) main_call0.v0 Host.negf,
    TRef.unary main_call0.v0 main_call0.v1 Host.exp,
    TRef.nullary main_call0.cst (constant S_ .f32 0x3F800000#32),
    TRef.unary main_call0.cst main_call0.v2 (broadcastInDim S8x2048x384 ![] bcast_S_S8x2048x384),
    TRef.binary main_call0.v2 main_call0.v1 main_call0.v3 addf,
    TRef.nullary main_call0.cst_0 (constant S_ .f32 0x3F800000#32),
    TRef.unary main_call0.cst_0 main_call0.v4 (broadcastInDim S8x2048x384 ![] bcast_S_S8x2048x384),
    TRef.binary main_call0.v4 main_call0.v3 main_call0.v5 Host.divf,
    TRef.binary (.of main_v2) main_call0.v5 main_call0.v6 mulf,
    binary main_v1 main_v3 main_v4 mulf,
    unary main_arg1 main_v5 (extf .f32 · bitsLt_bf16_f32),
    unary main_arg2 main_v6 (extf .f32 · bitsLt_bf16_f32),
    nary ![main_v4, main_v5, main_v6] main_v7 (fun u => concatenate S8x2048x1024 2
      [⟨S8x2048x384, (u 0 : (⟨S8x2048x384, .f32⟩ : BufTy).Contents (Elt F))⟩, ⟨S8x2048x384, (u 1 : (⟨S8x2048x384, .f32⟩ : BufTy).Contents (Elt F))⟩,
        ⟨S8x2048x256, (u 2 : (⟨S8x2048x256, .f32⟩ : BufTy).Contents (Elt F))⟩] concatenates_S8x2048x384_S8x2048x384_S8x2048x256_S8x2048x1024_d2),
    unary main_arg4 main_v8 (extractStridedSlice S1x1024x1024 ![3, 0, 0] · slices_S4x1024x1024_S1x1024x1024_3_0_0),
    reshape main_v8 main_v9 rfl shapeCasts_S1x1024x1024_S1024x1024,
    binary main_v7 main_v9 main_v10 (Host.dotGeneral dot_S8x2048x1024_S1024x1024_S8x2048x1024_2_0_01_1_n_n none),
    binary main_arg5 main_v10 main_v11 addf,
    reshape main_v11 main_v12 rfl shapeCasts_S8x2048x1024_S16384x1024 ]

theorem main_eq (c : Dev nD) : main (F := F) c = seq ops := by
  simp only [main, fn_silu.body, seq, bind_assoc, pure_bind]
  rfl

/-- The sequence branches' outputs, gated, side by side. -/
def refCat (sb re : FVec F S8x2048x384 .bf16) (me : FVec F S8x2048x256 .bf16) (ga : FVec F S8x2048x3584 .bf16) : FVec F S8x2048x1024 .f32 :=
  concatenate S8x2048x1024 2
    [⟨S8x2048x384, mulf (extf .f32 sb bitsLt_bf16_f32)
        (mulf (extf .f32 (extractStridedSlice S8x2048x384 ![0, 0, 1152] ga slices_S8x2048x3584_S8x2048x384_0_0_1152) bitsLt_bf16_f32)
          (Host.divf (broadcastInDim S8x2048x384 ![] bcast_S_S8x2048x384 (constant S_ .f32 0x3F800000#32))
            (addf (broadcastInDim S8x2048x384 ![] bcast_S_S8x2048x384 (constant S_ .f32 0x3F800000#32))
              (Host.exp (Host.negf (extf .f32 (extractStridedSlice S8x2048x384 ![0, 0, 1152] ga slices_S8x2048x3584_S8x2048x384_0_0_1152) bitsLt_bf16_f32))))))⟩,
      ⟨S8x2048x384, extf .f32 re bitsLt_bf16_f32⟩, ⟨S8x2048x256, extf .f32 me bitsLt_bf16_f32⟩]
    concatenates_S8x2048x384_S8x2048x384_S8x2048x256_S8x2048x1024_d2

/-- The reference's result. -/
def refOut (sb re : FVec F S8x2048x384 .bf16) (me : FVec F S8x2048x256 .bf16) (ga : FVec F S8x2048x3584 .bf16)
    (w : FVec F S4x1024x1024 .f32) (x : FVec F S8x2048x1024 .f32) : FVec F S16384x1024 .f32 :=
  shapeCast S16384x1024 (addf x (Host.dotGeneral dot_S8x2048x1024_S1024x1024_S8x2048x1024_2_0_01_1_n_n none (refCat sb re me ga)
      (shapeCast S1024x1024 (extractStridedSlice S1x1024x1024 ![3, 0, 0] w slices_S4x1024x1024_S1x1024x1024_3_0_0) shapeCasts_S1x1024x1024_S1024x1024)))
    shapeCasts_S8x2048x1024_S16384x1024

theorem out_eq (V : Valuation τ sig (Elt F)) :
    after ops V (main_v12 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

/-- No operation writes an argument. -/
theorem args_eq (V : Valuation τ sig (Elt F)) (b : Ref sig .tc)
    (h : b ∈ [main_arg0, main_arg1, main_arg2, main_arg3, main_arg4, main_arg5]) : after ops V (b : DevRef τ sig) = V (b : DevRef τ sig) := by
  simp only [List.mem_cons, List.not_mem_nil, or_false] at h
  rcases h with rfl | rfl | rfl | rfl | rfl | rfl
  all_goals
    simp only [after_cons, after_nil]
    rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., nary_bufs_sub .., unary_bufs_sub .., reshape_bufs_sub .., binary_bufs_sub .., binary_bufs_sub .., reshape_bufs_sub ..⟩

/-- The reference ends with its result at `refOut` of its arguments, these unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12) = refOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5) :=
  (θ_run defs _ _).mono (fun _ h c => ⟨(h c main_v12).trans (out_eq _),
      (h c main_arg0).trans (args_eq _ main_arg0 (by simp)),
      (h c main_arg1).trans (args_eq _ main_arg1 (by simp)),
      (h c main_arg2).trans (args_eq _ main_arg2 (by simp)),
      (h c main_arg3).trans (args_eq _ main_arg3 (by simp)),
      (h c main_arg4).trans (args_eq _ main_arg4 (by simp)),
      (h c main_arg5).trans (args_eq _ main_arg5 (by simp))⟩)
    (run_seq scopedRefs_eq scopedSems_eq defs main (fun _ => ops) main_eq (fun _ => ops_sub) m ρ)

end Cert.ReferenceIdeal.Hand

end
-- ==== Proof.Value.lean ====
/-
  The values, over the extended reals: what the pipeline leaves in the result array is the reference's result, element by
  element. The two sides differ in where the array is flattened, in the row blocks, in how the gate is written, and in
  the product's accumulator, which is zero.
-/
module

public import proofs.«01_k».proof.Proof.Rings
public import proofs.«01_k».proof.Proof.Reference
public import Idealize.ShloMosaic.Lib.Pointwise
public import Idealize.ShloMosaic.Lib.IdealHost

@[expose] public section

set_option maxRecDepth 16384

noncomputable section

namespace Cert.Value

open Idealize.ShloMosaic Idealize.ShloMosaic.TcCoe

theorem exp_nonneg (y : EReal) : 0 ≤ Ideal.exp y :=
  match y with
  | none => le_refl _
  | some none => le_top
  | some (some r) => EReal.coe_nonneg.mpr (Real.exp_pos r).le

/-- The gate as the kernel divides it is the gate as the reference multiplies it: the divisor is at least one. -/
theorem gate_eq (g : EReal) : Ideal.div g (1 + Ideal.exp (0 - g)) = g * Ideal.div 1 (1 + Ideal.exp (-g)) := by
  have h : (1 : EReal) + Ideal.exp (-g) ≠ 0 :=
    ne_of_gt (lt_of_lt_of_le zero_lt_one (le_add_of_nonneg_right (exp_nonneg _)))
  rw [Idealize.ShloMosaic.Ideal.mul_one_div h, zero_sub]

section
open Cert.KernelIdeal Cert.KernelIdeal.Gen Cert.KernelIdeal.Hand

/-! ## A block of a flattened array at an index -/

/-- The row of the flattened array that row `p` of block `b` is. -/
abbrev row (b : Fin 16) (p : Fin 1024) : Fin 16384 := ⟨1024 * b.val + p.val, by omega⟩

theorem row_eq (r : Fin 16384) (h : r.val / 1024 < 16) (h' : r.val % 1024 < 1024) : row ⟨r.val / 1024, h⟩ ⟨r.val % 1024, h'⟩ = r :=
  Fin.ext (Nat.div_add_mod _ _)

/-- A block's element in its array: the block's offsets added. -/
theorem block_emb {M N m n o q : ℕ} (h : ∀ a, (![o, q] : Fin 2 → ℕ) a + (![m, n] : Fin 2 → ℕ) a ≤ (![M, N] : Fin 2 → ℕ) a) (p : Fin m) (l : Fin n)
    (hp : o + p.val < M) (hl : q + l.val < N) :
    (Rect.unit (s := ⟨2, ![M, N]⟩) ![o, q] ![m, n] h).emb (ix2 p l) = ix2 ⟨o + p.val, hp⟩ ⟨q + l.val, hl⟩ := by
  funext a
  fin_cases a
  · exact Fin.ext (show o + 1 * p.val = o + p.val by omega)
  · exact Fin.ext (show q + 1 * l.val = q + l.val by omega)

theorem zadd {n : ℕ} (l : Fin n) (h : 0 + l.val < n) : (⟨0 + l.val, h⟩ : Fin n) = l := Fin.ext (Nat.zero_add _)

theorem sb_apply (f : FVec Ideal S16384x384 .bf16) (b : Fin 16) (p : Fin 1024) (l : Fin 384) :
    (roSb b).view.read (Elt Ideal) f (ix2 p l) = f (ix2 (row b p) l) :=
  (congrArg f (block_emb (inbRA b) p l (row b p).isLt (by omega))).trans (by rw [zadd])
theorem re_apply (f : FVec Ideal S16384x384 .bf16) (b : Fin 16) (p : Fin 1024) (l : Fin 384) :
    (roRe b).view.read (Elt Ideal) f (ix2 p l) = f (ix2 (row b p) l) := sb_apply f b p l
theorem me_apply (f : FVec Ideal S16384x256 .bf16) (b : Fin 16) (p : Fin 1024) (l : Fin 256) :
    (roMe b).view.read (Elt Ideal) f (ix2 p l) = f (ix2 (row b p) l) :=
  (congrArg f (block_emb (inbRM b) p l (row b p).isLt (by omega))).trans (by rw [zadd])
theorem x_apply (f : FVec Ideal S16384x1024 .f32) (b : Fin 16) (p : Fin 1024) (l : Fin 1024) :
    (roX b).view.read (Elt Ideal) f (ix2 p l) = f (ix2 (row b p) l) :=
  (congrArg f (block_emb (inbRX b) p l (row b p).isLt (by omega))).trans (by rw [zadd])
theorem ga_apply (f : FVec Ideal S16384x3584 .bf16) (b : Fin 16) (p : Fin 1024) (l : Fin 384) :
    (roGa b).view.read (Elt Ideal) f (ix2 p l) = f (ix2 (row b p) ⟨1152 + l.val, by omega⟩) :=
  congrArg f (block_emb (inbRG b) p l (row b p).isLt (by omega))
/-- The weight read is the last of the four. -/
theorem w_apply (f : FVec Ideal S4x1024x1024 .f32) (k j : Fin 1024) :
    roW.view.read (Elt Ideal) f (ix3 0 k j) = f (ix3 3 k j) := by
  refine congrArg f (funext fun a => ?_)
  fin_cases a
  · rfl
  · exact Fin.ext (show 0 + 1 * k.val = k.val by omega)
  · exact Fin.ext (show 0 + 1 * j.val = j.val by omega)

/-- A block of the result at an index. -/
theorem outVal_apply (sb g re : FVec Ideal S1024x384 .bf16) (me : FVec Ideal S1024x256 .bf16) (x : FVec Ideal S1024x1024 .f32)
    (w : FVec Ideal S1x1024x1024 .f32) (p : Fin 1024) (j : Fin 1024) :
    outVal sb g re me x (shapeCast S1024x1024 w shapeCasts_S1x1024x1024_S1024x1024) (ix2 p j) =
      x (ix2 p j) + ∑ k : Fin 1024,
        (if h : k.val < 384 then sb (ix2 p ⟨k.val, h⟩) * (g (ix2 p ⟨k.val, h⟩) * Ideal.div 1 (1 + Ideal.exp (-g (ix2 p ⟨k.val, h⟩))))
          else if h : k.val - 384 < 384 then re (ix2 p ⟨k.val - 384, h⟩) else me (ix2 p ⟨k.val - 384 - 384, by omega⟩)) * w (ix3 0 k j) := by
  pointwise [outVal]
  simp only [gate_eq]

/-- Row block `b` of the result at an index, from the whole arrays. -/
theorem outB_apply {c : Dev nD} (sb re : FVec Ideal S16384x384 .bf16) (me : FVec Ideal S16384x256 .bf16)
    (ga : FVec Ideal S16384x3584 .bf16) (w : FVec Ideal S4x1024x1024 .f32) (x : FVec Ideal S16384x1024 .f32) (b : Fin 16) (p j : Fin 1024) :
    outB (⟨sb, re, me, ga, w, x⟩ : Arrs Ideal c) b (ix2 p j) =
      x (ix2 (row b p) j) + ∑ k : Fin 1024,
        (if h : k.val < 384 then sb (ix2 (row b p) ⟨k.val, h⟩) * (ga (ix2 (row b p) ⟨1152 + k.val, by omega⟩) *
            Ideal.div 1 (1 + Ideal.exp (-ga (ix2 (row b p) ⟨1152 + k.val, by omega⟩))))
          else if h : k.val - 384 < 384 then re (ix2 (row b p) ⟨k.val - 384, h⟩) else me (ix2 (row b p) ⟨k.val - 384 - 384, by omega⟩)) * w (ix3 3 k j) := by
  unfold outB
  rw [outVal_apply, x_apply]
  refine congrArg _ (Finset.sum_congr rfl fun k _ => ?_)
  rw [w_apply]
  congr 1
  split_ifs
  · rw [sb_apply, ga_apply]
  · exact re_apply ..
  · exact me_apply ..

/-- What the pipeline leaves is the reference's result, of the arrays flattened and the arrays as given. -/
theorem outFin_eq {c : Dev nD} (sb re : FVec Ideal S8x2048x384 .bf16) (me : FVec Ideal S8x2048x256 .bf16)
    (ga : FVec Ideal S8x2048x3584 .bf16) (w : FVec Ideal S4x1024x1024 .f32) (x : FVec Ideal S8x2048x1024 .f32) :
    outFin (⟨shapeCast S16384x384 sb shapeCasts_S8x2048x384_S16384x384, shapeCast S16384x384 re shapeCasts_S8x2048x384_S16384x384,
        shapeCast S16384x256 me shapeCasts_S8x2048x256_S16384x256, shapeCast S16384x3584 ga shapeCasts_S8x2048x3584_S16384x3584, w,
        shapeCast S16384x1024 x shapeCasts_S8x2048x1024_S16384x1024⟩ : Arrs Ideal c)
      = Cert.ReferenceIdeal.Hand.refOut sb re me ga w x := by
  funext i
  obtain ⟨r, j, rfl⟩ : ∃ (r : Fin 16384) (j : Fin 1024), i = ix2 r j := ⟨i 0, i 1, by funext a; fin_cases a <;> rfl⟩
  have hb : r.val / 1024 < 16 := by omega
  refine (outB_apply _ _ _ _ _ _ ⟨r.val / 1024, hb⟩ ⟨r.val % 1024, Nat.mod_lt _ (by decide)⟩ j).trans ?_
  rw [row_eq]
  pointwise [Cert.ReferenceIdeal.Hand.refOut, Cert.ReferenceIdeal.Hand.refCat]

end

end Cert.Value

end
-- ==== Proof.Columns.lean ====
/-
  The second kernel's stores at an index, over the extended reals. A block of 512 rows goes through the output
  projection, the norm and the input projection; the projection's 3584 columns are stored 128 at a time.
-/
module

public import proofs.«01_k».proof.Proof.Gen.Kernel2Ideal.Value
public import proofs.«01_k».proof.Proof.Value
public import Idealize.ShloMosaic.Lib.Pointwise

@[expose] public section

set_option maxRecDepth 16384

noncomputable section

namespace Cert.Columns

open Cert.Kernel2Ideal Cert.Kernel2Ideal.Gen Idealize.ShloMosaic Idealize.ShloMosaic.TcCoe
open Cert.Value (gate_eq)

variable {F : FTy → Type} [FloatOps F]

/-- The new rows `x`, at an index. -/
theorem x_apply (sb g re : FVec Ideal S512x384 .bf16) (me : FVec Ideal S512x256 .bf16) (x : FVec Ideal S512x1024 .f32)
    (w : FVec Ideal S1x1024x1024 .f32) (p : Fin 512) (j : Fin 1024) :
    k0_pay6 sb g re me x w (ix2 p j) =
      x (ix2 p j) + ∑ k : Fin 1024,
        (if h : k.val < 384 then sb (ix2 p ⟨k.val, h⟩) * (g (ix2 p ⟨k.val, h⟩) * Ideal.div 1 (1 + Ideal.exp (-g (ix2 p ⟨k.val, h⟩))))
          else if h : k.val - 384 < 384 then re (ix2 p ⟨k.val - 384, h⟩) else me (ix2 p ⟨k.val - 384 - 384, by omega⟩)) * w (ix3 0 k j) := by
  pointwise [k0_pay6]
  simp only [gate_eq]

/-- The rows the input projection takes: each divided by its root mean square, times the norm's weight. -/
theorem unit_apply (sb g re : FVec Ideal S512x384 .bf16) (me : FVec Ideal S512x256 .bf16) (x : FVec Ideal S512x1024 .f32)
    (w : FVec Ideal S1x1024x1024 .f32) (n : FVec Ideal S1x1x1024 .f32) (p : Fin 512) (j : Fin 1024) (X : FVec Ideal S512x1024 .f32)
    (hX : k0_pay6 sb g re me x w = X) :
    k0_pay8 (F := Ideal) (k0_pay7 sb g re me x w) n (ix2 p j) =
      X (ix2 p j) * Ideal.rsqrt (Ideal.div (∑ i : Fin 1024, X (ix2 p i) * X (ix2 p i)) (Ideal.ofBits .f32 1149239296#32) +
        Ideal.ofBits .f32 897988541#32) * n (ix3 0 0 j) := by
  unfold k0_pay7
  rw [hX]
  pointwise [k0_pay8]

/-- Which lanes take the lane 32 above: those in the lower half of a head. -/
theorem mask_apply (p : Fin 512) (l : Fin 128) : k0_pay40 (ix2 p l) = if l.val % 64 < 32 then 1#1 else 0#1 := by
  pointwise [k0_pay40]
  revert l
  decide +kernel

theorem dot_apply (h : FVec Ideal S512x1024 .bf16) (w : FVec Ideal S1x1024x512 .f32) (p j : Fin 512) :
    k0_pay1 h w (ix2 p j) = ∑ k : Fin 1024, h (ix2 p k) * w (ix3 0 k j) := by
  pointwise [k0_pay1]

/-- One group of rotated columns: the columns times the cosines, and the swapped columns times the signed sines. -/
def rot (C S Y : FVec F S512x128 .f32) : FVec F S512x128 .f32 :=
  addf (mulf Y C) (mulf (select k0_pay40 (dynamicRotate 1 96#32 none Y rotates_S512x128_d1) (dynamicRotate 1 32#32 none Y rotates_S512x128_d1)) S)

theorem rot_apply (C S Y : FVec Ideal S512x128 .f32) (p : Fin 512) (l : Fin 128) :
    rot C S Y (ix2 p l) = Y (ix2 p l) * C (ix2 p l) +
      (if l.val % 64 < 32 then Y (ix2 p ⟨(l.val + 32) % 128, Nat.mod_lt _ (by decide)⟩)
        else Y (ix2 p ⟨(l.val + 96) % 128, Nat.mod_lt _ (by decide)⟩)) * S (ix2 p l) := by
  pointwise [rot]
  rw [mask_apply]
  have h1 : (l.val + 128 - 96) % 128 = (l.val + 32) % 128 := by omega
  have h2 : (l.val + 128 - 32) % 128 = (l.val + 96) % 128 := by omega
  simp only [h1, h2]
  split_ifs <;> rfl

/-- The lanes a head's angles stand in: the cosines in the lower half, the sines in the upper. -/
theorem half_apply (l : Fin 128) : k0_pay10 (ix2 0 l) = if l.val % 64 < 32 then 1#1 else 0#1 := by
  pointwise [k0_pay10]
  revert l
  decide +kernel

/-- The cosines over every lane. -/
theorem cos_apply (T : FVec Ideal S512x128 .f32) (p : Fin 512) (l : Fin 128) :
    k0_pay11 (F := Ideal) T (ix2 p l) =
      if l.val % 64 < 32 then T (ix2 p l) else T (ix2 p ⟨(l.val + 96) % 128, Nat.mod_lt _ (by decide)⟩) := by
  pointwise [k0_pay11, k0_pay9]
  rw [half_apply]
  have h2 : (l.val + 128 - 32) % 128 = (l.val + 96) % 128 := by omega
  simp only [h2]
  split_ifs <;> rfl

/-- The sines over every lane, negated in the lower halves. -/
theorem sin_apply (T : FVec Ideal S512x128 .f32) (p : Fin 512) (l : Fin 128) :
    k0_pay12 (F := Ideal) T (ix2 p l) =
      if l.val % 64 < 32 then 0 - T (ix2 p ⟨(l.val + 32) % 128, Nat.mod_lt _ (by decide)⟩) else T (ix2 p l) := by
  pointwise [k0_pay12, k0_pay9]
  rw [half_apply]
  have h1 : (l.val + 128 - 96) % 128 = (l.val + 32) % 128 := by omega
  simp only [h1]
  split_ifs <;> rfl

/-! ## The stores, 128 columns at a time -/

/-- Row `p` of the input projection at column `c`. -/
def col (h : FVec Ideal S512x1024 .bf16) (w : FVec Ideal S1x1024x3584 .f32) (p : Fin 512) (c : Fin 3584) : EReal :=
  ∑ k : Fin 1024, h (ix2 p k) * w (ix3 0 k c)

/-- The column a rotated column is swapped with: 32 above in the lower half of a head, 32 below in the upper. -/
def swap (c : Fin 3584) : Fin 3584 :=
  if h : c.val % 64 < 32 then ⟨c.val + 32, by omega⟩ else ⟨c.val - 32, by omega⟩

/-- A rotated column. -/
def rotCol (C S : FVec Ideal S512x128 .f32) (h : FVec Ideal S512x1024 .bf16) (w : FVec Ideal S1x1024x3584 .f32) (p : Fin 512) (c : Fin 3584) : EReal :=
  col h w p c * C (ix2 p ⟨c.val % 128, Nat.mod_lt _ (by decide)⟩) + col h w p (swap c) * S (ix2 p ⟨c.val % 128, Nat.mod_lt _ (by decide)⟩)

/-- What is stored at column `c` of row `p`: the first 384 columns are scaled, columns 1536 to 2303 are rotated and the
    last 384 of these scaled too, and the others are the projection's. -/
def stored (C S : FVec Ideal S512x128 .f32) (h : FVec Ideal S512x1024 .bf16) (w : FVec Ideal S1x1024x3584 .f32) (p : Fin 512) (c : Fin 3584) : EReal :=
  if c.val < 384 then col h w p c * Ideal.ofBits .f32 0x3E38AA3B#32
  else if c.val < 1536 then col h w p c
  else if c.val < 1920 then rotCol C S h w p c
  else if c.val < 2304 then rotCol C S h w p c * Ideal.ofBits .f32 0x3E000000#32
  else col h w p c

/-- The 512 columns of the weight that are loaded at `o`. -/
abbrev load (w : FVec Ideal S1x1024x3584 .f32) (o : ℕ)
    (inb : ∀ a, (![0, 0, o] : Fin 3 → ℕ) a + (![1, 1024, 512] : Fin 3 → ℕ) a ≤ S1x1024x3584.size a) : FVec Ideal S1x1024x512 .f32 :=
  View.ld (Val := Elt Ideal) (e' := .f32) w (Rect.unit (s := S1x1024x3584) ![0, 0, o] ![1, 1024, 512] inb)

/-- A group of the projection's columns, from the 512 columns of the weight that are loaded at `o`. -/
theorem group_apply (h : FVec Ideal S512x1024 .bf16) (w : FVec Ideal S1x1024x3584 .f32) (o q : ℕ)
    (inb : ∀ a, (![0, 0, o] : Fin 3 → ℕ) a + (![1, 1024, 512] : Fin 3 → ℕ) a ≤ S1x1024x3584.size a)
    (hq : S512x512.Slices ![0, q] S512x128) (p : Fin 512) (l : Fin 128) (c : Fin 3584) (hc : c.val = o + q + l.val) :
    extractStridedSlice S512x128 ![0, q] (k0_pay1 h (load w o inb)) hq (ix2 p l) = col h w p c := by
  have hql : q + 128 ≤ 512 := hq.2 1
  refine (extractStridedSlice_apply _ _ hq (ix2 p l) (ix2 p (⟨q + l.val, by omega⟩ : Fin 512)) (by
    intro a
    match a with
    | ⟨0, _⟩ => show p.val = 0 + p.val; omega
    | ⟨1, _⟩ => rfl)).trans ?_
  rw [dot_apply]
  refine Finset.sum_congr rfl fun k _ => congrArg _ (congrArg w (funext fun a => Fin.ext ?_))
  match a with
  | ⟨0, _⟩ => rfl
  | ⟨1, _⟩ => show 0 + 1 * k.val = k.val; omega
  | ⟨2, _⟩ => show o + 1 * (q + l.val) = c.val; omega

section
variable (C S : FVec Ideal S512x128 .f32) (h : FVec Ideal S512x1024 .bf16) (w : FVec Ideal S1x1024x3584 .f32) (o q : ℕ) {c : ℕ}
    {inb : ∀ a, (![0, 0, o] : Fin 3 → ℕ) a + (![1, 1024, 512] : Fin 3 → ℕ) a ≤ S1x1024x3584.size a}
    {hq : S512x512.Slices ![0, q] S512x128}
    {hb : ∀ a, (![0, c] : Fin 2 → ℕ) a + (![512, 128] : Fin 2 → ℕ) a ≤ S512x3584.size a}

/-- The stored block as one function of its indices. -/
def block (C S : FVec Ideal S512x128 .f32) (h : FVec Ideal S512x1024 .bf16) (w : FVec Ideal S1x1024x3584 .f32) : S512x3584.Idx → EReal :=
  fun i => stored C S h w (i 0) (i 1)

/-- The block at the place a store's element goes to. -/
theorem block_at (p : Fin 512) (l : Fin 128) (hl : c + l.val < 3584) :
    block C S h w ((Rect.unit (s := S512x3584) ![0, c] ![512, 128] hb).emb (ix2 p l)) = stored C S h w p ⟨c + l.val, hl⟩ := by
  have h0 : (Rect.unit (s := S512x3584) ![0, c] ![512, 128] hb).emb (ix2 p l) 0 = p := Fin.ext (show 0 + 1 * p.val = p.val by omega)
  have h1 : (Rect.unit (s := S512x3584) ![0, c] ![512, 128] hb).emb (ix2 p l) 1 = ⟨c + l.val, hl⟩ := Fin.ext (show c + 1 * l.val = c + l.val by omega)
  unfold block
  rw [h0, h1]
  rfl

theorem exists_ix2 (i : S512x128.Idx) : ∃ (p : Fin 512) (l : Fin 128), i = ix2 p l := ⟨i 0, i 1, by funext a; fin_cases a <;> rfl⟩

/-- A group stored as it is. -/
theorem plain (hc : c = o + q) (hr : 384 ≤ c ∧ c + 128 ≤ 1536 ∨ 2304 ≤ c) (i : S512x128.Idx) :
    truncf .bf16 (extractStridedSlice S512x128 ![0, q] (k0_pay1 h (load w o inb)) hq) bitsLt_bf16_f32 i
      = block C S h w ((Rect.unit (s := S512x3584) ![0, c] ![512, 128] hb).emb i) := by
  obtain ⟨p, l, rfl⟩ := exists_ix2 i
  have hb1 : c + 128 ≤ 3584 := hb 1
  rw [block_at C S h w p l (by omega)]
  refine (group_apply h w o q inb hq p l ⟨c + l.val, by omega⟩ (by simp only; omega)).trans ?_
  unfold stored
  simp only
  split_ifs <;> first | rfl | (exfalso; omega)

/-- A group stored scaled. -/
theorem scaled (hc : c = o + q) (hr : c + 128 ≤ 384) (i : S512x128.Idx) :
    truncf .bf16 (mulf (extractStridedSlice S512x128 ![0, q] (k0_pay1 h (load w o inb)) hq)
        (broadcast S512x128 (Scalar.ofBits .f32 0x3E38AA3B#32))) bitsLt_bf16_f32 i
      = block C S h w ((Rect.unit (s := S512x3584) ![0, c] ![512, 128] hb).emb i) := by
  obtain ⟨p, l, rfl⟩ := exists_ix2 i
  rw [block_at C S h w p l (by omega)]
  refine (congrArg (· * Ideal.ofBits .f32 0x3E38AA3B#32) (group_apply h w o q inb hq p l ⟨c + l.val, by omega⟩ (by simp only; omega))).trans ?_
  unfold stored
  rw [if_pos (show c + l.val < 384 by omega)]

/-- A rotated group at an index. -/
theorem rot_group (hc : c = o + q) (hd : 128 ∣ c) (hb1 : c + 128 ≤ 3584) (p : Fin 512) (l : Fin 128) :
    rot C S (extractStridedSlice S512x128 ![0, q] (k0_pay1 h (load w o inb)) hq) (ix2 p l)
      = rotCol C S h w p ⟨c + l.val, by omega⟩ := by
  have hl : l = ⟨(c + l.val) % 128, Nat.mod_lt _ (by decide)⟩ := Fin.ext (by simp only; omega)
  rw [rot_apply]
  unfold rotCol
  rw [group_apply h w o q inb hq p l ⟨c + l.val, by omega⟩ (by simp only; omega)]
  congr 1
  · exact congrArg _ (congrArg (fun l => C (ix2 p l)) hl)
  · refine congr (congrArg _ ?_) (congrArg (fun l => S (ix2 p l)) hl)
    unfold swap
    by_cases h : l.val % 64 < 32
    · rw [if_pos h, dif_pos (show (c + l.val) % 64 < 32 by omega)]
      exact group_apply _ w o q inb hq p _ _ (by simp only; omega)
    · rw [if_neg h, dif_neg (show ¬ (c + l.val) % 64 < 32 by omega)]
      exact group_apply _ w o q inb hq p _ _ (by simp only; omega)

/-- A rotated group stored as it is. -/
theorem rotated (hc : c = o + q) (hd : 128 ∣ c) (hr : 1536 ≤ c ∧ c + 128 ≤ 1920) (i : S512x128.Idx) :
    truncf .bf16 (rot C S (extractStridedSlice S512x128 ![0, q] (k0_pay1 h (load w o inb)) hq)) bitsLt_bf16_f32 i
      = block C S h w ((Rect.unit (s := S512x3584) ![0, c] ![512, 128] hb).emb i) := by
  obtain ⟨p, l, rfl⟩ := exists_ix2 i
  rw [block_at C S h w p l (by omega)]
  refine (rot_group C S h w o q hc hd (by omega) p l).trans ?_
  unfold stored
  rw [if_neg (show ¬ c + l.val < 384 by omega), if_neg (show ¬ c + l.val < 1536 by omega), if_pos (show c + l.val < 1920 by omega)]

/-- A rotated group stored scaled. -/
theorem rotatedScaled (hc : c = o + q) (hd : 128 ∣ c) (hr : 1920 ≤ c ∧ c + 128 ≤ 2304) (i : S512x128.Idx) :
    truncf .bf16 (mulf (rot C S (extractStridedSlice S512x128 ![0, q] (k0_pay1 h (load w o inb)) hq))
        (broadcast S512x128 (Scalar.ofBits .f32 0x3E000000#32))) bitsLt_bf16_f32 i
      = block C S h w ((Rect.unit (s := S512x3584) ![0, c] ![512, 128] hb).emb i) := by
  obtain ⟨p, l, rfl⟩ := exists_ix2 i
  rw [block_at C S h w p l (by omega)]
  refine (congrArg (· * Ideal.ofBits .f32 0x3E000000#32) (rot_group C S h w o q hc hd (by omega) p l)).trans ?_
  unfold stored
  rw [if_neg (show ¬ c + l.val < 384 by omega), if_neg (show ¬ c + l.val < 1536 by omega), if_neg (show ¬ c + l.val < 1920 by omega),
    if_pos (show c + l.val < 2304 by omega)]

end

end Cert.Columns

end
-- ==== Proof.Stores.lean ====
/-
  What a grid point of the second kernel leaves in its two staging buffers: the new rows, stored whole, and the
  projection, stored in twenty-eight groups of columns that are one function of the block's indices.
-/
module

public import proofs.«01_k».proof.Proof.Columns

@[expose] public section

set_option maxRecDepth 16384

noncomputable section

namespace Cert.Columns

open Cert.Kernel2Ideal Cert.Kernel2Ideal.Gen Idealize.ShloMosaic Idealize.ShloMosaic.TcCoe Idealize.ShloMosaic.Tactic

theorem hz2 : (![0, 0] : Fin 2 → ℕ) = fun _ => 0 := by funext a; fin_cases a <;> rfl
theorem hz3 : (![0, 0, 0] : Fin 3 → ℕ) = fun _ => 0 := by funext a; fin_cases a <;> rfl

/-- The new rows as stored. -/
theorem out_x (c : Dev nD) (i : grid0.Coords) (arg1 : Memref sig .tc .vmem S512x384 .bf16) (harg1 : arg1.IsWhole) (arg2 : Memref sig .tc .vmem S512x384 .bf16) (harg2 : arg2.IsWhole) (arg3 : Memref sig .tc .vmem S512x256 .bf16) (harg3 : arg3.IsWhole) (arg4 : Memref sig .tc .vmem S512x384 .bf16) (harg4 : arg4.IsWhole) (arg5 : Memref sig .tc .vmem S1x1024x1024 .f32) (harg5 : arg5.IsWhole) (arg6 : Memref sig .tc .vmem S512x1024 .f32) (harg6 : arg6.IsWhole) (arg7 : Memref sig .tc .vmem S1x1x1024 .f32) (harg7 : arg7.IsWhole) (arg8 : Memref sig .tc .vmem S1x1024x3584 .f32) (harg8 : arg8.IsWhole) (arg9 : Memref sig .tc .vmem S512x128 .f32) (harg9 : arg9.IsWhole) (arg10 : Memref sig .tc .vmem S512x1024 .f32) (harg10 : arg10.IsWhole) (arg11 : Memref sig .tc .vmem S512x3584 .bf16) (harg11 : arg11.IsWhole)
    (x0 x1 : Vec Ideal S512x384 .bf16) (x2 : Vec Ideal S512x256 .bf16) (x3 : Vec Ideal S512x384 .bf16) (x4 : Vec Ideal S1x1024x1024 .f32) (x5 : Vec Ideal S512x1024 .f32) (x6 : Vec Ideal S1x1x1024 .f32) (x7 : Vec Ideal S1x1024x3584 .f32) (x8 : Vec Ideal S512x128 .f32) :
    out0_A_9 c i arg1 harg1 arg2 harg2 arg3 harg3 arg4 harg4 arg5 harg5 arg6 harg6 arg7 harg7 arg8 harg8 arg9 harg9 arg10 harg10 arg11 harg11 x0 x1 x2 x3 x4 x5 x6 x7 x8 = k0_pay6 x0 x3 x1 x2 x5 x4 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7 x8)]
  unfold kernelRun0_A
  dsimp only
  rw [View.canon_unit_zero (S := S512x1024) hz2]
  simp only [View.readAt_eq_ld, harg1.read_unread, harg2.read_unread, harg3.read_unread, harg4.read_unread, harg5.read_unread,
    harg6.read_unread, harg7.read_unread, harg8.read_unread, harg9.read_unread, View.ld_unit_zero (S := S512x384) hz2,
    View.ld_unit_zero (S := S512x256) hz2, View.ld_unit_zero (S := S512x1024) hz2, View.ld_unit_zero (S := S512x128) hz2,
    View.ld_unit_zero (S := S1x1024x1024) hz3, View.ld_unit_zero (S := S1x1x1024) hz3]

/-- The projection as stored. -/
theorem out_proj (c : Dev nD) (i : grid0.Coords) (arg1 : Memref sig .tc .vmem S512x384 .bf16) (harg1 : arg1.IsWhole) (arg2 : Memref sig .tc .vmem S512x384 .bf16) (harg2 : arg2.IsWhole) (arg3 : Memref sig .tc .vmem S512x256 .bf16) (harg3 : arg3.IsWhole) (arg4 : Memref sig .tc .vmem S512x384 .bf16) (harg4 : arg4.IsWhole) (arg5 : Memref sig .tc .vmem S1x1024x1024 .f32) (harg5 : arg5.IsWhole) (arg6 : Memref sig .tc .vmem S512x1024 .f32) (harg6 : arg6.IsWhole) (arg7 : Memref sig .tc .vmem S1x1x1024 .f32) (harg7 : arg7.IsWhole) (arg8 : Memref sig .tc .vmem S1x1024x3584 .f32) (harg8 : arg8.IsWhole) (arg9 : Memref sig .tc .vmem S512x128 .f32) (harg9 : arg9.IsWhole) (arg10 : Memref sig .tc .vmem S512x1024 .f32) (harg10 : arg10.IsWhole) (arg11 : Memref sig .tc .vmem S512x3584 .bf16) (harg11 : arg11.IsWhole)
    (x0 x1 : Vec Ideal S512x384 .bf16) (x2 : Vec Ideal S512x256 .bf16) (x3 : Vec Ideal S512x384 .bf16) (x4 : Vec Ideal S1x1024x1024 .f32) (x5 : Vec Ideal S512x1024 .f32) (x6 : Vec Ideal S1x1x1024 .f32) (x7 : Vec Ideal S1x1024x3584 .f32) (x8 : Vec Ideal S512x128 .f32) :
    out0_A_10 c i arg1 harg1 arg2 harg2 arg3 harg3 arg4 harg4 arg5 harg5 arg6 harg6 arg7 harg7 arg8 harg8 arg9 harg9 arg10 harg10 arg11 harg11 x0 x1 x2 x3 x4 x5 x6 x7 x8 = block (k0_pay11 x8) (k0_pay12 x8) (k0_pay8 (k0_pay7 x0 x3 x1 x2 x5 x4) x6) x7 := by
  have hcov := cover0_A_10 c i arg1 harg1 arg2 harg2 arg3 harg3 arg4 harg4 arg5 harg5 arg6 harg6 arg7 harg7 arg8 harg8 arg9 harg9 arg10 harg10 arg11 harg11 x0 x1 x2 x3 x4 x5 x6 x7 x8
  unfold out0_A_10
  funext y
  refine View.read_writes_apply_of_pieces _ _ _ _ ?_ y (hcov y)
  clear hcov
  unfold kernelRun0_A
  dsimp only
  sl_unfold_words
  simp only [View.readAt_eq_ld, harg1.read_unread, harg2.read_unread, harg3.read_unread, harg4.read_unread, harg5.read_unread,
    harg6.read_unread, harg7.read_unread, harg8.read_unread, harg9.read_unread, View.ld_unit_zero (S := S512x384) hz2,
    View.ld_unit_zero (S := S512x256) hz2, View.ld_unit_zero (S := S512x1024) hz2, View.ld_unit_zero (S := S512x128) hz2,
    View.ld_unit_zero (S := S1x1024x1024) hz3, View.ld_unit_zero (S := S1x1x1024) hz3]
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
  · exact plain (c := 3456) (hq := slices_S512x512_o0_384_S512x128) _ _ _ x7 3072 384 rfl (by decide)
  · exact plain (c := 3328) (hq := slices_S512x512_o0_256_S512x128) _ _ _ x7 3072 256 rfl (by decide)
  · exact plain (c := 3200) (hq := slices_S512x512_o0_128_S512x128) _ _ _ x7 3072 128 rfl (by decide)
  · exact plain (c := 3072) (hq := slices_S512x512_o0_0_S512x128) _ _ _ x7 3072 0 rfl (by decide)
  · exact plain (c := 2944) (hq := slices_S512x512_o0_384_S512x128) _ _ _ x7 2560 384 rfl (by decide)
  · exact plain (c := 2816) (hq := slices_S512x512_o0_256_S512x128) _ _ _ x7 2560 256 rfl (by decide)
  · exact plain (c := 2688) (hq := slices_S512x512_o0_128_S512x128) _ _ _ x7 2560 128 rfl (by decide)
  · exact plain (c := 2560) (hq := slices_S512x512_o0_0_S512x128) _ _ _ x7 2560 0 rfl (by decide)
  · exact plain (c := 2432) (hq := slices_S512x512_o0_384_S512x128) _ _ _ x7 2048 384 rfl (by decide)
  · exact plain (c := 2304) (hq := slices_S512x512_o0_256_S512x128) _ _ _ x7 2048 256 rfl (by decide)
  · exact rotatedScaled (c := 2176) (hq := slices_S512x512_o0_128_S512x128) (k0_pay11 x8) (k0_pay12 x8) _ x7 2048 128 rfl (by decide) (by decide)
  · exact rotatedScaled (c := 2048) (hq := slices_S512x512_o0_0_S512x128) (k0_pay11 x8) (k0_pay12 x8) _ x7 2048 0 rfl (by decide) (by decide)
  · exact rotatedScaled (c := 1920) (hq := slices_S512x512_o0_384_S512x128) (k0_pay11 x8) (k0_pay12 x8) _ x7 1536 384 rfl (by decide) (by decide)
  · exact rotated (c := 1792) (hq := slices_S512x512_o0_256_S512x128) (k0_pay11 x8) (k0_pay12 x8) _ x7 1536 256 rfl (by decide) (by decide)
  · exact rotated (c := 1664) (hq := slices_S512x512_o0_128_S512x128) (k0_pay11 x8) (k0_pay12 x8) _ x7 1536 128 rfl (by decide) (by decide)
  · exact rotated (c := 1536) (hq := slices_S512x512_o0_0_S512x128) (k0_pay11 x8) (k0_pay12 x8) _ x7 1536 0 rfl (by decide) (by decide)
  · exact plain (c := 1408) (hq := slices_S512x512_o0_384_S512x128) _ _ _ x7 1024 384 rfl (by decide)
  · exact plain (c := 1280) (hq := slices_S512x512_o0_256_S512x128) _ _ _ x7 1024 256 rfl (by decide)
  · exact plain (c := 1152) (hq := slices_S512x512_o0_128_S512x128) _ _ _ x7 1024 128 rfl (by decide)
  · exact plain (c := 1024) (hq := slices_S512x512_o0_0_S512x128) _ _ _ x7 1024 0 rfl (by decide)
  · exact plain (c := 896) (hq := slices_S512x512_o0_384_S512x128) _ _ _ x7 512 384 rfl (by decide)
  · exact plain (c := 768) (hq := slices_S512x512_o0_256_S512x128) _ _ _ x7 512 256 rfl (by decide)
  · exact plain (c := 640) (hq := slices_S512x512_o0_128_S512x128) _ _ _ x7 512 128 rfl (by decide)
  · exact plain (c := 512) (hq := slices_S512x512_o0_0_S512x128) _ _ _ x7 512 0 rfl (by decide)
  · exact plain (c := 384) (hq := slices_S512x512_o0_384_S512x128) _ _ _ x7 0 384 rfl (by decide)
  · exact scaled (c := 256) (hq := slices_S512x512_o0_256_S512x128) _ _ _ x7 0 256 rfl (by decide)
  · exact scaled (c := 128) (hq := slices_S512x512_o0_128_S512x128) _ _ _ x7 0 128 rfl (by decide)
  · exact scaled (c := 0) (hq := slices_S512x512_o0_0_S512x128) _ _ _ x7 0 0 rfl (by decide)

end Cert.Columns

end
-- ==== Proof.Spec.lean ====
/-
  The results of the second and the third call, element by element, as functions of the arguments: what a kernel leaves and
  what its reference computes are both shown to be these.
-/
module

public import proofs.«01_k».proof.Proof.Columns

@[expose] public section

noncomputable section

namespace Cert.Spec

open Cert.Kernel2Ideal Idealize.ShloMosaic
open Cert.Columns (swap)

variable (sb re : FVec Ideal S8x2048x384 .bf16) (me : FVec Ideal S8x2048x256 .bf16) (ga : FVec Ideal S8x2048x3584 .bf16)
  (wo : FVec Ideal S4x1024x1024 .f32) (x : FVec Ideal S8x2048x1024 .f32) (ng : FVec Ideal S4x1024 .f32)
  (wi : FVec Ideal S4x1024x3584 .f32) (cs sn : FVec Ideal S8x2048x32 .f32)

/-- The three branches' outputs side by side, the first gated. -/
def cat (b : Fin 8) (s : Fin 2048) (k : Fin 1024) : EReal :=
  if h : k.val < 384 then sb (ix3 b s ⟨k.val, h⟩) * (ga (ix3 b s ⟨1152 + k.val, by omega⟩) *
      Ideal.div 1 (1 + Ideal.exp (-ga (ix3 b s ⟨1152 + k.val, by omega⟩))))
  else if h : k.val - 384 < 384 then re (ix3 b s ⟨k.val - 384, h⟩) else me (ix3 b s ⟨k.val - 384 - 384, by omega⟩)

/-- The layer's new rows. -/
def newX (b : Fin 8) (s : Fin 2048) (j : Fin 1024) : EReal := x (ix3 b s j) + ∑ k : Fin 1024, cat sb re me ga b s k * wo (ix3 0 k j)

variable (L : Fin 4)

/-- A row divided by its root mean square, times layer `L`'s weight. -/
def normed (X : Fin 1024 → EReal) (j : Fin 1024) : EReal :=
  X j * Ideal.rsqrt (Ideal.div (∑ i : Fin 1024, X i * X i) (Ideal.ofBits .f32 0x44800000#32) + Ideal.ofBits .f32 0x358637BD#32) * ng (ix2 L j)

/-- A row's projection to layer `L`'s columns. -/
def proj (X : Fin 1024 → EReal) (c : Fin 3584) : EReal := ∑ k : Fin 1024, normed ng L X k * wi (ix3 L k c)

/-- The angle a column takes. -/
def ang (c : Fin 3584) : Fin 32 := ⟨c.val % 32, Nat.mod_lt _ (by decide)⟩

/-- A rotated column: in the lower half of a head with the sine negated. -/
def rotated (b : Fin 8) (s : Fin 2048) (X : Fin 1024 → EReal) (c : Fin 3584) : EReal :=
  proj ng wi L X c * cs (ix3 b s (ang c)) +
    proj ng wi L X (swap c) * (if c.val % 64 < 32 then 0 - sn (ix3 b s (ang c)) else sn (ix3 b s (ang c)))

/-- A column of the result. -/
def out (b : Fin 8) (s : Fin 2048) (X : Fin 1024 → EReal) (c : Fin 3584) : EReal :=
  if c.val < 384 then proj ng wi L X c * Ideal.ofBits .f32 0x3E38AA3B#32
  else if c.val < 1536 then proj ng wi L X c
  else if c.val < 1920 then rotated ng wi cs sn L b s X c
  else if c.val < 2304 then rotated ng wi cs sn L b s X c * Ideal.ofBits .f32 0x3E000000#32
  else proj ng wi L X c

/-- The batch of a flattened row. -/
def bat (r : Fin 16384) : Fin 8 := ⟨r.val / 2048, by omega⟩

/-- Its row in the batch. -/
def pos (r : Fin 16384) : Fin 2048 := ⟨r.val % 2048, by omega⟩

/-- The second call's first result, flattened. -/
def X : FVec Ideal S16384x1024 .f32 := fun i => newX sb re me ga wo x (bat (i 0)) (pos (i 0)) (i 1)

/-- The second call's second result, flattened. -/
def P : FVec Ideal S16384x3584 .bf16 := fun i =>
  out ng wi cs sn 1 (bat (i 0)) (pos (i 0)) (newX sb re me ga wo x (bat (i 0)) (pos (i 0))) (i 1)

/-- The third call's result, flattened. -/
def P₀ : FVec Ideal S16384x3584 .bf16 := fun i =>
  out ng wi cs sn 0 (bat (i 0)) (pos (i 0)) (fun j => x (ix3 (bat (i 0)) (pos (i 0)) j)) (i 1)

end Cert.Spec

end
-- ==== Proof.Blocks.lean ====
/-
  The second kernel's blocks at an index, from the arguments: row `p` of grid point `t`'s blocks is row `512 t + p` of the
  flattened arrays, which is row `(512 t + p) % 2048` of batch `(512 t + p) / 2048`.
-/
module

public import proofs.«01_k».proof.Proof.Stores
public import proofs.«01_k».proof.Proof.Spec
public import Idealize.ShloMosaic.Lib.Pipeline.ValueKit

@[expose] public section

set_option maxRecDepth 16384

noncomputable section

namespace Cert.Blocks

open Cert.Kernel2Ideal Cert.Kernel2Ideal.Gen Idealize.ShloMosaic Idealize.ShloMosaic.TcCoe Idealize.ShloMosaic.Tactic
open Cert.Spec (bat pos)

variable (m : (ℓ : Loc nD τ sig) → Buf (Elt Ideal) ℓ)

/-- Every window's block index at a point. -/
theorem idx : ∀ t : Fin cfg0.N, win0_0.index t = ![t.val, 0] ∧ win0_1.index t = ![t.val, 0] ∧ win0_2.index t = ![t.val, 0]
    ∧ win0_3.index t = ![t.val, 3] ∧ win0_4.index t = ![0, 0, 0] ∧ win0_5.index t = ![t.val, 0] ∧ win0_6.index t = ![1, 0, 0]
    ∧ win0_7.index t = ![1, 0, 0] ∧ win0_8.index t = ![t.val, 0] ∧ win0_9.index t = ![t.val, 0] ∧ win0_10.index t = ![t.val, 0] :=
  (by decide +kernel : ∀ t : Fin grid0.N, _)

theorem N_eq : cfg0.N = 32 := by decide

/-- The flattened row of point `t`'s block row `p`. -/
def row (t : Fin cfg0.N) (p : Fin 512) : Fin 16384 := ⟨512 * t.val + p.val, by have := t.isLt; have := N_eq; omega⟩

theorem sb_at (c : Dev nD) (t : Fin cfg0.N) (p : Fin 512) (l : Fin 384) :
    iblk m c 0 t (ix2 p l) = m ((c : Thread nD τ).loc main_arg0) (ix3 (bat (row t p)) (pos (row t p)) l) := by
  unfold bat pos row
  blk_ext! [iblk, V, idx t]

theorem re_at (c : Dev nD) (t : Fin cfg0.N) (p : Fin 512) (l : Fin 384) :
    iblk m c 1 t (ix2 p l) = m ((c : Thread nD τ).loc main_arg1) (ix3 (bat (row t p)) (pos (row t p)) l) := by
  unfold bat pos row
  blk_ext! [iblk, V, idx t]

theorem me_at (c : Dev nD) (t : Fin cfg0.N) (p : Fin 512) (l : Fin 256) :
    iblk m c 2 t (ix2 p l) = m ((c : Thread nD τ).loc main_arg2) (ix3 (bat (row t p)) (pos (row t p)) l) := by
  unfold bat pos row
  blk_ext! [iblk, V, idx t]

theorem ga_at (c : Dev nD) (t : Fin cfg0.N) (p : Fin 512) (l : Fin 384) :
    X0_3 m c t (ix2 p l) = m ((c : Thread nD τ).loc main_arg3) (ix3 (bat (row t p)) (pos (row t p)) ⟨1152 + l.val, by omega⟩) := by
  unfold X0_3 Pipeline.Window.fill
  rw [dif_pos (moved0_3 t _)]
  unfold bat pos row
  blk_ext! [iblk, V, idx t]

theorem wo_at (c : Dev nD) (t : Fin cfg0.N) (k j : Fin 1024) :
    iblk m c 4 t (ix3 0 k j) = m ((c : Thread nD τ).loc main_arg4) (ix3 0 k j) := by
  blk_ext! [iblk, V, idx t]

theorem x_at (c : Dev nD) (t : Fin cfg0.N) (p : Fin 512) (l : Fin 1024) :
    iblk m c 5 t (ix2 p l) = m ((c : Thread nD τ).loc main_arg5) (ix3 (bat (row t p)) (pos (row t p)) l) := by
  unfold bat pos row
  blk_ext! [iblk, V, idx t]

theorem ng_at (c : Dev nD) (t : Fin cfg0.N) (j : Fin 1024) :
    iblk m c 6 t (ix3 0 0 j) = m ((c : Thread nD τ).loc main_arg6) (ix2 1 j) := by
  blk_ext! [iblk, V, idx t]

theorem wi_at (c : Dev nD) (t : Fin cfg0.N) (k : Fin 1024) (j : Fin 3584) :
    iblk m c 7 t (ix3 0 k j) = m ((c : Thread nD τ).loc main_arg7) (ix3 1 k j) := by
  blk_ext! [iblk, V, idx t]

/-! ## The angles -/

theorem tr_emb (t : Fin cfg0.N) (p : Fin 512) (l : Fin 128) : (win0_8.blk t).view.emb (ix2 p l) = ix2 (row t p) l := by
  unfold row
  blk_ext [idx t]

theorem tr_at (c : Dev nD) (t : Fin cfg0.N) (p : Fin 512) (l : Fin 128) :
    iblk m c 8 t (ix2 p l) = if l.val % 64 < 32 then m ((c : Thread nD τ).loc main_arg8) (ix3 (bat (row t p)) (pos (row t p)) ⟨l.val % 32, Nat.mod_lt _ (by decide)⟩)
      else m ((c : Thread nD τ).loc main_arg9) (ix3 (bat (row t p)) (pos (row t p)) ⟨l.val % 32, Nat.mod_lt _ (by decide)⟩) := by
  show V m c main_v7 ((win0_8.blk t).view.emb (ix2 p l)) = _
  rw [tr_emb]
  entry_read
  pointwise
  unfold bat pos
  split_ifs
  all_goals by_cases h64 : l.val % 64 < 32
  all_goals first
    | (exfalso; omega)
    | (refine Eq.trans ?_ (if_pos h64).symm
       refine congrArg (fun q => m ((c : Thread nD τ).loc main_arg8) (ix3 _ _ q)) (Fin.ext ?_); (try simp only); omega)
    | (refine Eq.trans ?_ (if_neg h64).symm
       refine congrArg (fun q => m ((c : Thread nD τ).loc main_arg9) (ix3 _ _ q)) (Fin.ext ?_); (try simp only); omega)

/-- The cosines over the lanes. -/
theorem cos_at (c : Dev nD) (t : Fin cfg0.N) (p : Fin 512) (l : Fin 128) (q : Fin 32) (hq : q.val = l.val % 32) :
    k0_pay11 (F := Ideal) (iblk m c 8 t) (ix2 p l) = m ((c : Thread nD τ).loc main_arg8) (ix3 (bat (row t p)) (pos (row t p)) q) := by
  refine (Cert.Columns.cos_apply _ p l).trans ?_
  rw [tr_at, tr_at]
  have h' : l.val % 64 < 32 ∨ (l.val + 96) % 128 % 64 < 32 := by omega
  have hq' : q.val = (l.val + 96) % 128 % 32 := by omega
  split_ifs with h h2
  · exact congrArg (fun q => m ((c : Thread nD τ).loc main_arg8) (ix3 _ _ q)) (Fin.ext hq.symm)
  · exact congrArg (fun q => m ((c : Thread nD τ).loc main_arg8) (ix3 _ _ q)) (Fin.ext hq'.symm)
  · exact absurd (h'.resolve_left h) h2

/-- The sine a lane takes, as a number. -/
abbrev sinA (c : Dev nD) (b : Fin 8) (s : Fin 2048) (q : Fin 32) : EReal := m ((c : Thread nD τ).loc main_arg9) (ix3 b s q)

/-- The sines over the lanes, negated in the lower halves. -/
theorem sin_at (c : Dev nD) (t : Fin cfg0.N) (p : Fin 512) (l : Fin 128) (q : Fin 32) (hq : q.val = l.val % 32) :
    k0_pay12 (F := Ideal) (iblk m c 8 t) (ix2 p l) = if l.val % 64 < 32
      then 0 - sinA m c (bat (row t p)) (pos (row t p)) q else sinA m c (bat (row t p)) (pos (row t p)) q := by
  refine (Cert.Columns.sin_apply _ p l).trans ?_
  rw [tr_at, tr_at]
  have h' : l.val % 64 < 32 → ¬ (l.val + 32) % 128 % 64 < 32 := by omega
  have hq' : q.val = (l.val + 32) % 128 % 32 := by omega
  split_ifs with h h2
  · exact absurd h2 (h' h)
  · exact congrArg (fun q => 0 - sinA m c _ _ q) (Fin.ext hq'.symm)
  · exact congrArg (fun q => sinA m c _ _ q) (Fin.ext hq.symm)

end Cert.Blocks

end
-- ==== Proof.Arrays.lean ====
/-
  The second kernel's two result arrays are the specification's: a grid point leaves its rows of each, and the points' blocks
  cover the arrays.
-/
module

public import proofs.«01_k».proof.Proof.Blocks

@[expose] public section

set_option maxRecDepth 16384

noncomputable section

namespace Cert.Blocks

open Cert.Kernel2Ideal Cert.Kernel2Ideal.Gen Idealize.ShloMosaic Idealize.ShloMosaic.TcCoe Idealize.ShloMosaic.Tactic
open Cert.Spec (bat pos newX normed proj rotated out ang)
open Cert.Columns (col rotCol stored block swap)

variable (m : (ℓ : Loc nD τ sig) → Buf (Elt Ideal) ℓ) (c : Dev nD)

/-- The new rows, of the arguments as launched. -/
abbrev XA (b : Fin 8) (s : Fin 2048) : Fin 1024 → EReal :=
  newX (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b s

/-- A point's new rows. -/
theorem x_val (t : Fin cfg0.N) (p : Fin 512) (j : Fin 1024) :
    k0_pay6 (F := Ideal) (iblk m c 0 t) (X0_3 m c t) (iblk m c 1 t) (iblk m c 2 t) (iblk m c 5 t) (iblk m c 4 t) (ix2 p j)
      = XA m c (bat (row t p)) (pos (row t p)) j := by
  refine (Cert.Columns.x_apply _ _ _ _ _ _ p j).trans ?_
  unfold XA newX
  refine congr (congrArg _ (x_at m c t p j)) (Finset.sum_congr rfl fun k _ => ?_)
  refine congr (congrArg _ ?_) (wo_at m c t k j)
  unfold Cert.Spec.cat
  split_ifs
  · rw [sb_at, ga_at]
  · exact re_at ..
  · exact me_at ..

/-- A point's normalised rows. -/
theorem unit_val (t : Fin cfg0.N) (p : Fin 512) (j : Fin 1024) :
    k0_pay8 (F := Ideal) (k0_pay7 (iblk m c 0 t) (X0_3 m c t) (iblk m c 1 t) (iblk m c 2 t) (iblk m c 5 t) (iblk m c 4 t)) (iblk m c 6 t) (ix2 p j)
      = normed (m ((c : Thread nD τ).loc main_arg6)) 1 (XA m c (bat (row t p)) (pos (row t p))) j := by
  refine (Cert.Columns.unit_apply _ _ _ _ _ _ _ p j _ rfl).trans ?_
  simp only [x_val, ng_at]
  rfl

/-- A point's projected columns. -/
theorem col_val (t : Fin cfg0.N) (p : Fin 512) (q : Fin 3584) :
    col (k0_pay8 (F := Ideal) (k0_pay7 (iblk m c 0 t) (X0_3 m c t) (iblk m c 1 t) (iblk m c 2 t) (iblk m c 5 t) (iblk m c 4 t)) (iblk m c 6 t))
        (iblk m c 7 t) p q
      = proj (m ((c : Thread nD τ).loc main_arg6)) (m ((c : Thread nD τ).loc main_arg7)) 1 (XA m c (bat (row t p)) (pos (row t p))) q := by
  unfold col proj
  refine Finset.sum_congr rfl fun k _ => ?_
  exact congr (congrArg _ (unit_val m c t p k)) (wi_at m c t k q)

/-- A point's rotated columns. -/
theorem rot_val (t : Fin cfg0.N) (p : Fin 512) (q : Fin 3584) :
    rotCol (k0_pay11 (F := Ideal) (iblk m c 8 t)) (k0_pay12 (F := Ideal) (iblk m c 8 t))
        (k0_pay8 (F := Ideal) (k0_pay7 (iblk m c 0 t) (X0_3 m c t) (iblk m c 1 t) (iblk m c 2 t) (iblk m c 5 t) (iblk m c 4 t)) (iblk m c 6 t))
        (iblk m c 7 t) p q
      = rotated (m ((c : Thread nD τ).loc main_arg6)) (m ((c : Thread nD τ).loc main_arg7)) (m ((c : Thread nD τ).loc main_arg8))
          (m ((c : Thread nD τ).loc main_arg9)) 1 (bat (row t p)) (pos (row t p)) (XA m c (bat (row t p)) (pos (row t p))) q := by
  unfold rotCol rotated
  have h1 : (ang q).val = q.val % 128 % 32 := show q.val % 32 = q.val % 128 % 32 by omega
  have h2 : q.val % 128 % 64 = q.val % 64 := by omega
  rw [col_val, col_val, cos_at m c t p ⟨q.val % 128, Nat.mod_lt _ (by decide)⟩ (ang q) h1,
    sin_at m c t p ⟨q.val % 128, Nat.mod_lt _ (by decide)⟩ (ang q) h1]
  simp only [h2]

/-- A point's stored columns. -/
theorem stored_val (t : Fin cfg0.N) (p : Fin 512) (q : Fin 3584) :
    stored (k0_pay11 (F := Ideal) (iblk m c 8 t)) (k0_pay12 (F := Ideal) (iblk m c 8 t))
        (k0_pay8 (F := Ideal) (k0_pay7 (iblk m c 0 t) (X0_3 m c t) (iblk m c 1 t) (iblk m c 2 t) (iblk m c 5 t) (iblk m c 4 t)) (iblk m c 6 t))
        (iblk m c 7 t) p q
      = out (m ((c : Thread nD τ).loc main_arg6)) (m ((c : Thread nD τ).loc main_arg7)) (m ((c : Thread nD τ).loc main_arg8))
          (m ((c : Thread nD τ).loc main_arg9)) 1 (bat (row t p)) (pos (row t p)) (XA m c (bat (row t p)) (pos (row t p))) q := by
  unfold stored out
  rw [rot_val, col_val]

theorem x_emb (t : Fin cfg0.N) (p : Fin 512) (j : Fin 1024) : (win0_9.blk t).view.emb (ix2 p j) = ix2 (row t p) j := by
  unfold row
  blk_ext [idx t]

theorem p_emb (t : Fin cfg0.N) (p : Fin 512) (j : Fin 3584) : (win0_10.blk t).view.emb (ix2 p j) = ix2 (row t p) j := by
  unfold row
  blk_ext [idx t]

/-- The first result array. -/
theorem x_final : (dats m 0 c).arrAt 9 cfg0.N = Cert.Spec.X (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9]
  unfold outsAt0
  rw [Cert.Columns.out_x]
  obtain ⟨p, j, rfl⟩ : ∃ (p : Fin 512) (j : Fin 1024), y = ix2 p j := ⟨y 0, y 1, by funext a; fin_cases a <;> rfl⟩
  rw [x_emb]
  exact x_val m c t p j

/-- The second result array. -/
theorem p_final : (dats m 0 c).arrAt 10 cfg0.N = Cert.Spec.P (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t hf y => ?_
  blk_simp
  rw [after0_10]
  unfold outsAt0
  rw [Cert.Columns.out_proj]
  obtain ⟨p, j, rfl⟩ : ∃ (p : Fin 512) (j : Fin 3584), y = ix2 p j := ⟨y 0, y 1, by funext a; fin_cases a <;> rfl⟩
  rw [p_emb]
  exact stored_val m c t p j

end Cert.Blocks

end
-- ==== Proof.Reference2.lean ====
/-
  The second reference's two results are the specification's: its steps named, and each read at an index.
-/
module

public import proofs.«01_k».proof.Proof.Spec
public import proofs.«01_k».proof.Proof.Gen.Reference2Ideal.Run
public import Idealize.ShloMosaic.Lib.Pointwise

@[expose] public section

set_option maxRecDepth 16384

noncomputable section

namespace Cert.Reference2Ideal.Hand

open Cert.Reference2Ideal Cert.Reference2Ideal.Gen Cert.Reference2Ideal.Value Idealize.ShloMosaic Idealize.ShloMosaic.TcCoe

/-! ## The steps -/

/-- The branches' outputs side by side, the first gated. -/
def cat (sb re : FVec Ideal S8x2048x384 .bf16) (me : FVec Ideal S8x2048x256 .bf16) (ga : FVec Ideal S8x2048x3584 .bf16) : FVec Ideal S8x2048x1024 .f32 :=
  concatenate S8x2048x1024 2
    [⟨S8x2048x384, mulf (extf .f32 sb bitsLt_bf16_f32)
        (mulf (extf .f32 (extractStridedSlice S8x2048x384 ![0, 0, 1152] ga slices_S8x2048x3584_S8x2048x384_0_0_1152) bitsLt_bf16_f32)
          (Host.divf (broadcastInDim S8x2048x384 ![] bcast_S_S8x2048x384 (constant S_ .f32 0x3F800000#32))
            (addf (broadcastInDim S8x2048x384 ![] bcast_S_S8x2048x384 (constant S_ .f32 0x3F800000#32))
              (Host.exp (Host.negf (extf .f32 (extractStridedSlice S8x2048x384 ![0, 0, 1152] ga slices_S8x2048x3584_S8x2048x384_0_0_1152) bitsLt_bf16_f32))))))⟩,
      ⟨S8x2048x384, extf .f32 re bitsLt_bf16_f32⟩, ⟨S8x2048x256, extf .f32 me bitsLt_bf16_f32⟩]
    concatenates_S8x2048x384_S8x2048x384_S8x2048x256_S8x2048x1024_d2

/-- The new rows. -/
def rows (sb re : FVec Ideal S8x2048x384 .bf16) (me : FVec Ideal S8x2048x256 .bf16) (ga : FVec Ideal S8x2048x3584 .bf16)
    (w : FVec Ideal S4x1024x1024 .f32) (x : FVec Ideal S8x2048x1024 .f32) : FVec Ideal S8x2048x1024 .f32 :=
  addf x (Host.dotGeneral dot_S8x2048x1024_S1024x1024_S8x2048x1024_2_0_01_1_n_n none (cat sb re me ga)
      (shapeCast S1024x1024 (extractStridedSlice S1x1024x1024 ![0, 0, 0] w slices_S4x1024x1024_S1x1024x1024_0_0_0) shapeCasts_S1x1024x1024_S1024x1024))

/-- The rows normalised. -/
def norm (X : FVec Ideal S8x2048x1024 .f32) (g : FVec Ideal S4x1024 .f32) : FVec Ideal S8x2048x1024 .f32 :=
  mulf (mulf X (broadcastInDim S8x2048x1024 ![0, 1, 2] bcast_S8x2048x1_S8x2048x1024_0_1_2
      (Host.rsqrt (addf (Host.divf
          (broadcastInDim S8x2048x1 ![0, 1] bcast_S8x2048_S8x2048x1_0_1
            (Host.reduceAdd (mulf X X) (constant S_ .f32 0x00000000#32) reducesTo_S8x2048x1024_S8x2048_d2 h_S_))
          (broadcastInDim S8x2048x1 ![] bcast_S_S8x2048x1 (constant S_ .f32 0x44800000#32)))
        (broadcastInDim S8x2048x1 ![] bcast_S_S8x2048x1 (constant S_ .f32 0x358637BD#32))))))
    (broadcastInDim S8x2048x1024 ![0, 1, 2] bcast_S1x1x1024_S8x2048x1024_0_1_2
      (broadcastInDim S1x1x1024 ![2] bcast_S1024_S1x1x1024_2
        (shapeCast S1024 (extractStridedSlice S1x1024 ![1, 0] g slices_S4x1024_S1x1024_1_0) shapeCasts_S1x1024_S1024)))

/-- The projection. -/
def dot (h : FVec Ideal S8x2048x1024 .f32) (w : FVec Ideal S4x1024x3584 .f32) : FVec Ideal S8x2048x3584 .f32 :=
  Host.dotGeneral dot_S8x2048x1024_S1024x3584_S8x2048x3584_2_0_01_1_n_n none h
    (shapeCast S1024x3584 (extractStridedSlice S1x1024x3584 ![1, 0, 0] w slices_S4x1024x3584_S1x1024x3584_1_0_0) shapeCasts_S1x1024x3584_S1024x3584)

/-- The lower halves of the heads. -/
def lo (v : FVec Ideal S8x2048x384 .f32) : FVec Ideal S8x2048x6x32 .f32 :=
  extractStridedSlice S8x2048x6x32 ![0, 0, 0, 0] (shapeCast S8x2048x6x64 v shapeCasts_S8x2048x384_S8x2048x6x64) slices_S8x2048x6x64_S8x2048x6x32_0_0_0_0

/-- The upper halves of the heads. -/
def hi (v : FVec Ideal S8x2048x384 .f32) : FVec Ideal S8x2048x6x32 .f32 :=
  extractStridedSlice S8x2048x6x32 ![0, 0, 0, 32] (shapeCast S8x2048x6x64 v shapeCasts_S8x2048x384_S8x2048x6x64) slices_S8x2048x6x64_S8x2048x6x32_0_0_0_32

/-- An angle's table over the heads. -/
def table (t : FVec Ideal S8x2048x32 .f32) : FVec Ideal S8x2048x6x32 .f32 :=
  broadcastInDim S8x2048x6x32 ![0, 1, 2, 3] bcast_S8x2048x1x32_S8x2048x6x32_0_1_2_3
    (broadcastInDim S8x2048x1x32 ![0, 1, 3] bcast_S8x2048x32_S8x2048x1x32_0_1_3 t)

/-- The heads rotated. -/
def rope (v : FVec Ideal S8x2048x384 .f32) (cs sn : FVec Ideal S8x2048x32 .f32) : FVec Ideal S8x2048x384 .f32 :=
  shapeCast S8x2048x384 (concatenate S8x2048x6x64 3
    [⟨S8x2048x6x32, subf (mulf (lo v) (table cs)) (mulf (hi v) (table sn))⟩,
      ⟨S8x2048x6x32, addf (mulf (lo v) (table sn)) (mulf (hi v) (table cs))⟩]
    concatenates_S8x2048x6x32_S8x2048x6x32_S8x2048x6x64_d3) shapeCasts_S8x2048x6x64_S8x2048x384

/-- The columns side by side: the first scaled, two rotated and the second of these scaled. -/
def join (y : FVec Ideal S8x2048x3584 .f32) (cs sn : FVec Ideal S8x2048x32 .f32) : FVec Ideal S8x2048x3584 .f32 :=
  concatenate S8x2048x3584 2
    [⟨S8x2048x384, mulf (extractStridedSlice S8x2048x384 ![0, 0, 0] y slices_S8x2048x3584_S8x2048x384_0_0_0)
        (broadcastInDim S8x2048x384 ![] bcast_S_S8x2048x384 (constant S_ .f32 0x3E38AA3B#32))⟩,
      ⟨S8x2048x1152, extractStridedSlice S8x2048x1152 ![0, 0, 384] y slices_S8x2048x3584_S8x2048x1152_0_0_384⟩,
      ⟨S8x2048x384, rope (extractStridedSlice S8x2048x384 ![0, 0, 1536] y slices_S8x2048x3584_S8x2048x384_0_0_1536) cs sn⟩,
      ⟨S8x2048x384, mulf (rope (extractStridedSlice S8x2048x384 ![0, 0, 1920] y slices_S8x2048x3584_S8x2048x384_0_0_1920) cs sn)
        (broadcastInDim S8x2048x384 ![] bcast_S_S8x2048x384 (constant S_ .f32 0x3E000000#32))⟩,
      ⟨S8x2048x1280, extractStridedSlice S8x2048x1280 ![0, 0, 2304] y slices_S8x2048x3584_S8x2048x1280_0_0_2304⟩]
    concatenates_S8x2048x384_S8x2048x1152_S8x2048x384_S8x2048x384_S8x2048x1280_S8x2048x3584_d2

/-! ## Each at an index -/

section
variable (sb re : FVec Ideal S8x2048x384 .bf16) (me : FVec Ideal S8x2048x256 .bf16) (ga : FVec Ideal S8x2048x3584 .bf16)
  (wo : FVec Ideal S4x1024x1024 .f32) (x : FVec Ideal S8x2048x1024 .f32) (ng : FVec Ideal S4x1024 .f32)
  (wi : FVec Ideal S4x1024x3584 .f32) (cs sn : FVec Ideal S8x2048x32 .f32)

theorem rows_apply (b : Fin 8) (s : Fin 2048) (j : Fin 1024) :
    rows sb re me ga wo x (ix3 b s j) = Cert.Spec.newX sb re me ga wo x b s j := by
  pointwise [rows, cat]
  rfl

theorem norm_apply (X : FVec Ideal S8x2048x1024 .f32) (b : Fin 8) (s : Fin 2048) (j : Fin 1024) :
    norm X ng (ix3 b s j) = Cert.Spec.normed ng 1 (fun j => X (ix3 b s j)) j := by
  pointwise [norm]
  rfl

theorem dot_apply (h : FVec Ideal S8x2048x1024 .f32) (b : Fin 8) (s : Fin 2048) (c : Fin 3584) :
    dot h wi (ix3 b s c) = ∑ k : Fin 1024, h (ix3 b s k) * wi (ix3 1 k c) := by
  pointwise [dot]

theorem rope_apply (v : FVec Ideal S8x2048x384 .f32) (b : Fin 8) (s : Fin 2048) (l : Fin 384) :
    rope v cs sn (ix3 b s l) = if h : l.val % 64 < 32 then
        v (ix3 b s l) * cs (ix3 b s ⟨l.val % 32, Nat.mod_lt _ (by decide)⟩) - v (ix3 b s ⟨l.val + 32, by omega⟩) * sn (ix3 b s ⟨l.val % 32, Nat.mod_lt _ (by decide)⟩)
      else v (ix3 b s ⟨l.val - 32, by omega⟩) * sn (ix3 b s ⟨l.val % 32, Nat.mod_lt _ (by decide)⟩) + v (ix3 b s l) * cs (ix3 b s ⟨l.val % 32, Nat.mod_lt _ (by decide)⟩) := by
  pointwise [rope, lo, hi, table]
  have key₁ {a a' : Fin 384} {q q' : Fin 32} (ha : a.val = a'.val) (hq : q.val = q'.val) :
      v (ix3 b s l) * cs (ix3 b s q) - v (ix3 b s a) * sn (ix3 b s q) = v (ix3 b s l) * cs (ix3 b s q') - v (ix3 b s a') * sn (ix3 b s q') := by
    rw [Fin.ext ha, Fin.ext hq]
  have key₂ {a a' d d' : Fin 384} {q q' : Fin 32} (ha : a.val = a'.val) (hd : d.val = d'.val) (hq : q.val = q'.val) :
      v (ix3 b s a) * sn (ix3 b s q) + v (ix3 b s d) * cs (ix3 b s q) = v (ix3 b s a') * sn (ix3 b s q') + v (ix3 b s d') * cs (ix3 b s q') := by
    rw [Fin.ext ha, Fin.ext hd, Fin.ext hq]
  by_cases h : l.val % 64 < 32
  · refine (dif_pos h).trans (Eq.trans ?_ (dif_pos h).symm)
    exact key₁ (by simp only; omega) (by simp only; omega)
  · refine (dif_neg h).trans (Eq.trans ?_ (dif_neg h).symm)
    exact key₂ (by simp only; omega) (by simp only; omega) (by simp only; omega)

/-- Heads that stand in a wider row, rotated: each column and the one it is swapped with. -/
theorem rope_cols (v : FVec Ideal S8x2048x384 .f32) (b : Fin 8) (s : Fin 2048) (P : Fin 3584 → EReal) (o : ℕ) (ho : 64 ∣ o)
    (hv : ∀ (l : Fin 384) (c : Fin 3584), c.val = o + l.val → v (ix3 b s l) = P c) (l : Fin 384) (c : Fin 3584) (hc : c.val = o + l.val) :
    rope v cs sn (ix3 b s l) = P c * cs (ix3 b s (Cert.Spec.ang c)) + P (Cert.Columns.swap c) *
      (if c.val % 64 < 32 then 0 - sn (ix3 b s (Cert.Spec.ang c)) else sn (ix3 b s (Cert.Spec.ang c))) := by
  rw [rope_apply, hv l c hc]
  have ha (h2) : (⟨l.val % 32, h2⟩ : Fin 32) = Cert.Spec.ang c := Fin.ext (show l.val % 32 = c.val % 32 by omega)
  have hm : l.val % 64 = c.val % 64 := by omega
  rw [ha]
  unfold Cert.Columns.swap
  by_cases h : c.val % 64 < 32
  · rw [dif_pos (hm.trans_lt h), dif_pos h, if_pos h, hv ⟨l.val + 32, by omega⟩ ⟨c.val + 32, by omega⟩ (by simp only; omega), zero_sub,
      mul_neg, sub_eq_add_neg]
  · rw [dif_neg (fun h' => h (hm.symm.trans_lt h')), dif_neg h, if_neg h,
      hv ⟨l.val - 32, by omega⟩ ⟨c.val - 32, by omega⟩ (by simp only; omega), add_comm]

theorem join_apply (L : Fin 4) (y : FVec Ideal S8x2048x3584 .f32) (b : Fin 8) (s : Fin 2048) (X : Fin 1024 → EReal)
    (hy : ∀ c, y (ix3 b s c) = Cert.Spec.proj ng wi L X c) (c : Fin 3584) :
    join y cs sn (ix3 b s c) = Cert.Spec.out ng wi cs sn L b s X c := by
  pointwise [join]
  unfold Cert.Spec.out Cert.Spec.rotated
  by_cases h1 : c.val < 384
  · rw [dif_pos h1, if_pos h1, hy]
  rw [dif_neg h1, if_neg h1]
  by_cases h2 : c.val < 1536
  · rw [dif_pos (show c.val - 384 < 1152 by omega), if_pos h2, hy]
    exact congrArg _ (Fin.ext (by simp only; omega))
  rw [dif_neg (show ¬ c.val - 384 < 1152 by omega), if_neg h2]
  by_cases h3 : c.val < 1920
  · rw [dif_pos (show c.val - 384 - 1152 < 384 by omega), if_pos h3]
    refine rope_cols cs sn _ b s (Cert.Spec.proj ng wi L X) 1536 ⟨24, rfl⟩ (fun l c' hc' => ?_) _ c (by simp only; omega)
    pointwise
    rw [hy]
    exact congrArg _ (Fin.ext hc'.symm)
  rw [dif_neg (show ¬ c.val - 384 - 1152 < 384 by omega), if_neg h3]
  by_cases h4 : c.val < 2304
  · rw [dif_pos (show c.val - 384 - 1152 - 384 < 384 by omega), if_pos h4]
    refine congrArg (· * Ideal.ofBits .f32 0x3E000000#32) ?_
    refine rope_cols cs sn _ b s (Cert.Spec.proj ng wi L X) 1920 ⟨30, rfl⟩ (fun l c' hc' => ?_) _ c (by simp only; omega)
    pointwise
    rw [hy]
    exact congrArg _ (Fin.ext hc'.symm)
  rw [dif_neg (show ¬ c.val - 384 - 1152 - 384 < 384 by omega), if_neg h4, hy]
  exact congrArg _ (Fin.ext (by simp only; omega))

/-- The first result. -/
theorem rows_flat : shapeCast S16384x1024 (rows sb re me ga wo x) shapeCasts_S8x2048x1024_S16384x1024 = Cert.Spec.X sb re me ga wo x := by
  funext i
  obtain ⟨r, j, rfl⟩ : ∃ (r : Fin 16384) (j : Fin 1024), i = ix2 r j := ⟨i 0, i 1, by funext a; fin_cases a <;> rfl⟩
  pointwise
  exact rows_apply sb re me ga wo x _ _ j

/-- The second result. -/
theorem join_flat : (truncf .bf16 (shapeCast S16384x3584 (join (dot (norm (rows sb re me ga wo x) ng) wi) cs sn) shapeCasts_S8x2048x3584_S16384x3584)
      bitsLt_bf16_f32 : FVec Ideal S16384x3584 .bf16) = Cert.Spec.P sb re me ga wo x ng wi cs sn := by
  funext i
  obtain ⟨r, j, rfl⟩ : ∃ (r : Fin 16384) (j : Fin 3584), i = ix2 r j := ⟨i 0, i 1, by funext a; fin_cases a <;> rfl⟩
  pointwise
  refine join_apply ng wi cs sn 1 _ _ _ _ (fun c => ?_) j
  rw [dot_apply]
  unfold Cert.Spec.proj
  refine Finset.sum_congr rfl fun k _ => ?_
  rw [norm_apply]
  simp only [rows_apply]
  rfl
end

theorem res_eq (m : (ℓ : Loc nD τ sig) → Buf (Elt Ideal) ℓ) (c : Dev nD) :
    res_main_v76 m c = truncf .bf16 (shapeCast S16384x3584 (join (dot (norm (rows (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg5)))
      (m ((c.tc : Thread nD τ).loc main_arg6))) (m ((c.tc : Thread nD τ).loc main_arg7))) (m ((c.tc : Thread nD τ).loc main_arg8)) (m ((c.tc : Thread nD τ).loc main_arg9)))
      shapeCasts_S8x2048x3584_S16384x3584) bitsLt_bf16_f32 := by
  unfold res_main_v76
  rfl

end Cert.Reference2Ideal.Hand

end
-- ==== Proof.Stores3.lean ====
/-
  What a grid point of the third kernel leaves in its staging buffer: its twenty-eight groups of columns are the same
  function of a block's indices as the second kernel's.
-/
module

public import proofs.«01_k».proof.Proof.Stores
public import proofs.«01_k».proof.Proof.Gen.Kernel3Ideal.Value

@[expose] public section

set_option maxRecDepth 16384

noncomputable section

namespace Cert.Columns3

open Cert.Kernel3Ideal Cert.Kernel3Ideal.Gen Idealize.ShloMosaic Idealize.ShloMosaic.TcCoe Idealize.ShloMosaic.Tactic
open Cert.Columns (block plain scaled rotated rotatedScaled hz2 hz3)

variable (x0 : Vec Ideal S512x1024 .f32) (x1 : Vec Ideal S1x1x1024 .f32) (x2 : Vec Ideal S1x1024x3584 .f32) (x3 : Vec Ideal S512x128 .f32)

/-- The cosines over the lanes, as the second kernel lays them out. -/
theorem cos_eq : k0_pay62 x0 x1 x2 x3 = Cert.Kernel2Ideal.Gen.k0_pay11 x3 := by
  unfold k0_pay62 k0_pay60 k0_pay61
  rw [View.ld_unit_zero (S := S512x128) hz2]
  rfl

/-- The signed sines over the lanes, as the second kernel lays them out. -/
theorem sin_eq : k0_pay63 x0 x1 x2 x3 = Cert.Kernel2Ideal.Gen.k0_pay12 x3 := by
  unfold k0_pay63 k0_pay60 k0_pay61
  rw [View.ld_unit_zero (S := S512x128) hz2]
  rfl

/-- The rows the projection takes. -/
theorem unit_eq : k0_pay59 x0 x1 x2 x3 = k0_pay8 x0 x1 := by
  unfold k0_pay59
  rw [View.ld_unit_zero (S := S512x1024) hz2, View.ld_unit_zero (S := S1x1x1024) hz3]

/-- Those rows at an index: each divided by its root mean square, times the norm's weight. -/
theorem unit_apply (p : Fin 512) (j : Fin 1024) :
    k0_pay8 (F := Ideal) x0 x1 (ix2 p j) =
      x0 (ix2 p j) * Ideal.rsqrt (Ideal.div (∑ i : Fin 1024, x0 (ix2 p i) * x0 (ix2 p i)) (Ideal.ofBits .f32 1149239296#32) +
        Ideal.ofBits .f32 897988541#32) * x1 (ix3 0 0 j) := by
  pointwise [k0_pay8]

/-- The projection as stored. -/
theorem out_proj : out0_4 x0 x1 x2 x3 = block (Cert.Kernel2Ideal.Gen.k0_pay11 x3) (Cert.Kernel2Ideal.Gen.k0_pay12 x3) (k0_pay8 x0 x1) x2 := by
  rw [← cos_eq x0 x1 x2 x3, ← sin_eq x0 x1 x2 x3, ← unit_eq x0 x1 x2 x3]
  unfold out0_4
  funext y
  refine View.canon_apply_of_pieces _ _ ?_ y (cover0_4 _ _ _ _ _ _ _ _ _ _ _ _ _ _ _ _ _ _ _ _ _ _ _ _ _ _ _ _ y)
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
  · exact plain (c := 3456) (hq := slices_S512x512_o0_384_S512x128) _ _ _ x2 3072 384 rfl (by decide)
  · exact plain (c := 3328) (hq := slices_S512x512_o0_256_S512x128) _ _ _ x2 3072 256 rfl (by decide)
  · exact plain (c := 3200) (hq := slices_S512x512_o0_128_S512x128) _ _ _ x2 3072 128 rfl (by decide)
  · exact plain (c := 3072) (hq := slices_S512x512_o0_0_S512x128) _ _ _ x2 3072 0 rfl (by decide)
  · exact plain (c := 2944) (hq := slices_S512x512_o0_384_S512x128) _ _ _ x2 2560 384 rfl (by decide)
  · exact plain (c := 2816) (hq := slices_S512x512_o0_256_S512x128) _ _ _ x2 2560 256 rfl (by decide)
  · exact plain (c := 2688) (hq := slices_S512x512_o0_128_S512x128) _ _ _ x2 2560 128 rfl (by decide)
  · exact plain (c := 2560) (hq := slices_S512x512_o0_0_S512x128) _ _ _ x2 2560 0 rfl (by decide)
  · exact plain (c := 2432) (hq := slices_S512x512_o0_384_S512x128) _ _ _ x2 2048 384 rfl (by decide)
  · exact plain (c := 2304) (hq := slices_S512x512_o0_256_S512x128) _ _ _ x2 2048 256 rfl (by decide)
  · exact rotatedScaled (c := 2176) (hq := slices_S512x512_o0_128_S512x128) _ _ _ x2 2048 128 rfl (by decide) (by decide)
  · exact rotatedScaled (c := 2048) (hq := slices_S512x512_o0_0_S512x128) _ _ _ x2 2048 0 rfl (by decide) (by decide)
  · exact rotatedScaled (c := 1920) (hq := slices_S512x512_o0_384_S512x128) _ _ _ x2 1536 384 rfl (by decide) (by decide)
  · exact rotated (c := 1792) (hq := slices_S512x512_o0_256_S512x128) _ _ _ x2 1536 256 rfl (by decide) (by decide)
  · exact rotated (c := 1664) (hq := slices_S512x512_o0_128_S512x128) _ _ _ x2 1536 128 rfl (by decide) (by decide)
  · exact rotated (c := 1536) (hq := slices_S512x512_o0_0_S512x128) _ _ _ x2 1536 0 rfl (by decide) (by decide)
  · exact plain (c := 1408) (hq := slices_S512x512_o0_384_S512x128) _ _ _ x2 1024 384 rfl (by decide)
  · exact plain (c := 1280) (hq := slices_S512x512_o0_256_S512x128) _ _ _ x2 1024 256 rfl (by decide)
  · exact plain (c := 1152) (hq := slices_S512x512_o0_128_S512x128) _ _ _ x2 1024 128 rfl (by decide)
  · exact plain (c := 1024) (hq := slices_S512x512_o0_0_S512x128) _ _ _ x2 1024 0 rfl (by decide)
  · exact plain (c := 896) (hq := slices_S512x512_o0_384_S512x128) _ _ _ x2 512 384 rfl (by decide)
  · exact plain (c := 768) (hq := slices_S512x512_o0_256_S512x128) _ _ _ x2 512 256 rfl (by decide)
  · exact plain (c := 640) (hq := slices_S512x512_o0_128_S512x128) _ _ _ x2 512 128 rfl (by decide)
  · exact plain (c := 512) (hq := slices_S512x512_o0_0_S512x128) _ _ _ x2 512 0 rfl (by decide)
  · exact plain (c := 384) (hq := slices_S512x512_o0_384_S512x128) _ _ _ x2 0 384 rfl (by decide)
  · exact scaled (c := 256) (hq := slices_S512x512_o0_256_S512x128) _ _ _ x2 0 256 rfl (by decide)
  · exact scaled (c := 128) (hq := slices_S512x512_o0_128_S512x128) _ _ _ x2 0 128 rfl (by decide)
  · exact scaled (c := 0) (hq := slices_S512x512_o0_0_S512x128) _ _ _ x2 0 0 rfl (by decide)

end Cert.Columns3

end
-- ==== Proof.Blocks3.lean ====
/-
  The third kernel's blocks at an index, from the arguments, and its result array, which is the specification's: a grid point
  leaves its rows, and the points' blocks cover the array.
-/
module

public import proofs.«01_k».proof.Proof.Stores3
public import proofs.«01_k».proof.Proof.Spec
public import Idealize.ShloMosaic.Lib.Pipeline.ValueKit

@[expose] public section

set_option maxRecDepth 16384

noncomputable section

namespace Cert.Blocks3

open Cert.Kernel3Ideal Cert.Kernel3Ideal.Gen Idealize.ShloMosaic Idealize.ShloMosaic.TcCoe Idealize.ShloMosaic.Tactic
open Cert.Spec (bat pos normed proj out ang)
open Cert.Columns (col rotCol stored block swap)

variable (m : (ℓ : Loc nD τ sig) → Buf (Elt Ideal) ℓ)

/-- Every window's block index at a point. -/
theorem idx : ∀ t : Fin cfg0.N, win0_0.index t = ![t.val, 0] ∧ win0_1.index t = ![0, 0, 0] ∧ win0_2.index t = ![0, 0, 0]
    ∧ win0_3.index t = ![t.val, 0] ∧ win0_4.index t = ![t.val, 0] :=
  (by decide +kernel : ∀ t : Fin grid0.N, _)

theorem N_eq : cfg0.N = 32 := by decide

/-- The flattened row of point `t`'s block row `p`. -/
def row (t : Fin cfg0.N) (p : Fin 512) : Fin 16384 := ⟨512 * t.val + p.val, by have := t.isLt; have := N_eq; omega⟩

theorem x_at (c : Dev nD) (t : Fin cfg0.N) (p : Fin 512) (l : Fin 1024) :
    iblk m c 0 t (ix2 p l) = m ((c : Thread nD τ).loc main_arg0) (ix3 (bat (row t p)) (pos (row t p)) l) := by
  unfold bat pos row
  blk_ext! [iblk, V, idx t]

theorem ng_at (c : Dev nD) (t : Fin cfg0.N) (j : Fin 1024) :
    iblk m c 1 t (ix3 0 0 j) = m ((c : Thread nD τ).loc main_arg1) (ix2 0 j) := by
  blk_ext! [iblk, V, idx t]

theorem wi_at (c : Dev nD) (t : Fin cfg0.N) (k : Fin 1024) (j : Fin 3584) :
    iblk m c 2 t (ix3 0 k j) = m ((c : Thread nD τ).loc main_arg2) (ix3 0 k j) := by
  blk_ext! [iblk, V, idx t]

/-! ## The angles -/

theorem tr_emb (t : Fin cfg0.N) (p : Fin 512) (l : Fin 128) : (win0_3.blk t).view.emb (ix2 p l) = ix2 (row t p) l := by
  unfold row
  blk_ext [idx t]

theorem tr_at (c : Dev nD) (t : Fin cfg0.N) (p : Fin 512) (l : Fin 128) :
    iblk m c 3 t (ix2 p l) = if l.val % 64 < 32 then m ((c : Thread nD τ).loc main_arg3) (ix3 (bat (row t p)) (pos (row t p)) ⟨l.val % 32, Nat.mod_lt _ (by decide)⟩)
      else m ((c : Thread nD τ).loc main_arg4) (ix3 (bat (row t p)) (pos (row t p)) ⟨l.val % 32, Nat.mod_lt _ (by decide)⟩) := by
  show V m c main_v3 ((win0_3.blk t).view.emb (ix2 p l)) = _
  rw [tr_emb]
  entry_read
  pointwise
  unfold bat pos
  split_ifs
  all_goals by_cases h64 : l.val % 64 < 32
  all_goals first
    | (exfalso; omega)
    | (refine Eq.trans ?_ (if_pos h64).symm
       refine congrArg (fun q => m ((c : Thread nD τ).loc main_arg3) (ix3 _ _ q)) (Fin.ext ?_); (try simp only); omega)
    | (refine Eq.trans ?_ (if_neg h64).symm
       refine congrArg (fun q => m ((c : Thread nD τ).loc main_arg4) (ix3 _ _ q)) (Fin.ext ?_); (try simp only); omega)

/-- The cosines over the lanes. -/
theorem cos_at (c : Dev nD) (t : Fin cfg0.N) (p : Fin 512) (l : Fin 128) (q : Fin 32) (hq : q.val = l.val % 32) :
    Cert.Kernel2Ideal.Gen.k0_pay11 (F := Ideal) (iblk m c 3 t) (ix2 p l) = m ((c : Thread nD τ).loc main_arg3) (ix3 (bat (row t p)) (pos (row t p)) q) := by
  refine (Cert.Columns.cos_apply _ p l).trans ?_
  rw [tr_at, tr_at]
  have h' : l.val % 64 < 32 ∨ (l.val + 96) % 128 % 64 < 32 := by omega
  have hq' : q.val = (l.val + 96) % 128 % 32 := by omega
  split_ifs with h h2
  · exact congrArg (fun q => m ((c : Thread nD τ).loc main_arg3) (ix3 _ _ q)) (Fin.ext hq.symm)
  · exact congrArg (fun q => m ((c : Thread nD τ).loc main_arg3) (ix3 _ _ q)) (Fin.ext hq'.symm)
  · exact absurd (h'.resolve_left h) h2

/-- The sine a lane takes, as a number. -/
abbrev sinA (c : Dev nD) (b : Fin 8) (s : Fin 2048) (q : Fin 32) : EReal := m ((c : Thread nD τ).loc main_arg4) (ix3 b s q)

/-- The sines over the lanes, negated in the lower halves. -/
theorem sin_at (c : Dev nD) (t : Fin cfg0.N) (p : Fin 512) (l : Fin 128) (q : Fin 32) (hq : q.val = l.val % 32) :
    Cert.Kernel2Ideal.Gen.k0_pay12 (F := Ideal) (iblk m c 3 t) (ix2 p l) = if l.val % 64 < 32
      then 0 - sinA m c (bat (row t p)) (pos (row t p)) q else sinA m c (bat (row t p)) (pos (row t p)) q := by
  refine (Cert.Columns.sin_apply _ p l).trans ?_
  rw [tr_at, tr_at]
  have h' : l.val % 64 < 32 → ¬ (l.val + 32) % 128 % 64 < 32 := by omega
  have hq' : q.val = (l.val + 32) % 128 % 32 := by omega
  split_ifs with h h2
  · exact absurd h2 (h' h)
  · exact congrArg (fun q => 0 - sinA m c _ _ q) (Fin.ext hq'.symm)
  · exact congrArg (fun q => sinA m c _ _ q) (Fin.ext hq.symm)

/-! ## The result -/

/-- The rows, of the argument as launched. -/
abbrev XA (c : Dev nD) (b : Fin 8) (s : Fin 2048) : Fin 1024 → EReal := fun j => m ((c : Thread nD τ).loc main_arg0) (ix3 b s j)

variable (c : Dev nD)

/-- A point's normalised rows. -/
theorem unit_val (t : Fin cfg0.N) (p : Fin 512) (j : Fin 1024) :
    k0_pay8 (F := Ideal) (iblk m c 0 t) (iblk m c 1 t) (ix2 p j)
      = normed (m ((c : Thread nD τ).loc main_arg1)) 0 (XA m c (bat (row t p)) (pos (row t p))) j := by
  refine (Cert.Columns3.unit_apply _ _ p j).trans ?_
  simp only [x_at, ng_at]
  rfl

/-- A point's projected columns. -/
theorem col_val (t : Fin cfg0.N) (p : Fin 512) (q : Fin 3584) :
    col (k0_pay8 (F := Ideal) (iblk m c 0 t) (iblk m c 1 t)) (iblk m c 2 t) p q
      = proj (m ((c : Thread nD τ).loc main_arg1)) (m ((c : Thread nD τ).loc main_arg2)) 0 (XA m c (bat (row t p)) (pos (row t p))) q := by
  unfold col proj
  refine Finset.sum_congr rfl fun k _ => ?_
  exact congr (congrArg _ (unit_val m c t p k)) (wi_at m c t k q)

/-- A point's rotated columns. -/
theorem rot_val (t : Fin cfg0.N) (p : Fin 512) (q : Fin 3584) :
    rotCol (Cert.Kernel2Ideal.Gen.k0_pay11 (F := Ideal) (iblk m c 3 t)) (Cert.Kernel2Ideal.Gen.k0_pay12 (F := Ideal) (iblk m c 3 t))
        (k0_pay8 (F := Ideal) (iblk m c 0 t) (iblk m c 1 t)) (iblk m c 2 t) p q
      = Cert.Spec.rotated (m ((c : Thread nD τ).loc main_arg1)) (m ((c : Thread nD τ).loc main_arg2)) (m ((c : Thread nD τ).loc main_arg3))
          (m ((c : Thread nD τ).loc main_arg4)) 0 (bat (row t p)) (pos (row t p)) (XA m c (bat (row t p)) (pos (row t p))) q := by
  unfold rotCol Cert.Spec.rotated
  have h1 : (ang q).val = q.val % 128 % 32 := show q.val % 32 = q.val % 128 % 32 by omega
  have h2 : q.val % 128 % 64 = q.val % 64 := by omega
  rw [col_val, col_val, cos_at m c t p ⟨q.val % 128, Nat.mod_lt _ (by decide)⟩ (ang q) h1,
    sin_at m c t p ⟨q.val % 128, Nat.mod_lt _ (by decide)⟩ (ang q) h1]
  simp only [h2]

/-- A point's stored columns. -/
theorem stored_val (t : Fin cfg0.N) (p : Fin 512) (q : Fin 3584) :
    stored (Cert.Kernel2Ideal.Gen.k0_pay11 (F := Ideal) (iblk m c 3 t)) (Cert.Kernel2Ideal.Gen.k0_pay12 (F := Ideal) (iblk m c 3 t))
        (k0_pay8 (F := Ideal) (iblk m c 0 t) (iblk m c 1 t)) (iblk m c 2 t) p q
      = out (m ((c : Thread nD τ).loc main_arg1)) (m ((c : Thread nD τ).loc main_arg2)) (m ((c : Thread nD τ).loc main_arg3))
          (m ((c : Thread nD τ).loc main_arg4)) 0 (bat (row t p)) (pos (row t p)) (XA m c (bat (row t p)) (pos (row t p))) q := by
  unfold stored out
  rw [rot_val, col_val]

theorem p_emb (t : Fin cfg0.N) (p : Fin 512) (j : Fin 3584) : (win0_4.blk t).view.emb (ix2 p j) = ix2 (row t p) j := by
  unfold row
  blk_ext [idx t]

/-- The result array. -/
theorem p_final : (dats m 0 c).arrAt 4 cfg0.N = Cert.Spec.P₀ (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 4 _ (by decide +kernel) fun t hf y => ?_
  blk_simp
  rw [after0_4, Cert.Columns3.out_proj]
  obtain ⟨p, j, rfl⟩ : ∃ (p : Fin 512) (j : Fin 3584), y = ix2 p j := ⟨y 0, y 1, by funext a; fin_cases a <;> rfl⟩
  rw [p_emb]
  exact stored_val m c t p j

end Cert.Blocks3

end
-- ==== Proof.Reference3.lean ====
/-
  The third reference's result is the specification's: its steps are the second reference's, at the first layer.
-/
module

public import proofs.«01_k».proof.Proof.Reference2
public import proofs.«01_k».proof.Proof.Gen.Reference3Ideal.Run

@[expose] public section

set_option maxRecDepth 16384

noncomputable section

namespace Cert.Reference3Ideal.Hand

open Cert.Reference3Ideal Cert.Reference3Ideal.Gen Cert.Reference3Ideal.Value Idealize.ShloMosaic Idealize.ShloMosaic.TcCoe
open Cert.Reference2Ideal.Hand (join join_apply)

/-- The rows normalised. -/
def norm (X : FVec Ideal S8x2048x1024 .f32) (g : FVec Ideal S4x1024 .f32) : FVec Ideal S8x2048x1024 .f32 :=
  mulf (mulf X (broadcastInDim S8x2048x1024 ![0, 1, 2] bcast_S8x2048x1_S8x2048x1024_0_1_2
      (Host.rsqrt (addf (Host.divf
          (broadcastInDim S8x2048x1 ![0, 1] bcast_S8x2048_S8x2048x1_0_1
            (Host.reduceAdd (mulf X X) (constant S_ .f32 0x00000000#32) reducesTo_S8x2048x1024_S8x2048_d2 h_S_))
          (broadcastInDim S8x2048x1 ![] bcast_S_S8x2048x1 (constant S_ .f32 0x44800000#32)))
        (broadcastInDim S8x2048x1 ![] bcast_S_S8x2048x1 (constant S_ .f32 0x358637BD#32))))))
    (broadcastInDim S8x2048x1024 ![0, 1, 2] bcast_S1x1x1024_S8x2048x1024_0_1_2
      (broadcastInDim S1x1x1024 ![2] bcast_S1024_S1x1x1024_2
        (shapeCast S1024 (extractStridedSlice S1x1024 ![0, 0] g slices_S4x1024_S1x1024_0_0) shapeCasts_S1x1024_S1024)))

/-- The projection. -/
def dot (h : FVec Ideal S8x2048x1024 .f32) (w : FVec Ideal S4x1024x3584 .f32) : FVec Ideal S8x2048x3584 .f32 :=
  Host.dotGeneral dot_S8x2048x1024_S1024x3584_S8x2048x3584_2_0_01_1_n_n none h
    (shapeCast S1024x3584 (extractStridedSlice S1x1024x3584 ![0, 0, 0] w slices_S4x1024x3584_S1x1024x3584_0_0_0) shapeCasts_S1x1024x3584_S1024x3584)

section
variable (x : FVec Ideal S8x2048x1024 .f32) (ng : FVec Ideal S4x1024 .f32)
  (wi : FVec Ideal S4x1024x3584 .f32) (cs sn : FVec Ideal S8x2048x32 .f32)

theorem norm_apply (b : Fin 8) (s : Fin 2048) (j : Fin 1024) :
    norm x ng (ix3 b s j) = Cert.Spec.normed ng 0 (fun j => x (ix3 b s j)) j := by
  pointwise [norm]
  rfl

theorem dot_apply (h : FVec Ideal S8x2048x1024 .f32) (b : Fin 8) (s : Fin 2048) (c : Fin 3584) :
    dot h wi (ix3 b s c) = ∑ k : Fin 1024, h (ix3 b s k) * wi (ix3 0 k c) := by
  pointwise [dot]

/-- The result. -/
theorem join_flat : (truncf .bf16 (shapeCast S16384x3584 (join (dot (norm x ng) wi) cs sn) shapeCasts_S8x2048x3584_S16384x3584)
      bitsLt_bf16_f32 : FVec Ideal S16384x3584 .bf16) = Cert.Spec.P₀ x ng wi cs sn := by
  funext i
  obtain ⟨r, j, rfl⟩ : ∃ (r : Fin 16384) (j : Fin 3584), i = ix2 r j := ⟨i 0, i 1, by funext a; fin_cases a <;> rfl⟩
  pointwise
  refine join_apply ng wi cs sn 0 _ _ _ _ (fun c => ?_) j
  rw [dot_apply]
  unfold Cert.Spec.proj
  refine Finset.sum_congr rfl fun k _ => ?_
  rw [norm_apply]
  rfl
end

theorem res_eq (m : (ℓ : Loc nD τ sig) → Buf (Elt Ideal) ℓ) (c : Dev nD) :
    res_main_v63 m c = truncf .bf16 (shapeCast S16384x3584 (join (dot (norm (m ((c.tc : Thread nD τ).loc main_arg0)) (m ((c.tc : Thread nD τ).loc main_arg1)))
      (m ((c.tc : Thread nD τ).loc main_arg2))) (m ((c.tc : Thread nD τ).loc main_arg3)) (m ((c.tc : Thread nD τ).loc main_arg4)))
      shapeCasts_S8x2048x3584_S16384x3584) bitsLt_bf16_f32 := by
  unfold res_main_v63
  rfl

end Cert.Reference3Ideal.Hand

end
-- ==== Proof.Memory.lean ====
/-
  The memory's keys and values, element by element, and what a grid point of the kernel leaves of them: the fourth call's
  blocks read at an index.
-/
module

public import proofs.«01_k».proof.Proof.Gen.Kernel4Ideal.Value
public import Idealize.ShloMosaic.Lib.Pointwise

@[expose] public section

set_option maxRecDepth 16384

noncomputable section

namespace Cert.Memory

open Cert.Kernel4Ideal Cert.Kernel4Ideal.Gen Idealize.ShloMosaic Idealize.ShloMosaic.TcCoe

/-- The lanes of a pair's first head. -/
theorem first_apply (l : Fin 128) : k0_pay3 (ix2 0 l) = if l.val < 64 then 1#1 else 0#1 := by
  pointwise [k0_pay3]
  revert l
  decide +kernel

/-- The projection of a block's normalised rows. -/
theorem kv_apply (x : FVec Ideal S2048x1024 .f32) (g : FVec Ideal S1x1x1024 .f32) (w : FVec Ideal S1x1024x512 .f32) (r : Fin 2048) (c : Fin 512) :
    k0_pay4 (F := Ideal) x g w (ix2 r c) = ∑ k : Fin 1024,
      x (ix2 r k) * Ideal.rsqrt (Ideal.div (∑ i : Fin 1024, x (ix2 r i) * x (ix2 r i)) (Ideal.ofBits .f32 1149239296#32) +
        Ideal.ofBits .f32 897988541#32) * g (ix3 0 0 k) * w (ix3 0 k c) := by
  pointwise [k0_pay4]

/-! ## The mean square over a head, of a pair -/

theorem sum_first (f : Fin 128 → EReal) :
    (∑ i : Fin 128, if i.val < 64 then f i else 0) = ∑ d : Fin 64, f ⟨d.val, by omega⟩ := by
  refine (Fin.sum_univ_add (a := 64) (b := 64) _).trans ?_
  refine (congrArg₂ (· + ·) (Finset.sum_congr rfl fun d _ => if_pos d.isLt)
    (Finset.sum_eq_zero fun d _ => if_neg (show ¬ 64 + d.val < 64 by omega))).trans ?_
  exact add_zero _

theorem sum_second (f : Fin 128 → EReal) :
    (∑ i : Fin 128, if i.val < 64 then 0 else f i) = ∑ d : Fin 64, f ⟨64 + d.val, by omega⟩ := by
  refine (Fin.sum_univ_add (a := 64) (b := 64) _).trans ?_
  refine (congrArg₂ (· + ·) (Finset.sum_eq_zero fun d _ => if_pos d.isLt)
    (Finset.sum_congr rfl fun d _ => if_neg (show ¬ 64 + d.val < 64 by omega))).trans ?_
  exact zero_add _

theorem ofBits_64 : Ideal.ofBits .f32 0x42800000#32 = ((64 : ℝ) : EReal) := by
  simp [Ideal.ofBits, Ideal.ieee, -EReal.coe_mul]; norm_num

theorem ofBits_64th : Ideal.ofBits .f32 0x3C800000#32 = (((64 : ℝ)⁻¹ : ℝ) : EReal) := by
  simp [Ideal.ofBits, Ideal.ieee, -EReal.coe_mul]; norm_num

/-- The kernel multiplies by 1/64, the reference divides by 64. -/
theorem mul_64th (s : EReal) : s * Ideal.ofBits .f32 0x3C800000#32 = Ideal.div s (Ideal.ofBits .f32 0x42800000#32) := by
  rw [ofBits_64, ofBits_64th]
  unfold Ideal.div
  rw [if_neg (by norm_num), EReal.coe_inv]

/-- Over the lanes of a pair of heads, a lane's own head's mean square. -/
theorem pair_mean (f : Fin 128 → EReal) (l : Fin 128) :
    Scalar.select (if l.val < 64 then 1#1 else 0#1) (∑ x : Fin 128, Scalar.select (if x.val < 64 then 1#1 else 0#1) (f x * f x) 0)
        (∑ x : Fin 128, Scalar.select (if x.val < 64 then 1#1 else 0#1) 0 (f x * f x)) * Ideal.ofBits .f32 1015021568#32
      = Ideal.div (∑ d : Fin 64, f ⟨64 * (l.val / 64) + d.val, by omega⟩ * f ⟨64 * (l.val / 64) + d.val, by omega⟩) (Ideal.ofBits .f32 0x42800000#32) := by
  refine Eq.trans (congrArg (· * _) ?_) (mul_64th _)
  have hs {α : Type} (p : Prop) [Decidable p] (a b : α) : Scalar.select (if p then 1#1 else 0#1) a b = if p then a else b := by
    by_cases h : p <;> simp [h, Scalar.select]
  simp only [hs]
  rw [sum_first fun x => f x * f x, sum_second fun x => f x * f x]
  by_cases h : l.val < 64
  · rw [if_pos h]
    refine Finset.sum_congr rfl fun d _ => ?_
    have e : (⟨d.val, by omega⟩ : Fin 128) = ⟨64 * (l.val / 64) + d.val, by omega⟩ := Fin.ext (show d.val = 64 * (l.val / 64) + d.val by omega)
    rw [e]
  · rw [if_neg h]
    refine Finset.sum_congr rfl fun d _ => ?_
    have e : (⟨64 + d.val, by omega⟩ : Fin 128) = ⟨64 * (l.val / 64) + d.val, by omega⟩ := Fin.ext (show 64 + d.val = 64 * (l.val / 64) + d.val by omega)
    rw [e]

/-! ## The specification -/

section
variable (X : Fin 2048 → Fin 1024 → EReal) (g : Fin 1024 → EReal) (w : Fin 1024 → Fin 512 → EReal) (a : Fin 64 → EReal)

/-- A row divided by its root mean square, times the norm's weight, projected to column `c`. -/
def kv (r : Fin 2048) (c : Fin 512) : EReal :=
  ∑ k : Fin 1024, X r k * Ideal.rsqrt (Ideal.div (∑ i : Fin 1024, X r i * X r i) (Ideal.ofBits .f32 0x44800000#32) +
    Ideal.ofBits .f32 0x358637BD#32) * g k * w k c

/-- A head's columns divided by their root mean square, times the head norm's weight. -/
def headed (y : Fin 2048 → Fin 512 → EReal) (r : Fin 2048) (c : Fin 256) : EReal :=
  y r ⟨c.val, by omega⟩ * Ideal.rsqrt (Ideal.div (∑ d : Fin 64, y r ⟨64 * (c.val / 64) + d.val, by omega⟩ * y r ⟨64 * (c.val / 64) + d.val, by omega⟩)
    (Ideal.ofBits .f32 0x42800000#32) + Ideal.ofBits .f32 0x358637BD#32) * a ⟨c.val % 64, Nat.mod_lt _ (by decide)⟩
end

section
variable (mem : FVec Ideal S8x256x1024 .f32) (g : FVec Ideal S4x1024 .f32) (w : FVec Ideal S4x1024x512 .f32) (a : FVec Ideal S4x64 .f32)

/-- The memory's rows, flattened. -/
def rows (r : Fin 2048) (j : Fin 1024) : EReal := mem (ix3 ⟨r.val / 256, by omega⟩ ⟨r.val % 256, by omega⟩ j)

/-- A layer's keys and values, side by side, before the keys' norm. -/
def kvL (L : Fin 4) : Fin 2048 → Fin 512 → EReal := kv (rows mem) (fun k => g (ix2 L k)) fun k c => w (ix3 L k c)

/-- Every layer's keys. -/
def K : FVec Ideal S4x2048x256 .bf16 := fun i => headed (fun d => a (ix2 (i 0) d)) (kvL mem g w (i 0)) (i 1) (i 2)

/-- Every layer's values. -/
def V : FVec Ideal S4x2048x256 .bf16 := fun i => kvL mem g w (i 0) (i 1) ⟨256 + (i 2).val, by have : (i 2).val < 256 := (i 2).isLt; omega⟩
end

/-! ## A grid point's stores -/

section
variable (x : FVec Ideal S2048x1024 .f32) (g : FVec Ideal S1x1x1024 .f32) (w : FVec Ideal S1x1024x512 .f32) (a : FVec Ideal S1x1x128 .f32)

/-- A head's mean square does not depend on which pair of heads it is read from. -/
theorem headed_of (b : Fin 64 → EReal) (y : Fin 2048 → Fin 512 → EReal) (o : ℕ) (ho : o = 0 ∨ o = 128) (r : Fin 2048) (l : Fin 128)
    (hb : a (ix3 0 0 l) = b ⟨l.val % 64, Nat.mod_lt _ (by decide)⟩) :
    y r ⟨o + l.val, by omega⟩ * Ideal.rsqrt (Ideal.div (∑ d : Fin 64, y r ⟨o + (64 * (l.val / 64) + d.val), by omega⟩ * y r ⟨o + (64 * (l.val / 64) + d.val), by omega⟩)
      (Ideal.ofBits .f32 0x42800000#32) + Ideal.ofBits .f32 0x358637BD#32) * a (ix3 0 0 l) = headed b y r ⟨o + l.val, by omega⟩ := by
  unfold headed
  rw [hb]
  have h1 : l.val % 64 = (o + l.val) % 64 := by omega
  have h2 : ∀ d : Fin 64, o + (64 * (l.val / 64) + d.val) = 64 * ((o + l.val) / 64) + d.val := fun d => by omega
  simp only [h1, h2]

theorem pair0_apply (b : Fin 64 → EReal) (y : Fin 2048 → Fin 512 → EReal) (r : Fin 2048) (l : Fin 128)
    (hy : ∀ r c, k0_pay4 (F := Ideal) x g w (ix2 r c) = y r c) (hb : a (ix3 0 0 l) = b ⟨l.val % 64, Nat.mod_lt _ (by decide)⟩) :
    k0_pay10 (F := Ideal) k0_pay3 (k0_pay5 a) (k0_pay6 x g w) (k0_pay8 x g w) (k0_pay9 x g w) (ix3 0 r l) = headed b y r ⟨0 + l.val, by omega⟩ := by
  pointwise [k0_pay10, k0_pay5, k0_pay6, k0_pay8, k0_pay9, k0_pay7]
  simp only [first_apply, hy]
  rw [pair_mean (fun q => y r ⟨q.val, by omega⟩) l]
  refine Eq.trans ?_ ((headed_of a b y 0 (.inl rfl) r l hb).trans (congrArg (headed b y r) (Fin.ext (Nat.zero_add _))))
  simp only [Nat.zero_add]

theorem pair1_apply (b : Fin 64 → EReal) (y : Fin 2048 → Fin 512 → EReal) (r : Fin 2048) (l : Fin 128)
    (hy : ∀ r c, k0_pay4 (F := Ideal) x g w (ix2 r c) = y r c) (hb : a (ix3 0 0 l) = b ⟨l.val % 64, Nat.mod_lt _ (by decide)⟩) :
    k0_pay1 (F := Ideal) (k0_pay11 k0_pay3 (k0_pay4 x g w)) (k0_pay12 (k0_pay5 a)) (ix3 0 r l) = headed b y r ⟨128 + l.val, by omega⟩ := by
  pointwise [k0_pay1, k0_pay11, k0_pay12, k0_pay5]
  simp only [first_apply, hy]
  rw [pair_mean (fun q => y r ⟨128 + q.val, by omega⟩) l, ← headed_of a b y 128 (.inr rfl) r l hb]

theorem values_apply (r : Fin 2048) (c : Fin 256) :
    k0_pay2 (F := Ideal) (k0_pay4 x g w) (ix3 0 r c) = k0_pay4 (F := Ideal) x g w (ix2 r ⟨256 + c.val, by omega⟩) := by
  pointwise [k0_pay2]

theorem hz2 : (![0, 0] : Fin 2 → ℕ) = fun _ => 0 := by funext a; fin_cases a <;> rfl
theorem hz3 : (![0, 0, 0] : Fin 3 → ℕ) = fun _ => 0 := by funext a; fin_cases a <;> rfl

/-- The keys a point stores. -/
theorem out_keys (b : Fin 64 → EReal) (y : Fin 2048 → Fin 512 → EReal) (hy : ∀ r c, k0_pay4 (F := Ideal) x g w (ix2 r c) = y r c)
    (hb : ∀ l : Fin 128, a (ix3 0 0 l) = b ⟨l.val % 64, Nat.mod_lt _ (by decide)⟩) :
    out0_4 (F := Ideal) x g w a = fun i : S1x2048x256.Idx => headed b y (i 1) (i 2) := by
  unfold_out out0_4
  rw [View.ld_unit_zero (S := S2048x1024) hz2, View.ld_unit_zero (S := S1x1x1024) hz3, View.ld_unit_zero (S := S1x1024x512) hz3,
    View.ld_unit_zero (S := S1x1x128) hz3]
  funext z
  refine View.canon_apply_of_pieces (Val := Elt Ideal) (e := .bf16) (fun i : S1x2048x256.Idx => headed b y (i 1) (i 2)) _ ?_ z (cover0_4 (F := Ideal) _ _ z)
  simp only [List.forall_mem_cons]
  refine ⟨fun i => ?_, fun i => ?_, fun _ h => absurd h List.not_mem_nil⟩
  all_goals
    obtain ⟨r, l, rfl⟩ : ∃ (r : Fin 2048) (l : Fin 128), i = ix3 0 r l := ⟨i 1, i 2, by funext a; fin_cases a <;> first | rfl | exact Subsingleton.elim (α := Fin 1) _ _⟩
  · refine (pair1_apply x g w a b y r l hy (hb l)).trans (congrArg₂ (headed b y) (Fin.ext ?_) (Fin.ext ?_))
    · show r.val = 0 + 1 * r.val; omega
    · show 128 + l.val = 128 + 1 * l.val; omega
  · refine (pair0_apply x g w a b y r l hy (hb l)).trans (congrArg₂ (headed b y) (Fin.ext ?_) (Fin.ext ?_))
    · show r.val = 0 + 1 * r.val; omega
    · show 0 + l.val = 0 + 1 * l.val; omega

/-- The values a point stores. -/
theorem out_values : out0_5 (F := Ideal) x g w a = k0_pay2 (F := Ideal) (k0_pay4 x g w) := by
  unfold_out out0_5
  rw [View.ld_unit_zero (S := S2048x1024) hz2, View.ld_unit_zero (S := S1x1x1024) hz3, View.ld_unit_zero (S := S1x1024x512) hz3]
  exact View.canon_unit_zero (S := S1x2048x256) hz3 _ _
end

end Cert.Memory

end
-- ==== Proof.Blocks4.lean ====
/-
  The fourth kernel's blocks at an index, from the arguments, and its two result arrays, which are the specification's: a
  grid point leaves its layer, and the points' blocks cover the arrays.
-/
module

public import proofs.«01_k».proof.Proof.Memory
public import Idealize.ShloMosaic.Lib.Pipeline.ValueKit

@[expose] public section

set_option maxRecDepth 16384

noncomputable section

namespace Cert.Blocks4

open Cert.Kernel4Ideal Cert.Kernel4Ideal.Gen Idealize.ShloMosaic Idealize.ShloMosaic.TcCoe Idealize.ShloMosaic.Tactic
open Cert.Memory (headed kv kvL rows)

variable (m : (ℓ : Loc nD τ sig) → Buf (Elt Ideal) ℓ)

/-- Every window's block index at a point. -/
theorem idx : ∀ t : Fin cfg0.N, win0_0.index t = ![0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] :=
  (by decide +kernel : ∀ t : Fin grid0.N, _)

theorem N_eq : cfg0.N = 4 := by decide

/-- The layer of a point. -/
def lay (t : Fin cfg0.N) : Fin 4 := ⟨t.val, by have := t.isLt; have := N_eq; omega⟩

theorem x_at (c : Dev nD) (t : Fin cfg0.N) (r : Fin 2048) (j : Fin 1024) :
    iblk m c 0 t (ix2 r j) = rows (m ((c : Thread nD τ).loc main_arg0)) r j := by
  unfold rows
  blk_ext! [iblk, V, idx t]

theorem g_at (c : Dev nD) (t : Fin cfg0.N) (j : Fin 1024) :
    iblk m c 1 t (ix3 0 0 j) = m ((c : Thread nD τ).loc main_arg1) (ix2 (lay t) j) := by
  unfold lay
  blk_ext! [iblk, V, idx t]

theorem w_at (c : Dev nD) (t : Fin cfg0.N) (k : Fin 1024) (j : Fin 512) :
    iblk m c 2 t (ix3 0 k j) = m ((c : Thread nD τ).loc main_arg2) (ix3 (lay t) k j) := by
  unfold lay
  blk_ext! [iblk, V, idx t]

theorem a_emb (t : Fin cfg0.N) (l : Fin 128) : (win0_3.blk t).view.emb (ix3 0 0 l) = ix3 (lay t) 0 l := by
  unfold lay
  blk_ext [idx t]

theorem a_at (c : Dev nD) (t : Fin cfg0.N) (l : Fin 128) :
    iblk m c 3 t (ix3 0 0 l) = m ((c : Thread nD τ).loc main_arg3) (ix2 (lay t) ⟨l.val % 64, Nat.mod_lt _ (by decide)⟩) := by
  show V m c main_v3 ((win0_3.blk t).view.emb (ix3 0 0 l)) = _
  rw [a_emb]
  entry_read
  pointwise

/-- A point's projected columns. -/
theorem kv_val (c : Dev nD) (t : Fin cfg0.N) (r : Fin 2048) (q : Fin 512) :
    k0_pay4 (F := Ideal) (iblk m c 0 t) (iblk m c 1 t) (iblk m c 2 t) (ix2 r q) = kvL (m ((c : Thread nD τ).loc main_arg0))
      (m ((c : Thread nD τ).loc main_arg1)) (m ((c : Thread nD τ).loc main_arg2)) (lay t) r q := by
  refine (Cert.Memory.kv_apply _ _ _ r q).trans ?_
  simp only [x_at, g_at, w_at]
  rfl

theorem k_emb (t : Fin cfg0.N) (r : Fin 2048) (j : Fin 256) : (win0_4.blk t).view.emb (ix3 0 r j) = ix3 (lay t) r j := by
  unfold lay
  blk_ext [idx t]

theorem v_emb (t : Fin cfg0.N) (r : Fin 2048) (j : Fin 256) : (win0_5.blk t).view.emb (ix3 0 r j) = ix3 (lay t) r j := by
  unfold lay
  blk_ext [idx t]

theorem exists_ix3 (y : S1x2048x256.Idx) : ∃ (r : Fin 2048) (j : Fin 256), y = ix3 0 r j :=
  ⟨y 1, y 2, by funext a; fin_cases a <;> first | rfl | exact Subsingleton.elim (α := Fin 1) _ _⟩

variable (c : Dev nD)

/-- The keys. -/
theorem k_final : (dats m 0 c).arrAt 4 cfg0.N = Cert.Memory.K (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4, Cert.Memory.out_keys _ _ _ _ (fun d => m ((c : Thread nD τ).loc main_arg3) (ix2 (lay t) d)) _ (kv_val m c t) (a_at m c t)]
  obtain ⟨r, j, rfl⟩ := exists_ix3 y
  rw [k_emb]
  rfl

/-- The values. -/
theorem v_final : (dats m 0 c).arrAt 5 cfg0.N = Cert.Memory.V (m ((c : Thread nD τ).loc main_arg0)) (m ((c : Thread nD τ).loc main_arg1))
    (m ((c : Thread nD τ).loc main_arg2)) := by
  refine (dats m 0 c).arrAt_eq_of_covers 5 _ (by decide +kernel) fun t hf y => ?_
  blk_simp
  rw [after0_5, Cert.Memory.out_values]
  obtain ⟨r, j, rfl⟩ := exists_ix3 y
  rw [v_emb, Cert.Memory.values_apply]
  exact kv_val m c t r ⟨256 + j.val, by omega⟩

end Cert.Blocks4

end
-- ==== Proof.Reference4.lean ====
/-
  The fourth reference's two results are the specification's: a layer's steps named and read at an index, the layers stacked.
-/
module

public import proofs.«01_k».proof.Proof.Memory
public import proofs.«01_k».proof.Proof.Gen.Reference4Ideal.Run
public import Idealize.ShloMosaic.Lib.Pointwise

@[expose] public section

set_option maxRecDepth 16384

noncomputable section

namespace Cert.Reference4Ideal.Hand

open Cert.Reference4Ideal Cert.Reference4Ideal.Gen Cert.Reference4Ideal.Value Idealize.ShloMosaic Idealize.ShloMosaic.TcCoe Idealize.SL.Sem
open Cert.Memory (headed kv kvL rows)

/-! ## A layer's steps -/

/-- The rows normalised and projected. -/
def proj (X : FVec Ideal S8x256x1024 .f32) (g : FVec Ideal S1024 .f32) (w : FVec Ideal S1024x512 .f32) : FVec Ideal S8x256x512 .f32 :=
  Host.dotGeneral dot_S8x256x1024_S1024x512_S8x256x512_2_0_01_1_n_n none
    (mulf (mulf X (broadcastInDim S8x256x1024 ![0, 1, 2] bcast_S8x256x1_S8x256x1024_0_1_2
        (Host.rsqrt (addf (Host.divf
            (broadcastInDim S8x256x1 ![0, 1] bcast_S8x256_S8x256x1_0_1
              (Host.reduceAdd (mulf X X) (constant S_ .f32 0x00000000#32) reducesTo_S8x256x1024_S8x256_d2 h_S_))
            (broadcastInDim S8x256x1 ![] bcast_S_S8x256x1 (constant S_ .f32 0x44800000#32)))
          (broadcastInDim S8x256x1 ![] bcast_S_S8x256x1 (constant S_ .f32 0x358637BD#32))))))
      (broadcastInDim S8x256x1024 ![0, 1, 2] bcast_S1x1x1024_S8x256x1024_0_1_2 (broadcastInDim S1x1x1024 ![2] bcast_S1024_S1x1x1024_2 g))) w

/-- The keys' heads. -/
def heads (y : FVec Ideal S8x256x512 .f32) : FVec Ideal S8x4x256x64 .f32 :=
  transpose S8x4x256x64 [0, 2, 1, 3] (shapeCast S8x256x4x64 (extractStridedSlice S8x256x256 ![0, 0, 0] y slices_S8x256x512_S8x256x256_0_0_0)
    shapeCasts_S8x256x256_S8x256x4x64) transposes_S8x256x4x64_S8x4x256x64_0_2_1_3

/-- The keys, normalised over each head. -/
def keys (t : FVec Ideal S8x4x256x64 .f32) (a : FVec Ideal S64 .f32) : FVec Ideal S1x2048x256 .f32 :=
  broadcastInDim S1x2048x256 ![1, 2] bcast_S2048x256_S1x2048x256_1_2 (shapeCast S2048x256 (transpose S8x256x4x64 [0, 2, 1, 3]
    (mulf (mulf t (broadcastInDim S8x4x256x64 ![0, 1, 2, 3] bcast_S8x4x256x1_S8x4x256x64_0_1_2_3
        (Host.rsqrt (addf (Host.divf
            (broadcastInDim S8x4x256x1 ![0, 1, 2] bcast_S8x4x256_S8x4x256x1_0_1_2
              (Host.reduceAdd (mulf t t) (constant S_ .f32 0x00000000#32) reducesTo_S8x4x256x64_S8x4x256_d3 h_S_))
            (broadcastInDim S8x4x256x1 ![] bcast_S_S8x4x256x1 (constant S_ .f32 0x42800000#32)))
          (broadcastInDim S8x4x256x1 ![] bcast_S_S8x4x256x1 (constant S_ .f32 0x358637BD#32))))))
      (broadcastInDim S8x4x256x64 ![0, 1, 2, 3] bcast_S1x1x1x64_S8x4x256x64_0_1_2_3 (broadcastInDim S1x1x1x64 ![3] bcast_S64_S1x1x1x64_3 a)))
    transposes_S8x4x256x64_S8x256x4x64_0_2_1_3) shapeCasts_S8x256x4x64_S2048x256)

/-- The values. -/
def values (y : FVec Ideal S8x256x512 .f32) : FVec Ideal S1x2048x256 .f32 :=
  broadcastInDim S1x2048x256 ![1, 2] bcast_S2048x256_S1x2048x256_1_2 (shapeCast S2048x256
    (extractStridedSlice S8x256x256 ![0, 0, 256] y slices_S8x256x512_S8x256x256_0_0_256) shapeCasts_S8x256x256_S2048x256)

/-- The layers' arrays, stacked and rounded. -/
def stack (p q r s : FVec Ideal S1x2048x256 .f32) : FVec Ideal S4x2048x256 .bf16 :=
  truncf .bf16 (concatenate S4x2048x256 0 [⟨S1x2048x256, p⟩, ⟨S1x2048x256, q⟩, ⟨S1x2048x256, r⟩, ⟨S1x2048x256, s⟩]
    concatenates_S1x2048x256_S1x2048x256_S1x2048x256_S1x2048x256_S4x2048x256_d0) bitsLt_bf16_f32

/-! ## Each at an index -/

theorem proj_apply (X : FVec Ideal S8x256x1024 .f32) (g : FVec Ideal S1024 .f32) (w : FVec Ideal S1024x512 .f32) (b : Fin 8) (s : Fin 256) (c : Fin 512) :
    proj X g w (ix3 b s c) = kv (rows X) (fun k => g (ix1 k)) (fun k c => w (ix2 k c)) ⟨256 * b.val + s.val, by omega⟩ c := by
  pointwise [proj]
  unfold kv rows
  have h1 : (⟨(256 * b.val + s.val) / 256, by omega⟩ : Fin 8) = b := Fin.ext (by simp only; omega)
  have h2 : (⟨(256 * b.val + s.val) % 256, by omega⟩ : Fin 256) = s := Fin.ext (by simp only; omega)
  simp only [h1, h2]

theorem heads_apply (y : FVec Ideal S8x256x512 .f32) (b : Fin 8) (h : Fin 4) (s : Fin 256) (d : Fin 64) :
    heads y (ix4 b h s d) = y (ix3 b s ⟨64 * h.val + d.val, by omega⟩) := by
  pointwise [heads]
  exact congrArg (fun q => y (ix3 b s q)) (Fin.ext (by simp only; omega))

theorem keys_apply (y : FVec Ideal S8x256x512 .f32) (a : FVec Ideal S64 .f32) (Y : Fin 2048 → Fin 512 → EReal)
    (hy : ∀ b s c, y (ix3 b s c) = Y ⟨256 * b.val + s.val, by omega⟩ c) (r : Fin 2048) (j : Fin 256) :
    keys (heads y) a (ix3 0 r j) = headed (fun d => a (ix1 d)) Y r j := by
  pointwise [keys]
  simp only [heads_apply, hy]
  unfold headed
  have h1 : 256 * (r.val / 256) + r.val % 256 = r.val := by omega
  have h2 : 64 * (j.val / 64) + j.val % 64 = j.val := by omega
  simp only [h1, h2]

theorem values_apply (y : FVec Ideal S8x256x512 .f32) (Y : Fin 2048 → Fin 512 → EReal)
    (hy : ∀ b s c, y (ix3 b s c) = Y ⟨256 * b.val + s.val, by omega⟩ c) (r : Fin 2048) (j : Fin 256) :
    values y (ix3 0 r j) = Y r ⟨256 + j.val, by omega⟩ := by
  pointwise [values]
  rw [hy]
  exact congrArg (fun q => Y q _) (Fin.ext (by simp only; omega))

theorem stack_apply (p q r s : FVec Ideal S1x2048x256 .f32) (L : Fin 4) (i : Fin 2048) (j : Fin 256) :
    stack p q r s (ix3 L i j) = (![p, q, r, s] L) (ix3 0 i j) := by
  pointwise [stack]
  fin_cases L
  all_goals rfl

section
variable (X : FVec Ideal S8x256x1024 .f32) (g : FVec Ideal S4x1024 .f32) (w : FVec Ideal S4x1024x512 .f32) (a : FVec Ideal S4x64 .f32)

/-- Layer `n`'s row of the norm's weight. -/
def gL (n : ℕ) (h : S4x1024.Slices ![n, 0] S1x1024) : FVec Ideal S1024 .f32 :=
  shapeCast S1024 (extractStridedSlice S1x1024 ![n, 0] g h) shapeCasts_S1x1024_S1024

/-- Layer `n`'s weight. -/
def wL (n : ℕ) (h : S4x1024x512.Slices ![n, 0, 0] S1x1024x512) : FVec Ideal S1024x512 .f32 :=
  shapeCast S1024x512 (extractStridedSlice S1x1024x512 ![n, 0, 0] w h) shapeCasts_S1x1024x512_S1024x512

/-- Layer `n`'s row of the head norm's weight. -/
def aL (n : ℕ) (h : S4x64.Slices ![n, 0] S1x64) : FVec Ideal S64 .f32 :=
  shapeCast S64 (extractStridedSlice S1x64 ![n, 0] a h) shapeCasts_S1x64_S64

theorem gL_apply (L : Fin 4) (h) (k : Fin 1024) : gL g L.val h (ix1 k) = g (ix2 L k) := by
  pointwise [gL]

theorem wL_apply (L : Fin 4) (h) (k : Fin 1024) (c : Fin 512) : wL w L.val h (ix2 k c) = w (ix3 L k c) := by
  pointwise [wL]

theorem aL_apply (L : Fin 4) (h) (d : Fin 64) : aL a L.val h (ix1 d) = a (ix2 L d) := by
  pointwise [aL]

/-- A layer's projection. -/
theorem proj_layer (L : Fin 4) (hg hw) (b : Fin 8) (s : Fin 256) (c : Fin 512) :
    proj X (gL g L.val hg) (wL w L.val hw) (ix3 b s c) = kvL X g w L ⟨256 * b.val + s.val, by omega⟩ c := by
  rw [proj_apply]
  simp only [gL_apply, wL_apply]
  rfl

theorem keys_layer (L : Fin 4) (hg hw ha) (r : Fin 2048) (j : Fin 256) :
    keys (heads (proj X (gL g L.val hg) (wL w L.val hw))) (aL a L.val ha) (ix3 0 r j) = headed (fun d => a (ix2 L d)) (kvL X g w L) r j := by
  rw [keys_apply _ _ _ (proj_layer X g w L hg hw)]
  simp only [aL_apply]

theorem values_layer (L : Fin 4) (hg hw) (r : Fin 2048) (j : Fin 256) :
    values (proj X (gL g L.val hg) (wL w L.val hw)) (ix3 0 r j) = kvL X g w L r ⟨256 + j.val, by omega⟩ :=
  values_apply _ _ (proj_layer X g w L hg hw) r j

theorem exists_ix3 (i : S4x2048x256.Idx) : ∃ (L : Fin 4) (r : Fin 2048) (j : Fin 256), i = ix3 L r j :=
  ⟨i 0, i 1, i 2, by funext a; fin_cases a <;> rfl⟩

/-- A layer's projection, as the reference's run names it. -/
abbrev pL (n : ℕ) (hg : S4x1024.Slices ![n, 0] S1x1024) (hw : S4x1024x512.Slices ![n, 0, 0] S1x1024x512) : FVec Ideal S8x256x512 .f32 :=
  proj X (gL g n hg) (wL w n hw)

/-- The keys. -/
theorem keys_eq : stack (keys (heads (pL X g w 0 slices_S4x1024_S1x1024_0_0 slices_S4x1024x512_S1x1024x512_0_0_0)) (aL a 0 slices_S4x64_S1x64_0_0))
      (keys (heads (pL X g w 1 slices_S4x1024_S1x1024_1_0 slices_S4x1024x512_S1x1024x512_1_0_0)) (aL a 1 slices_S4x64_S1x64_1_0))
      (keys (heads (pL X g w 2 slices_S4x1024_S1x1024_2_0 slices_S4x1024x512_S1x1024x512_2_0_0)) (aL a 2 slices_S4x64_S1x64_2_0))
      (keys (heads (pL X g w 3 slices_S4x1024_S1x1024_3_0 slices_S4x1024x512_S1x1024x512_3_0_0)) (aL a 3 slices_S4x64_S1x64_3_0))
      = Cert.Memory.K X g w a := by
  funext i
  obtain ⟨L, r, j, rfl⟩ := exists_ix3 i
  rw [stack_apply]
  fin_cases L
  · exact keys_layer X g w a 0 slices_S4x1024_S1x1024_0_0 slices_S4x1024x512_S1x1024x512_0_0_0 slices_S4x64_S1x64_0_0 r j
  · exact keys_layer X g w a 1 slices_S4x1024_S1x1024_1_0 slices_S4x1024x512_S1x1024x512_1_0_0 slices_S4x64_S1x64_1_0 r j
  · exact keys_layer X g w a 2 slices_S4x1024_S1x1024_2_0 slices_S4x1024x512_S1x1024x512_2_0_0 slices_S4x64_S1x64_2_0 r j
  · exact keys_layer X g w a 3 slices_S4x1024_S1x1024_3_0 slices_S4x1024x512_S1x1024x512_3_0_0 slices_S4x64_S1x64_3_0 r j

/-- The values. -/
theorem values_eq : stack (values (pL X g w 0 slices_S4x1024_S1x1024_0_0 slices_S4x1024x512_S1x1024x512_0_0_0))
      (values (pL X g w 1 slices_S4x1024_S1x1024_1_0 slices_S4x1024x512_S1x1024x512_1_0_0))
      (values (pL X g w 2 slices_S4x1024_S1x1024_2_0 slices_S4x1024x512_S1x1024x512_2_0_0))
      (values (pL X g w 3 slices_S4x1024_S1x1024_3_0 slices_S4x1024x512_S1x1024x512_3_0_0)) = Cert.Memory.V X g w := by
  funext i
  obtain ⟨L, r, j, rfl⟩ := exists_ix3 i
  rw [stack_apply]
  fin_cases L
  · exact values_layer X g w 0 slices_S4x1024_S1x1024_0_0 slices_S4x1024x512_S1x1024x512_0_0_0 r j
  · exact values_layer X g w 1 slices_S4x1024_S1x1024_1_0 slices_S4x1024x512_S1x1024x512_1_0_0 r j
  · exact values_layer X g w 2 slices_S4x1024_S1x1024_2_0 slices_S4x1024x512_S1x1024x512_2_0_0 r j
  · exact values_layer X g w 3 slices_S4x1024_S1x1024_3_0 slices_S4x1024x512_S1x1024x512_3_0_0 r j
end

/-- The reference's run, its results named. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v165) = Cert.Memory.K (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v171) = Cert.Memory.V (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (keys_eq _ _ _ _), (h c).2.1.trans (values_eq _ _ _), (h c).2.2⟩) (run m ρ)

end Cert.Reference4Ideal.Hand

end
-- ==== Proof.Attention.lean ====
/-
  The attention over the memory, element by element: what a tile of a grid point's queries gives, with no condition on the
  numbers.
-/
module

public import proofs.«01_k».proof.Proof.Gen.Kernel5Ideal.Value
public import proofs.«01_k».proof.Proof.Memory
public import proofs.«01_k».proof.Proof.Value
public import Idealize.ShloMosaic.Lib.Pointwise

@[expose] public section

set_option maxRecDepth 16384

noncomputable section

namespace Cert.Attention

open Cert.Kernel5Ideal Cert.Kernel5Ideal.Gen Idealize.ShloMosaic Idealize.ShloMosaic.TcCoe
open Cert.Memory (pair_mean sum_first sum_second)

/-! ## The specification -/

/-- One over the root mean square of a head's query. -/
def inv (Q : Fin 64 → EReal) : EReal :=
  Ideal.rsqrt (Ideal.div (∑ d : Fin 64, Q d * Q d) (Ideal.ofBits .f32 0x42800000#32) + Ideal.ofBits .f32 0x358637BD#32)

/-- The score of a query against a key: the query normalised, times the norm's weight, times the key, over 8. -/
def score (Q A K : Fin 64 → EReal) : EReal := (∑ d : Fin 64, Q d * inv Q * A d * K d) * Ideal.ofBits .f32 0x3E000000#32

/-- The greatest of the scores. -/
def top (s : Fin 256 → EReal) : EReal := Finset.univ.fold max (Ideal.ofBits .f32 0xFF800000#32) s

/-- The numerators of the softmax. -/
def num (s : Fin 256 → EReal) (x : Fin 256) : EReal := Ideal.exp (s x - top s)

/-- A result: the softmax's numerators times the values, over their sum, times the gate's silu. -/
def attn (s V : Fin 256 → EReal) (g : EReal) : EReal :=
  Ideal.div (∑ x : Fin 256, num s x * V x) (∑ x : Fin 256, num s x) * (g * Ideal.div 1 (1 + Ideal.exp (-g)))

/-- The scores of a row, in a column's head, against its own batch row's keys. -/
def sc (p : FVec Ideal S8x2048x3584 .bf16) (mk : FVec Ideal S4x2048x256 .bf16) (a : FVec Ideal S4x64 .f32) (r : Fin 16384) (j x : Fin 256) : EReal :=
  score (fun d => p (ix3 ⟨r.val / 2048, by omega⟩ ⟨r.val % 2048, by omega⟩ ⟨3072 + (j.val / 64 * 64 + d.val), by omega⟩))
    (fun d => a (ix2 0 d)) (fun d => mk (ix3 0 ⟨r.val / 2048 * 256 + x.val, by omega⟩ ⟨j.val / 64 * 64 + d.val, by omega⟩))

/-- A row's gate. -/
def gt (p : FVec Ideal S8x2048x3584 .bf16) (r : Fin 16384) (j : Fin 256) : EReal :=
  p (ix3 ⟨r.val / 2048, by omega⟩ ⟨r.val % 2048, by omega⟩ ⟨3328 + j.val, by omega⟩)

/-- A value of a row's batch row. -/
def vl (mv : FVec Ideal S4x2048x256 .bf16) (r : Fin 16384) (j x : Fin 256) : EReal := mv (ix3 0 ⟨r.val / 2048 * 256 + x.val, by omega⟩ j)

/-- Every result. -/
def res (p : FVec Ideal S8x2048x3584 .bf16) (mk mv : FVec Ideal S4x2048x256 .bf16) (a : FVec Ideal S4x64 .f32) : FVec Ideal S16384x256 .bf16 :=
  fun i => attn (sc p mk a (i 0) (i 1)) (vl mv (i 0) (i 1)) (gt p (i 0) (i 1))

/-! ## The lanes of a pair of heads -/

theorem first_apply (l : Fin 128) : k0_pay3 (ix2 0 l) = if l.val < 64 then 1#1 else 0#1 := by
  pointwise [k0_pay3]
  revert l
  decide +kernel

theorem second_apply (l : Fin 128) : k0_pay4 (ix2 0 l) = if l.val < 64 then 0#1 else 1#1 := by
  pointwise [k0_pay4, k0_pay3]
  revert l
  decide +kernel

theorem select_if (p : Prop) [Decidable p] (a b : EReal) : Scalar.select (if p then 1#1 else 0#1) a b = if p then a else b := by
  by_cases h : p <;> simp [h, Scalar.select]

theorem select_not (p : Prop) [Decidable p] (a b : EReal) : Scalar.select (if p then 0#1 else 1#1) a b = if p then b else a := by
  by_cases h : p <;> simp [h, Scalar.select]

theorem ofBits_8th : Ideal.ofBits .f32 0x3E000000#32 = (((8 : ℝ)⁻¹ : ℝ) : EReal) := by
  simp [Ideal.ofBits, Ideal.ieee, -EReal.coe_mul]; norm_num

/-- A real factor that isn't negative goes through a sum. -/
theorem sum_mul_of_nonneg {ι : Type} (S : Finset ι) (f : ι → EReal) (c : EReal) (h : 0 ≤ c) (h' : c ≠ ⊤) : (∑ i ∈ S, f i) * c = ∑ i ∈ S, f i * c := by
  classical
  induction S using Finset.induction_on with
  | empty => simp
  | insert a S ha ih => rw [Finset.sum_insert ha, Finset.sum_insert ha, EReal.right_distrib_of_nonneg_of_ne_top h h', ih]

/-- The kernel scales the query before the product, the specification the product. -/
theorem score_eq (Q A K : Fin 64 → EReal) :
    (∑ d : Fin 64, Q d * (inv Q * Ideal.ofBits .f32 0x3E000000#32) * A d * K d) = score Q A K := by
  unfold score
  rw [sum_mul_of_nonneg _ _ _ (by rw [ofBits_8th]; exact EReal.coe_nonneg.mpr (by norm_num)) (by rw [ofBits_8th]; exact EReal.coe_ne_top _)]
  refine Finset.sum_congr rfl fun d _ => ?_
  ac_rfl

/-! ## A tile -/

section
variable (q gate : FVec Ideal S512x128 .bf16) (k v : FVec Ideal S1x256x128 .bf16) (a : FVec Ideal S1x1x128 .f32)

/-- A tile of 512 rows. -/
def tile : FVec Ideal S512x128 .bf16 :=
  k0_pay12 (F := Ideal) k0_pay3 (k0_pay11 (k0_pay6 v) (k0_pay10 (F := Ideal) k0_pay3 k0_pay4 (k0_pay5 k) (k0_pay7 q) a)
    (k0_pay9 (F := Ideal) k0_pay3 k0_pay4 (k0_pay5 k) (k0_pay7 q) a)) gate

/-- A row's query in a lane's head. -/
def qH (r : Fin 512) (h : Fin 2) (d : Fin 64) : EReal := q (ix2 r ⟨64 * h.val + d.val, by omega⟩)
def aH (h : Fin 2) (d : Fin 64) : EReal := a (ix3 0 0 ⟨64 * h.val + d.val, by omega⟩)
def kH (h : Fin 2) (x : Fin 256) (d : Fin 64) : EReal := k (ix3 0 x ⟨64 * h.val + d.val, by omega⟩)

theorem q_apply (r : Fin 512) (h : Fin 2) (d : Fin 64) :
    k0_pay7 (F := Ideal) q (ix2 r ⟨64 * h.val + d.val, by omega⟩) = qH q r h d * (inv (qH q r h) * Ideal.ofBits .f32 0x3E000000#32) := by
  pointwise [k0_pay7]
  simp only [first_apply]
  rw [pair_mean (fun x => q (ix2 r x)) ⟨64 * h.val + d.val, by omega⟩]
  have e : (64 * h.val + d.val) / 64 = h.val := by omega
  simp only [e]
  rfl

/-- The numerators of a row: the rows of the second head follow those of the first. -/
theorem e_apply (r : Fin 512) (h : Fin 2) (j : Fin 256) :
    k0_pay8 (F := Ideal) k0_pay3 k0_pay4 (k0_pay5 k) (k0_pay7 q) a (ix2 ⟨512 * h.val + r.val, by omega⟩ j)
      = num (fun x => score (qH q r h) (aH a h) (kH k h x)) j := by
  have hq := q_apply q r h
  generalize k0_pay7 (F := Ideal) q = p at *
  have hs : ∀ j : Fin 256, (∑ x : Fin 128, (if h_1 : 512 * h.val + r.val < 512 then
      if x.val < 64 then p (ix2 ⟨512 * h.val + r.val, h_1⟩ x) * a (ix3 0 0 x) else (0 : EReal)
      else if x.val < 64 then (0 : EReal) else p (ix2 ⟨512 * h.val + r.val - 512, by omega⟩ x) * a (ix3 0 0 x)) * k (ix3 0 j x))
        = ∑ d : Fin 64, qH q r h d * (inv (qH q r h) * Ideal.ofBits .f32 0x3E000000#32) * aH a h d * kH k h j d := fun j => by
    by_cases hh : h.val = 0
    · have er : ∀ hr, (⟨512 * h.val + r.val, hr⟩ : Fin 512) = r := fun hr => Fin.ext (show 512 * h.val + r.val = r.val by omega)
      simp only [dif_pos (show 512 * h.val + r.val < 512 by omega), er, ite_mul, zero_mul]
      refine (sum_first fun x => p (ix2 r x) * a (ix3 0 0 x) * k (ix3 0 j x)).trans (Finset.sum_congr rfl fun d _ => ?_)
      have e : (⟨d.val, by omega⟩ : Fin 128) = ⟨64 * h.val + d.val, by omega⟩ := Fin.ext (show d.val = 64 * h.val + d.val by omega)
      rw [e, hq]
      rfl
    · have er : ∀ hr, (⟨512 * h.val + r.val - 512, hr⟩ : Fin 512) = r := fun hr => Fin.ext (show 512 * h.val + r.val - 512 = r.val by omega)
      simp only [dif_neg (show ¬ 512 * h.val + r.val < 512 by omega), er, ite_mul, zero_mul]
      refine (sum_second fun x => p (ix2 r x) * a (ix3 0 0 x) * k (ix3 0 j x)).trans (Finset.sum_congr rfl fun d _ => ?_)
      have e : (⟨64 + d.val, by omega⟩ : Fin 128) = ⟨64 * h.val + d.val, by omega⟩ := Fin.ext (show 64 + d.val = 64 * h.val + d.val by omega)
      rw [e, hq]
      rfl
  unfold num top
  simp only [← score_eq]
  pointwise [k0_pay8, k0_pay5]
  simp only [first_apply, second_apply, select_if, select_not, BitVec.toInt_zero, Int.cast_zero, EReal.coe_zero]
  simp only [hs]

/-- A tile's element: the attention of its lane's head. -/
theorem tile_apply (r : Fin 512) (l : Fin 128) (h : Fin 2) (hl : l.val / 64 = h.val) :
    tile q gate k v a (ix2 r l)
      = attn (fun x => score (qH q r h) (aH a h) (kH k h x)) (fun x => v (ix3 0 x l)) (gate (ix2 r l)) := by
  have he := e_apply q k a r h
  unfold tile attn
  rw [← Cert.Value.gate_eq]
  simp only [← he]
  have hn : ∀ (r : Fin 1024) (j : Fin 256), k0_pay10 (F := Ideal) k0_pay3 k0_pay4 (k0_pay5 k) (k0_pay7 q) a (ix3 0 r j)
      = k0_pay8 (F := Ideal) k0_pay3 k0_pay4 (k0_pay5 k) (k0_pay7 q) a (ix2 r j) := fun r j => by pointwise [k0_pay10]
  have hd : ∀ (r : Fin 1024) (l : Fin 128), k0_pay9 (F := Ideal) k0_pay3 k0_pay4 (k0_pay5 k) (k0_pay7 q) a (ix3 0 r l)
      = ∑ x : Fin 256, k0_pay8 (F := Ideal) k0_pay3 k0_pay4 (k0_pay5 k) (k0_pay7 q) a (ix2 r x) := fun r l => by pointwise [k0_pay9]
  simp only [← hn]
  have hd' : ∀ (r : Fin 1024) (l : Fin 128), k0_pay9 (F := Ideal) k0_pay3 k0_pay4 (k0_pay5 k) (k0_pay7 q) a (ix3 0 r l)
      = ∑ x : Fin 256, k0_pay10 (F := Ideal) k0_pay3 k0_pay4 (k0_pay5 k) (k0_pay7 q) a (ix3 0 r x) := fun r l => by simp only [hn, hd]
  generalize k0_pay10 (F := Ideal) k0_pay3 k0_pay4 (k0_pay5 k) (k0_pay7 q) a = e at *
  generalize k0_pay9 (F := Ideal) k0_pay3 k0_pay4 (k0_pay5 k) (k0_pay7 q) a = d at *
  pointwise [k0_pay11, k0_pay12, k0_pay6]
  simp only [first_apply, select_if, hd']
  by_cases hh : h.val = 0
  · have er : (⟨512 * h.val + r.val, by omega⟩ : Fin 1024) = ⟨r.val, by omega⟩ := Fin.ext (show 512 * h.val + r.val = r.val by omega)
    rw [if_pos (by omega), er]
  · have er : (⟨512 * h.val + r.val, by omega⟩ : Fin 1024) = ⟨512 + r.val, by omega⟩ := Fin.ext (show 512 * h.val + r.val = 512 + r.val by omega)
    rw [if_neg (by omega), er]
end

end Cert.Attention

end
-- ==== Proof.Blocks5.lean ====
/-
  The fifth kernel's blocks at an index, from the arguments, and its result array, which is the specification's: a grid
  point leaves four tiles of its batch row's queries of a pair of heads, and the points' blocks cover the array.
-/
module

public import proofs.«01_k».proof.Proof.Attention
public import Idealize.ShloMosaic.Lib.Pipeline.ValueKit

@[expose] public section

set_option maxRecDepth 16384

noncomputable section

namespace Cert.Blocks5

open Cert.Kernel5Ideal Cert.Kernel5Ideal.Gen Idealize.ShloMosaic Idealize.ShloMosaic.TcCoe Idealize.ShloMosaic.Tactic
open Cert.Attention (tile qH aH kH attn score res)

variable (m : (ℓ : Loc nD τ sig) → Buf (Elt Ideal) ℓ)

theorem ix3_congr {a b c : ℕ} {i i' : Fin a} {j j' : Fin b} {k k' : Fin c} (hi : i = i') (hj : j = j') (hk : k = k') :
    ix3 i j k = ix3 i' j' k' := by rw [hi, hj, hk]

theorem score_congr {Q Q' A A' K K' : Fin 64 → EReal} (hq : ∀ d, Q d = Q' d) (ha : ∀ d, A d = A' d) (hk : ∀ d, K d = K' d) :
    score Q A K = score Q' A' K' := by rw [funext hq, funext ha, funext hk]

theorem attn_congr {s s' v v' : Fin 256 → EReal} {g g' : EReal} (hs : ∀ x, s x = s' x) (hv : ∀ x, v x = v' x) (hg : g = g') :
    attn s v g = attn s' v' g' := by rw [funext hs, funext hv, hg]

/-! ## A grid point's stores -/

/-- The four tiles of a grid point. -/
def tiles (q g : FVec Ideal S2048x128 .bf16) (k v : FVec Ideal S1x256x128 .bf16) (a : FVec Ideal S1x1x128 .f32) :
    List (View.Piece (Elt Ideal) S2048x128 .bf16) :=
  [⟨Rect.unit ![1536, 0] ![512, 128] inb_S2048x128_S512x128_1536_0,
      tile (View.ld (S := S2048x128) (Val := Elt Ideal) (e' := .bf16) q (Rect.unit ![1536, 0] ![512, 128] inb_S2048x128_S512x128_1536_0)) (View.ld (S := S2048x128) (Val := Elt Ideal) (e' := .bf16) g (Rect.unit ![1536, 0] ![512, 128] inb_S2048x128_S512x128_1536_0)) k v a⟩,
   ⟨Rect.unit ![1024, 0] ![512, 128] inb_S2048x128_S512x128_1024_0,
      tile (View.ld (S := S2048x128) (Val := Elt Ideal) (e' := .bf16) q (Rect.unit ![1024, 0] ![512, 128] inb_S2048x128_S512x128_1024_0)) (View.ld (S := S2048x128) (Val := Elt Ideal) (e' := .bf16) g (Rect.unit ![1024, 0] ![512, 128] inb_S2048x128_S512x128_1024_0)) k v a⟩,
   ⟨Rect.unit ![512, 0] ![512, 128] inb_S2048x128_S512x128_512_0,
      tile (View.ld (S := S2048x128) (Val := Elt Ideal) (e' := .bf16) q (Rect.unit ![512, 0] ![512, 128] inb_S2048x128_S512x128_512_0)) (View.ld (S := S2048x128) (Val := Elt Ideal) (e' := .bf16) g (Rect.unit ![512, 0] ![512, 128] inb_S2048x128_S512x128_512_0)) k v a⟩,
   ⟨Rect.unit ![0, 0] ![512, 128] inb_S2048x128_S512x128_0_0,
      tile (View.ld (S := S2048x128) (Val := Elt Ideal) (e' := .bf16) q (Rect.unit ![0, 0] ![512, 128] inb_S2048x128_S512x128_0_0)) (View.ld (S := S2048x128) (Val := Elt Ideal) (e' := .bf16) g (Rect.unit ![0, 0] ![512, 128] inb_S2048x128_S512x128_0_0)) k v a⟩]

theorem tiles_cover (q g : FVec Ideal S2048x128 .bf16) (k v : FVec Ideal S1x256x128 .bf16) (a : FVec Ideal S1x1x128 .f32) (y : S2048x128.Idx) :
    ∃ p ∈ tiles q g k v a, y ∈ p.1.set :=
  View.cover_of_tiledL (tiles q g k v a) S512x128.size (by sl_kernel_rfl) y

theorem hz3 : (![0, 0, 0] : Fin 3 → ℕ) = fun _ => 0 := by funext a; fin_cases a <;> rfl

/-- A point's stores are its tiles: each of the body's loads of the scratch reads what the store before it left. -/
theorem outsAt_eq (c : Dev nD) (t : Fin cfg0.N) :
    outsAt0 m c t = View.canon (tiles (iblk m c 0 t) (iblk m c 1 t) (iblk m c 2 t) (iblk m c 3 t) (iblk m c 4 t)) := by
  unfold outsAt0 out0_A_5
  unfold kernelRun0_A
  dsimp only [
    kernelRun0_A.sl.v333, kernelRun0_A.sl.v336, kernelRun0_A.sl.r_1, kernelRun0_A.sl.r_3, kernelRun0_A.sl.r_6, kernelRun0_A.sl.v246,
    kernelRun0_A.sl.v249, kernelRun0_A.sl.v162, kernelRun0_A.sl.v72, kernelRun0_A.sl.v75, kernelRun0_A.sl.v159, kernelRun0_A.sl.HS0_1,
    kernelRun0_A.sl.HS0_2, kernelRun0_A.sl.HS0_3, kernelRun0_A.sl.HS0_4, kernelRun0_A.sl.HS1_1, kernelRun0_A.sl.HS1_2,
    kernelRun0_A.sl.HS1_3, kernelRun0_A.sl.HS1_4, kernelRun0_A.sl.r, kernelRun0_A.sl.r_2, kernelRun0_A.sl.r_4, kernelRun0_A.sl.r_5,
    kernelRun0_A.sl.r_7, kernelRun0_A.sl.r_8, kernelRun0_A.sl.r_9, kernelRun0_A.sl.r_10, kernelRun0_A.sl.r_11, kernelRun0_A.sl.r_12]
  simp only [View.read_writes_junk_eq_canon, View.readCov_cons_toLoadRect, View.readAt_eq_ld, Memref.IsWhole.read_unread]
  rw [View.ld_unit_zero (S := S1x256x128) hz3, View.ld_unit_zero (S := S1x256x128) hz3, View.ld_unit_zero (S := S1x1x128) hz3]
  unfold tiles
  rfl

/-- A point's element: the attention of its lane's head. -/
theorem tiles_apply (q g : FVec Ideal S2048x128 .bf16) (k v : FVec Ideal S1x256x128 .bf16) (a : FVec Ideal S1x1x128 .f32) (z : S2048x128.Idx) :
    View.canon (Val := Elt Ideal) (e := .bf16) (tiles q g k v a) z = attn
      (fun x => score (fun d => q (ix2 (z 0) ⟨64 * ((z 1).val / 64) + d.val, by have : (z 1).val < 128 := (z 1).isLt; omega⟩))
        (fun d => a (ix3 0 0 ⟨64 * ((z 1).val / 64) + d.val, by have : (z 1).val < 128 := (z 1).isLt; omega⟩))
        (fun d => k (ix3 0 x ⟨64 * ((z 1).val / 64) + d.val, by have : (z 1).val < 128 := (z 1).isLt; omega⟩)))
      (fun x => v (ix3 0 x (z 1))) (g z) := by
  refine View.canon_apply_of_pieces (Val := Elt Ideal) (e := .bf16) (fun z : S2048x128.Idx => attn
      (fun x => score (fun d => q (ix2 (z 0) ⟨64 * ((z 1).val / 64) + d.val, by have : (z 1).val < 128 := (z 1).isLt; omega⟩))
        (fun d => a (ix3 0 0 ⟨64 * ((z 1).val / 64) + d.val, by have : (z 1).val < 128 := (z 1).isLt; omega⟩))
        (fun d => k (ix3 0 x ⟨64 * ((z 1).val / 64) + d.val, by have : (z 1).val < 128 := (z 1).isLt; omega⟩)))
      (fun x => v (ix3 0 x (z 1))) (g z)) _ ?_ z (tiles_cover q g k v a z)
  unfold tiles
  simp only [List.forall_mem_cons]
  refine ⟨fun i => ?_, fun i => ?_, fun i => ?_, fun i => ?_, fun _ h => absurd h List.not_mem_nil⟩
  all_goals
    obtain ⟨r, l, rfl⟩ : ∃ (r : Fin 512) (l : Fin 128), i = ix2 r l := ⟨i 0, i 1, by funext a; fin_cases a <;> rfl⟩
    refine (Cert.Attention.tile_apply _ _ k v a r l ⟨l.val / 64, by omega⟩ rfl).trans ?_
    refine attn_congr (fun x => score_congr (fun d => ?_) (fun d => ?_) fun d => ?_) (fun x => ?_) rfl
    · refine congrArg q (funext fun a => ?_)
      fin_cases a
      · rfl
      · exact Fin.ext (show 0 + 1 * (64 * (l.val / 64) + d.val) = 64 * ((0 + 1 * l.val) / 64) + d.val by omega)
    · exact congrArg a (congrArg (ix3 0 0) (Fin.ext (show 64 * (l.val / 64) + d.val = 64 * ((0 + 1 * l.val) / 64) + d.val by omega)))
    · exact congrArg k (congrArg (ix3 0 x) (Fin.ext (show 64 * (l.val / 64) + d.val = 64 * ((0 + 1 * l.val) / 64) + d.val by omega)))
    · exact congrArg v (congrArg (ix3 0 x) (Fin.ext (show l.val = 0 + 1 * l.val by omega)))

/-! ## The blocks -/

/-- Every window's block index at a point. -/
theorem idx : ∀ t : Fin cfg0.N, win0_0.index t = ![t.val / 2, 24 + t.val % 2] ∧ win0_1.index t = ![t.val / 2, 26 + t.val % 2]
    ∧ win0_2.index t = ![0, t.val / 2, t.val % 2] ∧ win0_3.index t = ![0, t.val / 2, t.val % 2]
    ∧ win0_4.index t = ![0, 0, 0] ∧ win0_5.index t = ![t.val / 2, t.val % 2] :=
  (by decide +kernel : ∀ t : Fin grid0.N, _)

theorem N_eq : cfg0.N = 16 := by decide

/-- The batch row and the pair of heads of a point. -/
def bat (t : Fin cfg0.N) : Fin 8 := ⟨t.val / 2, by have := t.isLt; have := N_eq; omega⟩
def pair (t : Fin cfg0.N) : Fin 2 := ⟨t.val % 2, by omega⟩

theorem q_at (c : Dev nD) (t : Fin cfg0.N) (r : Fin 2048) (l : Fin 128) :
    iblk m c 0 t (ix2 r l) = m ((c : Thread nD τ).loc main_arg0) (ix3 (bat t) r ⟨3072 + (128 * (pair t).val + l.val), by omega⟩) := by
  unfold bat pair
  blk_ext! [iblk, V, idx t]

theorem g_at (c : Dev nD) (t : Fin cfg0.N) (r : Fin 2048) (l : Fin 128) :
    iblk m c 1 t (ix2 r l) = m ((c : Thread nD τ).loc main_arg0) (ix3 (bat t) r ⟨3328 + (128 * (pair t).val + l.val), by omega⟩) := by
  unfold bat pair
  blk_ext! [iblk, V, idx t]

theorem k_at (c : Dev nD) (t : Fin cfg0.N) (x : Fin 256) (l : Fin 128) :
    iblk m c 2 t (ix3 0 x l) = m ((c : Thread nD τ).loc main_arg1) (ix3 0 ⟨256 * (bat t).val + x.val, by omega⟩ ⟨128 * (pair t).val + l.val, by omega⟩) := by
  unfold bat pair
  blk_ext! [iblk, V, idx t]

theorem v_at (c : Dev nD) (t : Fin cfg0.N) (x : Fin 256) (l : Fin 128) :
    iblk m c 3 t (ix3 0 x l) = m ((c : Thread nD τ).loc main_arg2) (ix3 0 ⟨256 * (bat t).val + x.val, by omega⟩ ⟨128 * (pair t).val + l.val, by omega⟩) := by
  unfold bat pair
  blk_ext! [iblk, V, idx t]

theorem a_emb (t : Fin cfg0.N) (l : Fin 128) : (win0_4.blk t).view.emb (ix3 0 0 l) = ix3 0 0 l := by
  blk_ext [idx t]

theorem a_at (c : Dev nD) (t : Fin cfg0.N) (l : Fin 128) :
    iblk m c 4 t (ix3 0 0 l) = m ((c : Thread nD τ).loc main_arg3) (ix2 0 ⟨l.val % 64, Nat.mod_lt _ (by decide)⟩) := by
  show V m c main_v3 ((win0_4.blk t).view.emb (ix3 0 0 l)) = _
  rw [a_emb]
  entry_read
  pointwise

theorem o_emb (t : Fin cfg0.N) (r : Fin 2048) (l : Fin 128) :
    (win0_5.blk t).view.emb (ix2 r l) = ix2 ⟨2048 * (bat t).val + r.val, by omega⟩ ⟨128 * (pair t).val + l.val, by omega⟩ := by
  unfold bat pair
  blk_ext [idx t]

/-- The result. -/
theorem o_final (c : Dev nD) : (dats m 0 c).arrAt 5 cfg0.N = res (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  blk_simp
  rw [after0_5, outsAt_eq, tiles_apply]
  obtain ⟨r, l, rfl⟩ : ∃ (r : Fin 2048) (l : Fin 128), y = ix2 r l := ⟨y 0, y 1, by funext a; fin_cases a <;> rfl⟩
  rw [o_emb]
  refine attn_congr (fun x => score_congr (fun d => ?_) (fun d => ?_) fun d => ?_) (fun x => ?_) ?_
  · refine (q_at m c t r ⟨64 * (l.val / 64) + d.val, by omega⟩).trans (congrArg _ (ix3_congr ?_ ?_ ?_))
    · exact Fin.ext (show (bat t).val = (2048 * (bat t).val + r.val) / 2048 by omega)
    · exact Fin.ext (show r.val = (2048 * (bat t).val + r.val) % 2048 by omega)
    · exact Fin.ext (show 3072 + (128 * (pair t).val + (64 * (l.val / 64) + d.val)) = 3072 + ((128 * (pair t).val + l.val) / 64 * 64 + d.val) by omega)
  · refine (a_at m c t ⟨64 * (l.val / 64) + d.val, by omega⟩).trans (congrArg _ (congrArg (ix2 0) (Fin.ext ?_)))
    show (64 * (l.val / 64) + d.val) % 64 = d.val
    omega
  · refine (k_at m c t x ⟨64 * (l.val / 64) + d.val, by omega⟩).trans (congrArg _ (ix3_congr rfl ?_ ?_))
    · exact Fin.ext (show 256 * (bat t).val + x.val = (2048 * (bat t).val + r.val) / 2048 * 256 + x.val by omega)
    · exact Fin.ext (show 128 * (pair t).val + (64 * (l.val / 64) + d.val) = (128 * (pair t).val + l.val) / 64 * 64 + d.val by omega)
  · refine (v_at m c t x l).trans (congrArg _ (ix3_congr rfl ?_ rfl))
    exact Fin.ext (show 256 * (bat t).val + x.val = (2048 * (bat t).val + r.val) / 2048 * 256 + x.val by omega)
  · refine (g_at m c t r l).trans (congrArg _ (ix3_congr ?_ ?_ rfl))
    · exact Fin.ext (show (bat t).val = (2048 * (bat t).val + r.val) / 2048 by omega)
    · exact Fin.ext (show r.val = (2048 * (bat t).val + r.val) % 2048 by omega)

end Cert.Blocks5

end
-- ==== Proof.Softmax.lean ====
/-
  The softmax, over the extended reals: where the scores are real, dividing each numerator before the product with the
  values gives what dividing the product gives. And the scores are real where the arguments are.
-/
module

public import proofs.«01_k».proof.Proof.Attention

@[expose] public section

set_option maxRecDepth 16384

noncomputable section

namespace Cert.Attention

open Idealize.ShloMosaic

theorem ofBits_bot : Ideal.ofBits .f32 0xFF800000#32 = (⊥ : EReal) := by
  simp [Ideal.ofBits, Ideal.ieee]

theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

/-! ## Real values -/

/-- A value that isn't infinite. -/
def Re (x : EReal) : Prop := ∃ r : ℝ, x = (r : EReal)

theorem Re.mul {x y : EReal} : Re x → Re y → Re (x * y)
  | ⟨r, hr⟩, ⟨s, hs⟩ => ⟨r * s, by rw [hr, hs, EReal.coe_mul]⟩

theorem Re.add {x y : EReal} : Re x → Re y → Re (x + y)
  | ⟨r, hr⟩, ⟨s, hs⟩ => ⟨r + s, by rw [hr, hs, EReal.coe_add]⟩

theorem Re.sum {ι : Type} (S : Finset ι) (f : ι → EReal) (h : ∀ i, Re (f i)) : Re (∑ i ∈ S, f i) := by
  classical
  induction S using Finset.induction_on with
  | empty => exact ⟨0, by simp⟩
  | insert a S ha ih => rw [Finset.sum_insert ha]; exact (h a).add ih

theorem Re.of_lt {x : EReal} (h : max x (-x) < ⊤) : Re x := by
  induction x with
  | bot => simp at h
  | top => simp at h
  | coe r => exact ⟨r, rfl⟩

/-- The mean square and the small constant under the root are real and positive. -/
theorem inv_real (Q : Fin 64 → EReal) (h : ∀ d, Re (Q d)) : Re (inv Q) := by
  obtain ⟨s, hs⟩ := Re.sum Finset.univ (fun d => Q d * Q d) fun d => (h d).mul (h d)
  have hs0 : 0 ≤ s := by
    have : (0 : EReal) ≤ ∑ d : Fin 64, Q d * Q d := Finset.sum_nonneg fun d _ => by
      obtain ⟨r, hr⟩ := h d
      rw [hr, ← EReal.coe_mul]
      exact EReal.coe_nonneg.mpr (mul_self_nonneg r)
    rw [hs] at this
    exact EReal.coe_nonneg.mp this
  obtain ⟨e, he, hb⟩ := ofBits_eps
  unfold inv
  rw [hs, ← Cert.Memory.mul_64th, Cert.Memory.ofBits_64th, hb, ← EReal.coe_mul, ← EReal.coe_add, Ideal.rsqrt_coe]
  have hp : 0 < s * (64 : ℝ)⁻¹ + e := by positivity
  rw [if_neg (not_lt.mpr hp.le), if_neg hp.ne']
  exact ⟨_, rfl⟩

theorem score_real (Q A K : Fin 64 → EReal) (hq : ∀ d, Re (Q d)) (ha : ∀ d, Re (A d)) (hk : ∀ d, Re (K d)) : Re (score Q A K) :=
  (Re.sum _ _ fun d => (((hq d).mul (inv_real Q hq)).mul (ha d)).mul (hk d)).mul ⟨_, ofBits_8th⟩

/-! ## The softmax -/

/-- The greatest score is some score. -/
theorem top_mem (s : Fin 256 → EReal) (h : ∀ x, Re (s x)) : ∃ x, s x = top s := by
  have hle : ∀ x, s x ≤ top s := fun x => (Finset.le_fold_max _).mpr (.inr ⟨x, Finset.mem_univ x, le_rfl⟩)
  rcases (Finset.le_fold_max (s := Finset.univ) (f := s) (b := Ideal.ofBits .f32 0xFF800000#32) (top s)).mp le_rfl with hb | ⟨x, _, hx⟩
  · obtain ⟨r, hr⟩ := h 0
    have := (hle 0).trans hb
    rw [hr, ofBits_bot] at this
    exact absurd (le_bot_iff.mp this) (EReal.coe_ne_bot r)
  · exact ⟨x, le_antisymm (hle x) hx⟩

theorem max_top (s : Fin 256 → EReal) : max (Ideal.ofBits .f32 0xFF800000#32) (top s) = top s := by
  rw [ofBits_bot]
  exact max_eq_right bot_le

/-- The numerators' sum is at least 1: the greatest score's own is 1. -/
theorem one_le_den (s : Fin 256 → EReal) (h : ∀ x, Re (s x)) : 1 ≤ ∑ x : Fin 256, num s x := by
  obtain ⟨x, hx⟩ := top_mem s h
  have h1 : num s x = 1 := by
    obtain ⟨r, hr⟩ := h x
    unfold num
    rw [← hx, hr, ← EReal.coe_sub, sub_self]
    show ((Real.exp 0 : ℝ) : EReal) = 1
    rw [Real.exp_zero, EReal.coe_one]
  calc (1 : EReal) = num s x := h1.symm
    _ ≤ ∑ x : Fin 256, num s x := Finset.single_le_sum (f := num s) (fun y _ => Cert.Value.exp_nonneg _) (Finset.mem_univ x)

theorem inv_of_one_le {D : EReal} (h : 1 ≤ D) : 0 ≤ D⁻¹ ∧ D⁻¹ ≠ ⊤ := by
  induction D with
  | bot => exact absurd h (not_le.mpr (EReal.bot_lt_coe 1))
  | top => simp
  | coe r =>
    rw [← EReal.coe_inv]
    refine ⟨EReal.coe_nonneg.mpr (inv_nonneg.mpr ?_), EReal.coe_ne_top _⟩
    have : (1 : ℝ) ≤ r := by exact_mod_cast h
    linarith

/-- Where the scores are real, the softmax may be formed before the product. -/
theorem soft_eq (s V : Fin 256 → EReal) (g : EReal) (h : ∀ x, Re (s x)) :
    (∑ x : Fin 256, Ideal.div (Ideal.exp (s x - max (Ideal.ofBits .f32 0xFF800000#32) (top s)))
        (∑ y : Fin 256, Ideal.exp (s y - max (Ideal.ofBits .f32 0xFF800000#32) (top s))) * V x) * (g * Ideal.div 1 (1 + Ideal.exp (-g)))
      = attn s V g := by
  unfold attn
  rw [max_top]
  have h1 := one_le_den s h
  obtain ⟨hi, hi'⟩ := inv_of_one_le h1
  have h0 : (∑ x : Fin 256, num s x) ≠ 0 := (lt_of_lt_of_le zero_lt_one h1).ne'
  refine congrArg (· * _) ?_
  show (∑ x : Fin 256, Ideal.div (num s x) (∑ y : Fin 256, num s y) * V x) = _
  unfold Ideal.div
  simp only [if_neg h0]
  rw [sum_mul_of_nonneg _ _ _ hi hi']
  refine Finset.sum_congr rfl fun x _ => ?_
  ac_rfl

end Cert.Attention

end
-- ==== Proof.Reference5.lean ====
/-
  The fifth reference's result is the specification's, where the projection, the keys and the norm's weight are finite.
-/
module

public import proofs.«01_k».proof.Proof.Softmax
public import proofs.«01_k».proof.Proof.Gen.Reference5Ideal.Run
public import Idealize.ShloMosaic.Lib.Pointwise

@[expose] public section

set_option maxRecDepth 16384

noncomputable section

namespace Cert.Reference5Ideal.Hand

open Cert.Reference5Ideal Cert.Reference5Ideal.Gen Cert.Reference5Ideal.Value Idealize.ShloMosaic Idealize.ShloMosaic.TcCoe Idealize.SL.Sem
open Cert.Attention (Re res sc gt vl top inv score attn soft_eq score_real)

/-! ## The steps -/

/-- The queries' heads. -/
def heads (p : FVec Ideal S8x2048x3584 .bf16) : FVec Ideal S8x4x2048x64 .f32 :=
  transpose S8x4x2048x64 [0, 2, 1, 3] (shapeCast S8x2048x4x64 (extf .f32 (extractStridedSlice S8x2048x256 ![0, 0, 3072] p
    slices_S8x2048x3584_S8x2048x256_0_0_3072) bitsLt_bf16_f32) shapeCasts_S8x2048x256_S8x2048x4x64) transposes_S8x2048x4x64_S8x4x2048x64_0_2_1_3

/-- The queries, normalised over each head. -/
def qn (q : FVec Ideal S8x4x2048x64 .f32) (a : FVec Ideal S4x64 .f32) : FVec Ideal S8x4x2048x64 .f32 :=
  mulf (mulf q (broadcastInDim S8x4x2048x64 ![0, 1, 2, 3] bcast_S8x4x2048x1_S8x4x2048x64_0_1_2_3
      (Host.rsqrt (addf (Host.divf
          (broadcastInDim S8x4x2048x1 ![0, 1, 2] bcast_S8x4x2048_S8x4x2048x1_0_1_2
            (Host.reduceAdd (mulf q q) (constant S_ .f32 0x00000000#32) reducesTo_S8x4x2048x64_S8x4x2048_d3 h_S_))
          (broadcastInDim S8x4x2048x1 ![] bcast_S_S8x4x2048x1 (constant S_ .f32 0x42800000#32)))
        (broadcastInDim S8x4x2048x1 ![] bcast_S_S8x4x2048x1 (constant S_ .f32 0x358637BD#32))))))
    (broadcastInDim S8x4x2048x64 ![0, 1, 2, 3] bcast_S1x1x1x64_S8x4x2048x64_0_1_2_3 (broadcastInDim S1x1x1x64 ![3] bcast_S64_S1x1x1x64_3
      (shapeCast S64 (extractStridedSlice S1x64 ![0, 0] a slices_S4x64_S1x64_0_0) shapeCasts_S1x64_S64)))

/-- The heads of the keys, and of the values. -/
def mem (k : FVec Ideal S4x2048x256 .bf16) : FVec Ideal S8x4x256x64 .f32 :=
  transpose S8x4x256x64 [0, 2, 1, 3] (shapeCast S8x256x4x64 (extf .f32 (shapeCast S2048x256 (extractStridedSlice S1x2048x256 ![0, 0, 0] k
    slices_S4x2048x256_S1x2048x256_0_0_0) shapeCasts_S1x2048x256_S2048x256) bitsLt_bf16_f32) shapeCasts_S2048x256_S8x256x4x64)
    transposes_S8x256x4x64_S8x4x256x64_0_2_1_3

/-- The scores. -/
def scores (q : FVec Ideal S8x4x2048x64 .f32) (k : FVec Ideal S8x4x256x64 .f32) : FVec Ideal S8x4x2048x256 .f32 :=
  mulf (Host.dotGeneral dot_S8x4x2048x64_S8x4x256x64_S8x4x2048x256_3_3_2_2_01_01 none q k)
    (broadcastInDim S8x4x2048x256 ![] bcast_S_S8x4x2048x256 (constant S_ .f32 0x3E000000#32))

/-- A row's greatest score. -/
def great (s : FVec Ideal S8x4x2048x256 .f32) : FVec Ideal S8x4x2048 .f32 :=
  Host.reduce FloatOps.maximumf s (constant S_ .f32 0xFF800000#32) reducesTo_S8x4x2048x256_S8x4x2048_d3 h_S_

/-- A value of a row, repeated along the row, where it isn't below the least. -/
def along (m : FVec Ideal S8x4x2048 .f32) : FVec Ideal S8x4x2048x256 .f32 :=
  broadcastInDim S8x4x2048x256 ![0, 1, 2, 3] bcast_S8x4x2048x1_S8x4x2048x256_0_1_2_3
    (broadcastInDim S8x4x2048x1 ![0, 1, 2] bcast_S8x4x2048_S8x4x2048x1_0_1_2 (maximumf
      (broadcastInDim S8x4x2048 ![] bcast_S_S8x4x2048 (constant S_ .f32 0xFF800000#32)) m))

/-- The softmax's numerators. -/
def nums (s : FVec Ideal S8x4x2048x256 .f32) : FVec Ideal S8x4x2048x256 .f32 := Host.exp (subf s (along (great s)))

/-- The softmax. -/
def soft (e : FVec Ideal S8x4x2048x256 .f32) : FVec Ideal S8x4x2048x256 .f32 :=
  Host.divf e (broadcastInDim S8x4x2048x256 ![0, 1, 2, 3] bcast_S8x4x2048x1_S8x4x2048x256_0_1_2_3
    (broadcastInDim S8x4x2048x1 ![0, 1, 2] bcast_S8x4x2048_S8x4x2048x1_0_1_2
      (Host.reduceAdd e (constant S_ .f32 0x00000000#32) reducesTo_S8x4x2048x256_S8x4x2048_d3 h_S_)))

/-- The weighted values. -/
def mix (w : FVec Ideal S8x4x2048x256 .f32) (v : FVec Ideal S8x4x256x64 .f32) : FVec Ideal S8x4x2048x64 .f32 :=
  Host.dotGeneral dot_S8x4x2048x256_S8x4x256x64_S8x4x2048x64_3_2_2_3_01_01 none w v

/-- The heads side by side, gated. -/
def gated (o : FVec Ideal S8x4x2048x64 .f32) (p : FVec Ideal S8x2048x3584 .bf16) : FVec Ideal S16384x256 .bf16 :=
  truncf .bf16 (shapeCast S16384x256 (mulf
    (shapeCast S8x2048x256 (transpose S8x2048x4x64 [0, 2, 1, 3] o transposes_S8x4x2048x64_S8x2048x4x64_0_2_1_3) shapeCasts_S8x2048x4x64_S8x2048x256)
    (mulf (extf .f32 (extractStridedSlice S8x2048x256 ![0, 0, 3328] p slices_S8x2048x3584_S8x2048x256_0_0_3328) bitsLt_bf16_f32)
      (Host.divf (broadcastInDim S8x2048x256 ![] bcast_S_S8x2048x256 (constant S_ .f32 0x3F800000#32))
        (addf (broadcastInDim S8x2048x256 ![] bcast_S_S8x2048x256 (constant S_ .f32 0x3F800000#32))
          (Host.exp (Host.negf (extf .f32 (extractStridedSlice S8x2048x256 ![0, 0, 3328] p slices_S8x2048x3584_S8x2048x256_0_0_3328) bitsLt_bf16_f32)))))))
    shapeCasts_S8x2048x256_S16384x256) bitsLt_bf16_f32

/-! ## Each at an index -/

theorem heads_apply (p : FVec Ideal S8x2048x3584 .bf16) (b : Fin 8) (h : Fin 4) (s : Fin 2048) (d : Fin 64) :
    heads p (ix4 b h s d) = p (ix3 b s ⟨3072 + (h.val * 64 + d.val), by omega⟩) := by
  pointwise [heads]

theorem qn_apply (q : FVec Ideal S8x4x2048x64 .f32) (a : FVec Ideal S4x64 .f32) (b : Fin 8) (h : Fin 4) (s : Fin 2048) (d : Fin 64) :
    qn q a (ix4 b h s d) = q (ix4 b h s d) * Cert.Attention.inv (fun d => q (ix4 b h s d)) * a (ix2 0 d) := by
  unfold Cert.Attention.inv
  pointwise [qn]

theorem mem_apply (k : FVec Ideal S4x2048x256 .bf16) (b : Fin 8) (h : Fin 4) (x : Fin 256) (d : Fin 64) :
    mem k (ix4 b h x d) = k (ix3 0 ⟨b.val * 256 + x.val, by omega⟩ ⟨h.val * 64 + d.val, by omega⟩) := by
  pointwise [mem]

theorem scores_apply (q : FVec Ideal S8x4x2048x64 .f32) (k : FVec Ideal S8x4x256x64 .f32) (b : Fin 8) (h : Fin 4) (s : Fin 2048) (x : Fin 256) :
    scores q k (ix4 b h s x) = (∑ d : Fin 64, q (ix4 b h s d) * k (ix4 b h x d)) * Ideal.ofBits .f32 0x3E000000#32 := by
  pointwise [scores]

theorem great_apply (s : FVec Ideal S8x4x2048x256 .f32) (b : Fin 8) (h : Fin 4) (r : Fin 2048) :
    great s (ix3 b h r) = top fun x => s (ix4 b h r x) := by
  pointwise [great]
  rfl

theorem along_apply (s : FVec Ideal S8x4x2048x256 .f32) (m : FVec Ideal S8x4x2048 .f32) (b : Fin 8) (h : Fin 4) (r : Fin 2048) (x : Fin 256) :
    Host.exp (subf s (along m)) (ix4 b h r x) = Ideal.exp (s (ix4 b h r x) - max (Ideal.ofBits .f32 0xFF800000#32) (m (ix3 b h r))) := by
  pointwise [along]

theorem nums_apply (s : FVec Ideal S8x4x2048x256 .f32) (b : Fin 8) (h : Fin 4) (r : Fin 2048) (x : Fin 256) :
    nums s (ix4 b h r x) = Ideal.exp (s (ix4 b h r x) - max (Ideal.ofBits .f32 0xFF800000#32) (top fun x => s (ix4 b h r x))) := by
  rw [← great_apply]
  exact along_apply s (great s) b h r x

theorem soft_apply (e : FVec Ideal S8x4x2048x256 .f32) (b : Fin 8) (h : Fin 4) (r : Fin 2048) (x : Fin 256) :
    soft e (ix4 b h r x) = Ideal.div (e (ix4 b h r x)) (∑ y : Fin 256, e (ix4 b h r y)) := by
  pointwise [soft]

theorem mix_apply (w : FVec Ideal S8x4x2048x256 .f32) (v : FVec Ideal S8x4x256x64 .f32) (b : Fin 8) (h : Fin 4) (r : Fin 2048) (d : Fin 64) :
    mix w v (ix4 b h r d) = ∑ x : Fin 256, w (ix4 b h r x) * v (ix4 b h x d) := by
  pointwise [mix]

theorem gated_apply (o : FVec Ideal S8x4x2048x64 .f32) (p : FVec Ideal S8x2048x3584 .bf16) (r : Fin 16384) (j : Fin 256) :
    gated o p (ix2 r j) = o (ix4 ⟨r.val / 2048, by omega⟩ ⟨j.val / 64, by omega⟩ ⟨r.val % 2048, by omega⟩ ⟨j.val % 64, by omega⟩)
      * (gt p r j * Ideal.div 1 (1 + Ideal.exp (-gt p r j))) := by
  unfold gt
  pointwise [gated]

section
variable (p : FVec Ideal S8x2048x3584 .bf16) (mk mv : FVec Ideal S4x2048x256 .bf16) (a : FVec Ideal S4x64 .f32)

/-- The steps in turn. -/
def all : FVec Ideal S16384x256 .bf16 := gated (mix (soft (nums (scores (qn (heads p) a) (mem mk)))) (mem mv)) p

theorem sc_apply (r : Fin 16384) (j x : Fin 256) :
    scores (qn (heads p) a) (mem mk) (ix4 ⟨r.val / 2048, by omega⟩ ⟨j.val / 64, by omega⟩ ⟨r.val % 2048, by omega⟩ x) = sc p mk a r j x := by
  rw [scores_apply]
  simp only [qn_apply, heads_apply, mem_apply]
  rfl

/-- Where the projection, the keys and the norm's weight are finite, the steps give the specification's result. -/
theorem all_eq (hp : ∀ i, Re (p i)) (hk : ∀ i, Re (mk i)) (ha : ∀ i, Re (a i)) : all p mk mv a = res p mk mv a := by
  funext i
  obtain ⟨r, j, rfl⟩ : ∃ (r : Fin 16384) (j : Fin 256), i = ix2 r j := ⟨i 0, i 1, by funext a; fin_cases a <;> rfl⟩
  have hv : ∀ x : Fin 256, mem mv (ix4 ⟨r.val / 2048, by omega⟩ ⟨j.val / 64, by omega⟩ x ⟨j.val % 64, by omega⟩) = vl mv r j x := fun x => by
    rw [mem_apply]
    exact congrArg mv (congrArg (ix3 0 _) (Fin.ext (show j.val / 64 * 64 + j.val % 64 = j.val by omega)))
  unfold all
  rw [gated_apply, mix_apply]
  simp only [soft_apply, nums_apply, sc_apply, hv]
  exact soft_eq (sc p mk a r j) (vl mv r j) (gt p r j) fun x => score_real _ _ _ (fun d => hp _) (fun d => ha _) fun d => hk _
end

/-- The reference's run, its result named. -/
theorem run_named (m : (ℓ : Loc nD τ sig) → Buf (Elt Ideal) ℓ) (ρ : Dev nD → PrngReg)
    (hp : ∀ c : Dev nD, ∀ i, Re ((m ((c.tc : Thread nD τ).loc main_arg0) : FVec Ideal S8x2048x3584 .bf16) i))
    (hk : ∀ c : Dev nD, ∀ i, Re ((m ((c.tc : Thread nD τ).loc main_arg1) : FVec Ideal S4x2048x256 .bf16) i))
    (ha : ∀ c : Dev nD, ∀ i, Re ((m ((c.tc : Thread nD τ).loc main_arg3) : FVec Ideal S4x64 .f32) i)) :
    θ_run defs (onTc (τ := τ) (main (F := Ideal))) ⟨m, fun _ => 0, ρ⟩ fun r => ∀ c : Dev nD,
      r.2.mem ((c.tc : Thread nD τ).loc main_v51) = res (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (all_eq _ _ _ _ (hp c) (hk c) (ha c)), (h c).2⟩) (run m ρ)

end Cert.Reference5Ideal.Hand

end
-- ==== Proof.Finite.lean ====
/-
  The fifth call's precondition, read: every element of the projection, of the keys and of the query norm's weight is real.
-/
module

public import proofs.«01_k».proof.Pre_finite
public import proofs.«01_k».proof.Proof.Softmax
public import Idealize.ShloMosaic.Lib.ReduceAll
public import Idealize.ShloMosaic.Lib.Pointwise

@[expose] public section

set_option maxRecDepth 16384

noncomputable section

namespace Cert.Finite

open Cert.Pre_finite Idealize.ShloMosaic
open Cert.Attention (Re)

/-- The predicate's side conditions. -/
instance facts : Cert.Pre_finite.Facts where
  bitsLt_bf16_f32 := by decide
  bcast_S_S8x2048x3584 := by decide
  reducesTo_S8x2048x3584_S_d0_1_2 := by decide
  h_S_ := by decide
  bcast_S_S4x2048x256 := by decide
  reducesTo_S4x2048x256_S_d0_1_2 := by decide
  bcast_S_S4x64 := by decide
  reducesTo_S4x64_S_d0_1 := by decide

/-- The scalar's one index. -/
instance one : Subsingleton S_.Idx := ⟨fun i j => funext fun a => a.elim0⟩

/-- The word of the infinity is the top. -/
theorem inf_eq : Ideal.ofBits .f32 0x7F800000#32 = ⊤ := by simp [Ideal.ofBits, Ideal.ieee]

/-- An element whose magnitude compares below the infinity is real. -/
theorem re_of_cmp {x : EReal} (h : Ideal.cmp .olt (max x (-x)) (Ideal.ofBits .f32 0x7F800000#32) = 1#1) : Re x :=
  Re.of_lt (by rw [← inf_eq]; exact (Ideal.cmp_olt_eq_one _ _).1 h)

/-- Where the predicate holds, its arguments but the values are real. -/
theorem real {p : FVec Ideal S8x2048x3584 .bf16} {mk mv : FVec Ideal S4x2048x256 .bf16} {a : FVec Ideal S4x64 .f32}
    (h : Cert.Pre_finite.fn (F := Ideal) p mk mv a = fun _ => 1#1) : (∀ i, Re (p i)) ∧ (∀ i, Re (mk i)) ∧ ∀ i, Re (a i) := by
  have e := congrFun h (fun a => a.elim0)
  obtain ⟨e₁, ea⟩ := IntOp.andi_eq_one.1 e
  obtain ⟨ep, ek⟩ := IntOp.andi_eq_one.1 e₁
  exact ⟨fun i => re_of_cmp (Host.reduce_andi_all _ _ _ _ _ ep i), fun i => re_of_cmp (Host.reduce_andi_all _ _ _ _ _ ek i),
    fun i => re_of_cmp (Host.reduce_andi_all _ _ _ _ _ ea i)⟩

end Cert.Finite

end
-- ==== Proof.lean ====
/-
  The five calls against their references. For each, the frames of the printed kernel and of its idealization are one run,
  written over any float values. The last layer's output projection: the run is Proof/Launch.lean's `run_main`, the
  reference's Proof/Reference.lean's, and the results are equal over the extended reals by Proof/Value.lean. The output
  projection with the next layer's input projection: both results are Proof/Spec.lean's, the kernel's by Proof/Arrays.lean,
  the reference's by Proof/Reference2.lean. The first layer's input projection: likewise, by Proof/Blocks3.lean and
  Proof/Reference3.lean. The memory's keys and values: both results are Proof/Memory.lean's, by Proof/Blocks4.lean and
  Proof/Reference4.lean. The memory cross-attention: both results are Proof/Attention.lean's, the kernel's by
  Proof/Blocks5.lean, the reference's by Proof/Reference5.lean where the arguments are finite, which Proof/Finite.lean reads
  from the precondition.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal.Value
public import proofs.«01_k».proof.Proof.Gen.Kernel2Ideal.Frame
public import proofs.«01_k».proof.Proof.Gen.Reference2Ideal.Run
public import proofs.«01_k».proof.Proof.Gen.Kernel3
public import proofs.«01_k».proof.Proof.Gen.Kernel3Ideal.Value
public import proofs.«01_k».proof.Proof.Gen.Kernel3Ideal.Frame
public import proofs.«01_k».proof.Proof.Gen.Reference3Ideal.Run
public import proofs.«01_k».proof.Proof.Gen.Kernel4
public import proofs.«01_k».proof.Proof.Gen.Kernel4Ideal.Value
public import proofs.«01_k».proof.Proof.Gen.Kernel4Ideal.Frame
public import proofs.«01_k».proof.Proof.Gen.Reference4Ideal.Run
public import proofs.«01_k».proof.Proof.Gen.Kernel5
public import proofs.«01_k».proof.Proof.Gen.Kernel5Ideal.Value
public import proofs.«01_k».proof.Proof.Gen.Kernel5Ideal.Frame
public import proofs.«01_k».proof.Proof.Gen.Reference5Ideal.Run
public import proofs.«01_k».proof.Proof.Launch
public import proofs.«01_k».proof.Proof.Reference
public import proofs.«01_k».proof.Proof.Value
public import proofs.«01_k».proof.Proof.Arrays
public import proofs.«01_k».proof.Proof.Reference2
public import proofs.«01_k».proof.Proof.Blocks3
public import proofs.«01_k».proof.Proof.Reference3
public import proofs.«01_k».proof.Proof.Blocks4
public import proofs.«01_k».proof.Proof.Reference4
public import proofs.«01_k».proof.Proof.Blocks5
public import proofs.«01_k».proof.Proof.Reference5
public import proofs.«01_k».proof.Proof.Finite

@[expose] public section

set_option maxRecDepth 16384

noncomputable section

namespace Cert.Proof

open Idealize.ShloMosaic Idealize.ShloMosaic.TcCoe Idealize.SL.Sem

theorem frame_kernel : Cert.quiescent_Kernel := fun m ρ _ =>
  (θ_run Cert.KernelIdeal.defs _ _).mono (fun _ h => ⟨fun c => (h.1 c).2, h.2⟩) (Cert.KernelIdeal.Hand.run_main (F := Bits) m ρ)

theorem frame_ideal : Cert.quiescent_KernelIdeal := fun m ρ _ =>
  (θ_run Cert.KernelIdeal.defs _ _).mono (fun _ h => ⟨fun c => (h.1 c).2, h.2⟩) (Cert.KernelIdeal.Hand.run_main (F := Ideal) m ρ)

theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Hand.run (F := Ideal) m ρ)

/-- The arrays as the pipeline finds them are the arguments flattened: what it leaves is the reference's result. -/
theorem result_eq (m : (ℓ : Loc Cert.KernelIdeal.nD Cert.KernelIdeal.τ Cert.KernelIdeal.sig) → Buf (Elt Ideal) ℓ) (c : Dev Cert.KernelIdeal.nD) :
    Cert.KernelIdeal.Hand.outFin (Cert.KernelIdeal.Hand.arrs m c)
      = Cert.ReferenceIdeal.Hand.refOut (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) :=
  (congrArg Cert.KernelIdeal.Hand.outFin (by unfold Cert.KernelIdeal.Hand.arrs; rfl)).trans (Cert.Value.outFin_eq (c := c) _ _ _ _ _ _)

theorem algebraic : Cert.algebraic_KernelIdeal_ReferenceIdeal := fun m g m' g' _ hargs =>
  ⟨fun c => Cert.KernelIdeal.Hand.outFin (Cert.KernelIdeal.Hand.arrs m c),
    (θ_run Cert.KernelIdeal.defs _ _).mono (fun _ h c => h.1 c) (Cert.KernelIdeal.Hand.run_main (F := Ideal) m g),
    (θ_run Cert.ReferenceIdeal.defs _ _).mono (fun r h c => by
      obtain ⟨h0, h1, h2, h3, h4, h5⟩ := hargs c
      exact ⟨(h c).1.trans ((congr (congr (congr (congr (congr (congrArg (Cert.ReferenceIdeal.Hand.refOut (F := Ideal)) h0) h1) h2) h3) h4) h5).trans
        (result_eq m c).symm), (h c).2⟩)
      (Cert.ReferenceIdeal.Hand.run (F := Ideal) m' g')⟩

/-! ## The output projection with the next layer's input projection -/

/-- The kernel's body table is its idealization's: each label runs the same function. -/
theorem bodies_eq {F : FTy → Type} [FloatOps F] : Cert.Kernel2.defs₀ (F := F) = Cert.Kernel2Ideal.defs₀ (F := F) :=
  congrArg Defs.onTc (funext fun l => funext fun a => by
    match l, a with
    | 0, (t, s) => rfl
    | ⟨n + 1, h⟩, _ => exact absurd h (Nat.not_lt.2 (Nat.le_add_left _ _)))

theorem defs_eq {F : FTy → Type} [FloatOps F] : Cert.Kernel2.defs (F := F) = Cert.Kernel2Ideal.defs (F := F) :=
  congrArg (Pipeline.defs Cert.Kernel2Ideal.pcfgs) bodies_eq

theorem frame_kernel2 : Cert.quiescent_Kernel2 := fun m ρ _ => by
  rw [defs_eq]
  exact Cert.Kernel2Ideal.Gen.frame (F := Bits) m ρ

theorem frame_ideal2 : Cert.quiescent_Kernel2Ideal := fun m ρ _ => Cert.Kernel2Ideal.Gen.frame (F := Ideal) m ρ

theorem frame_ref2 : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Value.run (F := Ideal) m ρ)

theorem algebraic2 : Cert.algebraic_Kernel2Ideal_Reference2Ideal := fun m g m' g' _ hargs =>
  ⟨fun c => (Cert.Kernel2Ideal.Gen.dats m 0 c).arrAt 9 Cert.Kernel2Ideal.cfg0.N,
    fun c => (Cert.Kernel2Ideal.Gen.dats m 0 c).arrAt 10 Cert.Kernel2Ideal.cfg0.N,
    Cert.Kernel2Ideal.Value.run_blocks (F := Ideal) m g,
    (θ_run Cert.Reference2Ideal.defs _ _).mono (fun r h c => by
      obtain ⟨h0, h1, h2, h3, h4, h5, h6, h7, h8, h9⟩ := hargs c
      refine ⟨(h c).1.trans ?_, (h c).2.1.trans ?_, (h c).2.2⟩
      · refine (Cert.Reference2Ideal.Hand.rows_flat _ _ _ _ _ _).trans (Eq.trans ?_ (Cert.Blocks.x_final m c).symm)
        exact congr (congr (congr (congr (congr (congrArg Cert.Spec.X h0) h1) h2) h3) h4) h5
      · refine (Cert.Reference2Ideal.Hand.res_eq m' c).trans ((Cert.Reference2Ideal.Hand.join_flat _ _ _ _ _ _ _ _ _ _).trans
          (Eq.trans ?_ (Cert.Blocks.p_final m c).symm))
        exact congr (congr (congr (congr (congr (congr (congr (congr (congr (congrArg Cert.Spec.P h0) h1) h2) h3) h4) h5) h6) h7) h8) h9)
      (Cert.Reference2Ideal.Value.run (F := Ideal) m' g')⟩

/-! ## The first layer's input projection -/

/-- The kernel's body table is its idealization's. -/
theorem bodies_eq3 {F : FTy → Type} [FloatOps F] : Cert.Kernel3.defs₀ (F := F) = Cert.Kernel3Ideal.defs₀ (F := F) :=
  congrArg Defs.onTc (funext fun l => funext fun a => by
    match l, a with
    | 0, (t, s) => rfl
    | ⟨n + 1, h⟩, _ => exact absurd h (Nat.not_lt.2 (Nat.le_add_left _ _)))

theorem defs_eq3 {F : FTy → Type} [FloatOps F] : Cert.Kernel3.defs (F := F) = Cert.Kernel3Ideal.defs (F := F) :=
  congrArg (Pipeline.defs Cert.Kernel3Ideal.pcfgs) bodies_eq3

theorem frame_kernel3 : Cert.quiescent_Kernel3 := fun m ρ _ => by
  rw [defs_eq3]
  exact Cert.Kernel3Ideal.Gen.frame (F := Bits) m ρ

theorem frame_ideal3 : Cert.quiescent_Kernel3Ideal := fun m ρ _ => Cert.Kernel3Ideal.Gen.frame (F := Ideal) m ρ

theorem frame_ref3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem algebraic3 : Cert.algebraic_Kernel3Ideal_Reference3Ideal := fun m g m' g' _ hargs =>
  ⟨fun c => (Cert.Kernel3Ideal.Gen.dats m 0 c).arrAt 4 Cert.Kernel3Ideal.cfg0.N,
    Cert.Kernel3Ideal.Value.run_blocks (F := Ideal) m g,
    (θ_run Cert.Reference3Ideal.defs _ _).mono (fun r h c => by
      obtain ⟨h0, h1, h2, h3, h4⟩ := hargs c
      refine ⟨(h c).1.trans ?_, (h c).2⟩
      refine (Cert.Reference3Ideal.Hand.res_eq m' c).trans ((Cert.Reference3Ideal.Hand.join_flat _ _ _ _ _).trans
        (Eq.trans ?_ (Cert.Blocks3.p_final m c).symm))
      exact congr (congr (congr (congr (congrArg Cert.Spec.P₀ h0) h1) h2) h3) h4)
      (Cert.Reference3Ideal.Value.run (F := Ideal) m' g')⟩

/-! ## The memory's keys and values -/

/-- The kernel's body table is its idealization's. -/
theorem bodies_eq4 {F : FTy → Type} [FloatOps F] : Cert.Kernel4.defs₀ (F := F) = Cert.Kernel4Ideal.defs₀ (F := F) :=
  congrArg Defs.onTc (funext fun l => funext fun a => by
    match l, a with
    | 0, (t, s) => rfl
    | ⟨n + 1, h⟩, _ => exact absurd h (Nat.not_lt.2 (Nat.le_add_left _ _)))

theorem defs_eq4 {F : FTy → Type} [FloatOps F] : Cert.Kernel4.defs (F := F) = Cert.Kernel4Ideal.defs (F := F) :=
  congrArg (Pipeline.defs Cert.Kernel4Ideal.pcfgs) bodies_eq4

theorem frame_kernel4 : Cert.quiescent_Kernel4 := fun m ρ _ => by
  rw [defs_eq4]
  exact Cert.Kernel4Ideal.Gen.frame (F := Bits) m ρ

theorem frame_ideal4 : Cert.quiescent_Kernel4Ideal := fun m ρ _ => Cert.Kernel4Ideal.Gen.frame (F := Ideal) m ρ

theorem frame_ref4 : Cert.quiescent_Reference4Ideal := fun m ρ _ =>
  (θ_run Cert.Reference4Ideal.defs _ _).mono (fun r h => ⟨fun c => (h c).2.2, Idealize.ShloMosaic.sem_eq_zero_of_no_sems (by decide) r.2⟩)
    (Cert.Reference4Ideal.Hand.run_named m ρ)

theorem algebraic4 : Cert.algebraic_Kernel4Ideal_Reference4Ideal := fun m g m' g' _ hargs =>
  ⟨fun c => (Cert.Kernel4Ideal.Gen.dats m 0 c).arrAt 4 Cert.Kernel4Ideal.cfg0.N,
    fun c => (Cert.Kernel4Ideal.Gen.dats m 0 c).arrAt 5 Cert.Kernel4Ideal.cfg0.N,
    Cert.Kernel4Ideal.Value.run_blocks (F := Ideal) m g,
    (θ_run Cert.Reference4Ideal.defs _ _).mono (fun r h c => by
      obtain ⟨h0, h1, h2, h3⟩ := hargs c
      refine ⟨(h c).1.trans (Eq.trans ?_ (Cert.Blocks4.k_final m c).symm), (h c).2.1.trans (Eq.trans ?_ (Cert.Blocks4.v_final m c).symm), (h c).2.2⟩
      · exact congr (congr (congr (congrArg Cert.Memory.K h0) h1) h2) h3
      · exact congr (congr (congrArg Cert.Memory.V h0) h1) h2)
      (Cert.Reference4Ideal.Hand.run_named m' g')⟩

/-! ## The memory cross-attention -/

/-- The kernel's body table is its idealization's. -/
theorem bodies_eq5 {F : FTy → Type} [FloatOps F] : Cert.Kernel5.defs₀ (F := F) = Cert.Kernel5Ideal.defs₀ (F := F) :=
  congrArg Defs.onTc (funext fun l => funext fun a => by
    match l, a with
    | 0, (t, s) => rfl
    | ⟨n + 1, h⟩, _ => exact absurd h (Nat.not_lt.2 (Nat.le_add_left _ _)))

theorem defs_eq5 {F : FTy → Type} [FloatOps F] : Cert.Kernel5.defs (F := F) = Cert.Kernel5Ideal.defs (F := F) :=
  congrArg (Pipeline.defs Cert.Kernel5Ideal.pcfgs) bodies_eq5

theorem frame_kernel5 : Cert.quiescent_Kernel5 := fun m ρ _ => by
  rw [defs_eq5]
  exact Cert.Kernel5Ideal.Gen.frame (F := Bits) m ρ

theorem frame_ideal5 : Cert.quiescent_Kernel5Ideal := fun m ρ _ => Cert.Kernel5Ideal.Gen.frame (F := Ideal) m ρ

theorem frame_ideal5_finite : Cert.quiescent_Kernel5Ideal_pre_finite := fun m ρ _ => Cert.Kernel5Ideal.Gen.frame (F := Ideal) m ρ

theorem frame_ref5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem frame_ref5_finite : Cert.quiescent_Reference5Ideal_pre_finite := fun m ρ _ => frame_ref5 m ρ trivial

theorem algebraic5 : Cert.algebraic_Kernel5Ideal_Reference5Ideal_pre_finite := fun m g m' g' hpre hargs =>
  ⟨fun c => (Cert.Kernel5Ideal.Gen.dats m 0 c).arrAt 5 Cert.Kernel5Ideal.cfg0.N,
    Cert.Kernel5Ideal.Value.run_blocks (F := Ideal) m g,
    (θ_run Cert.Reference5Ideal.defs _ _).mono (fun r h c => by
      obtain ⟨h0, h1, h2, h3⟩ := hargs c
      refine ⟨(h c).1.trans (Eq.trans ?_ (Cert.Blocks5.o_final m c).symm), (h c).2⟩
      exact congr (congr (congr (congrArg Cert.Attention.res h0) h1) h2) h3)
      (Cert.Reference5Ideal.Hand.run_named m' g'
        (fun c i => by have e := (hargs c).1; rw [e]; exact (Cert.Finite.real (hpre c)).1 i)
        (fun c i => by have e := (hargs c).2.1; rw [e]; exact (Cert.Finite.real (hpre c)).2.1 i)
        (fun c i => by have e := (hargs c).2.2.2; rw [e]; exact (Cert.Finite.real (hpre c)).2.2 i))⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts,
    Cert.Reference5Ideal.Gen.facts, Cert.Finite.facts, frame_kernel, frame_ideal, frame_ref, frame_kernel2, frame_ideal2, frame_ref2,
    frame_kernel3, frame_ideal3, frame_ref3, frame_kernel4, frame_ideal4, frame_ref4, frame_kernel5, frame_ideal5, frame_ideal5_finite,
    frame_ref5, frame_ref5_finite, trivial, algebraic, trivial, algebraic2, trivial, algebraic3, trivial, algebraic4, trivial, algebraic5⟩

end Cert.Proof

end
